-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_finite [hPre_attention_finite : Cert.Pre_attention_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 = (fun _ => 1#1)
    ∧ (Cert.Pre_attention_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_finite [hPre_attention_finite : Cert.Pre_attention_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.1 = (fun _ => 1#1)
    ∧ (Cert.Pre_attention_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_attention_finite [hKernelIdeal : Cert.KernelIdeal.Facts] [hPre_attention_finite : Cert.Pre_attention_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_attention_finite [hReferenceIdeal : Cert.ReferenceIdeal.Facts] [hPre_attention_finite : Cert.Pre_attention_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "sqrt2" .f32 0x3FB504F3#32 ((16777216 / 11863283 : ℝ) : EReal)

def algebraic_KernelIdeal_ReferenceIdeal_pre_attention_finite [hKernelIdeal : Cert.KernelIdeal.Facts] [hReferenceIdeal : Cert.ReferenceIdeal.Facts] [hPre_attention_finite : Cert.Pre_attention_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v314) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_attention_finite : Cert.Pre_attention_finite.Facts),
    quiescent_Kernel (hKernel := hKernel)
    ∧ quiescent_KernelIdeal (hKernelIdeal := hKernelIdeal)
    ∧ quiescent_KernelIdeal_pre_attention_finite (hKernelIdeal := hKernelIdeal) (hPre_attention_finite := hPre_attention_finite)
    ∧ quiescent_ReferenceIdeal (hReferenceIdeal := hReferenceIdeal)
    ∧ quiescent_ReferenceIdeal_pre_attention_finite (hReferenceIdeal := hReferenceIdeal) (hPre_attention_finite := hPre_attention_finite)
    ∧ preserves_Kernel_KernelIdeal
    ∧ algebraic_KernelIdeal_ReferenceIdeal_pre_attention_finite (hKernelIdeal := hKernelIdeal) (hReferenceIdeal := hReferenceIdeal) (hPre_attention_finite := hPre_attention_finite)
-- ==== Pre_attention_finite.lean ====
abbrev S16x3x224x224 : Shape := ⟨4, ![16, 3, 224, 224]⟩
abbrev S768x3x16x16 : Shape := ⟨4, ![768, 3, 16, 16]⟩
abbrev S768 : Shape := ⟨1, ![768]⟩
abbrev S1x196x768 : Shape := ⟨3, ![1, 196, 768]⟩
abbrev S2304x768 : Shape := ⟨2, ![2304, 768]⟩
abbrev S2304 : Shape := ⟨1, ![2304]⟩
abbrev S768x768 : Shape := ⟨2, ![768, 768]⟩
abbrev S6x768 : Shape := ⟨2, ![6, 768]⟩
abbrev S6 : Shape := ⟨1, ![6]⟩
abbrev S6x3072x768 : Shape := ⟨3, ![6, 3072, 768]⟩
abbrev S6x3072 : Shape := ⟨2, ![6, 3072]⟩
abbrev S6x768x3072 : Shape := ⟨3, ![6, 768, 3072]⟩
abbrev S1000x768 : Shape := ⟨2, ![1000, 768]⟩
abbrev S1000 : Shape := ⟨1, ![1000]⟩
abbrev S_ : Shape := ⟨0, ![]⟩

class Facts : Prop where
  bcast_S_S16x3x224x224 : S_.BroadcastsInDim S16x3x224x224 (![] : Fin 0 → Fin S16x3x224x224.rank)
  bcast_S_S768x3x16x16 : S_.BroadcastsInDim S768x3x16x16 (![] : Fin 0 → Fin S768x3x16x16.rank)
  bcast_S_S768 : S_.BroadcastsInDim S768 (![] : Fin 0 → Fin S768.rank)
  bcast_S_S1x196x768 : S_.BroadcastsInDim S1x196x768 (![] : Fin 0 → Fin S1x196x768.rank)
  bcast_S_S2304x768 : S_.BroadcastsInDim S2304x768 (![] : Fin 0 → Fin S2304x768.rank)
  bcast_S_S2304 : S_.BroadcastsInDim S2304 (![] : Fin 0 → Fin S2304.rank)

variable [Facts]

def fn_part1 {F : FTy → Type} [FloatOps F] (main_arg6 : FVec F S2304x768 .f32) (main_arg7 : FVec F S2304 .f32) (main_v2 : IVec S16x3x224x224 1) (main_v5 : IVec S768x3x16x16 1) (main_v8 : IVec S768 1) (main_v11 : IVec S1x196x768 1) (main_v14 : IVec S768 1) (main_v17 : IVec S768 1) : IVec S16x3x224x224 1 × IVec S768x3x16x16 1 × IVec S768 1 × IVec S1x196x768 1 × IVec S768 1 × IVec S768 1 × IVec S2304x768 1 × IVec S2304 1 :=
  let main_v18 : FVec F S2304x768 .f32 := Host.absf main_arg6
  let main_cst_5 : FVec F S_ .f32 := constant S_ .f32 0x7F800000#32
  let main_v19 : FVec F S2304x768 .f32 := broadcastInDim S2304x768 ![] bcast_S_S2304x768 main_cst_5
  let main_v20 : IVec S2304x768 1 := cmpf .olt main_v18 main_v19
  let main_v21 : FVec F S2304 .f32 := Host.absf main_arg7
  let main_cst_6 : FVec F S_ .f32 := constant S_ .f32 0x7F800000#32
  let main_v22 : FVec F S2304 .f32 := broadcastInDim S2304 ![] bcast_S_S2304 main_cst_6
  let main_v23 : IVec S2304 1 := cmpf .olt main_v21 main_v22
  (main_v2, main_v5, main_v8, main_v11, main_v14, main_v17, main_v20, main_v23)

def fn {F : FTy → Type} [FloatOps F] (main_arg0 : FVec F S16x3x224x224 .f32) (main_arg1 : FVec F S768x3x16x16 .f32) (main_arg2 : FVec F S768 .f32) (main_arg3 : FVec F S1x196x768 .f32) (main_arg4 : FVec F S768 .f32) (main_arg5 : FVec F S768 .f32) (main_arg6 : FVec F S2304x768 .f32) (main_arg7 : FVec F S2304 .f32) (main_arg8 : FVec F S768x768 .f32) (main_arg9 : FVec F S768 .f32) (main_arg10 : FVec F S6x768 .f32) (main_arg11 : FVec F S6 .f32) (main_arg12 : FVec F S6x3072x768 .f32) (main_arg13 : FVec F S6x3072 .f32) (main_arg14 : FVec F S6x768x3072 .f32) (main_arg15 : FVec F S6x768 .f32) (main_arg16 : FVec F S768 .f32) (main_arg17 : FVec F S768 .f32) (main_arg18 : FVec F S1000x768 .f32) (main_arg19 : FVec F S1000 .f32) : IVec S16x3x224x224 1 × IVec S768x3x16x16 1 × IVec S768 1 × IVec S1x196x768 1 × IVec S768 1 × IVec S768 1 × IVec S2304x768 1 × IVec S2304 1 :=
  let main_v0 : FVec F S16x3x224x224 .f32 := Host.absf main_arg0
  let main_cst : FVec F S_ .f32 := constant S_ .f32 0x7F800000#32
  let main_v1 : FVec F S16x3x224x224 .f32 := broadcastInDim S16x3x224x224 ![] bcast_S_S16x3x224x224 main_cst
  let main_v2 : IVec S16x3x224x224 1 := cmpf .olt main_v0 main_v1
  let main_v3 : FVec F S768x3x16x16 .f32 := Host.absf main_arg1
  let main_cst_0 : FVec F S_ .f32 := constant S_ .f32 0x7F800000#32
  let main_v4 : FVec F S768x3x16x16 .f32 := broadcastInDim S768x3x16x16 ![] bcast_S_S768x3x16x16 main_cst_0
  let main_v5 : IVec S768x3x16x16 1 := cmpf .olt main_v3 main_v4
  let main_v6 : FVec F S768 .f32 := Host.absf main_arg2
  let main_cst_1 : FVec F S_ .f32 := constant S_ .f32 0x7F800000#32
  let main_v7 : FVec F S768 .f32 := broadcastInDim S768 ![] bcast_S_S768 main_cst_1
  let main_v8 : IVec S768 1 := cmpf .olt main_v6 main_v7
  let main_v9 : FVec F S1x196x768 .f32 := Host.absf main_arg3
  let main_cst_2 : FVec F S_ .f32 := constant S_ .f32 0x7F800000#32
  let main_v10 : FVec F S1x196x768 .f32 := broadcastInDim S1x196x768 ![] bcast_S_S1x196x768 main_cst_2
  let main_v11 : IVec S1x196x768 1 := cmpf .olt main_v9 main_v10
  let main_v12 : FVec F S768 .f32 := Host.absf main_arg4
  let main_cst_3 : FVec F S_ .f32 := constant S_ .f32 0x7F800000#32
  let main_v13 : FVec F S768 .f32 := broadcastInDim S768 ![] bcast_S_S768 main_cst_3
  let main_v14 : IVec S768 1 := cmpf .olt main_v12 main_v13
  let main_v15 : FVec F S768 .f32 := Host.absf main_arg5
  let main_cst_4 : FVec F S_ .f32 := constant S_ .f32 0x7F800000#32
  let main_v16 : FVec F S768 .f32 := broadcastInDim S768 ![] bcast_S_S768 main_cst_4
  let main_v17 : IVec S768 1 := cmpf .olt main_v15 main_v16
  fn_part1 (F := F) main_arg6 main_arg7 main_v2 main_v5 main_v8 main_v11 main_v14 main_v17
-- ==== Kernel.lean ====
abbrev S16x3x224x224 : Shape := ⟨4, ![16, 3, 224, 224]⟩
abbrev S768x3x16x16 : Shape := ⟨4, ![768, 3, 16, 16]⟩
abbrev S768 : Shape := ⟨1, ![768]⟩
abbrev S1x196x768 : Shape := ⟨3, ![1, 196, 768]⟩
abbrev S2304x768 : Shape := ⟨2, ![2304, 768]⟩
abbrev S2304 : Shape := ⟨1, ![2304]⟩
abbrev S768x768 : Shape := ⟨2, ![768, 768]⟩
abbrev S6x768 : Shape := ⟨2, ![6, 768]⟩
abbrev S6 : Shape := ⟨1, ![6]⟩
abbrev S6x3072x768 : Shape := ⟨3, ![6, 3072, 768]⟩
abbrev S6x3072 : Shape := ⟨2, ![6, 3072]⟩
abbrev S6x768x3072 : Shape := ⟨3, ![6, 768, 3072]⟩
abbrev S1000x768 : Shape := ⟨2, ![1000, 768]⟩
abbrev S1000 : Shape := ⟨1, ![1000]⟩
abbrev S16x3x14x16x14x16 : Shape := ⟨6, ![16, 3, 14, 16, 14, 16]⟩
abbrev S16x14x14x768 : Shape := ⟨4, ![16, 14, 14, 768]⟩
abbrev S16x196x768 : Shape := ⟨3, ![16, 196, 768]⟩
abbrev S1x1x768 : Shape := ⟨3, ![1, 1, 768]⟩
abbrev S_ : Shape := ⟨0, ![]⟩
abbrev S16x224x768 : Shape := ⟨3, ![16, 224, 768]⟩
abbrev S1x768 : Shape := ⟨2, ![1, 768]⟩
abbrev S1x2304 : Shape := ⟨2, ![1, 2304]⟩
abbrev S1x224x768 : Shape := ⟨3, ![1, 224, 768]⟩
abbrev S224x768 : Shape := ⟨2, ![224, 768]⟩
abbrev S224 : Shape := ⟨1, ![224]⟩
abbrev S224x1 : Shape := ⟨2, ![224, 1]⟩
abbrev S224x2304 : Shape := ⟨2, ![224, 2304]⟩
abbrev S224x224 : Shape := ⟨2, ![224, 224]⟩
abbrev S224x64 : Shape := ⟨2, ![224, 64]⟩
abbrev S768x6 : Shape := ⟨2, ![768, 6]⟩
abbrev S16x196x6 : Shape := ⟨3, ![16, 196, 6]⟩
abbrev S1x1x6 : Shape := ⟨3, ![1, 1, 6]⟩
abbrev S16x196 : Shape := ⟨2, ![16, 196]⟩
abbrev S16x196x1 : Shape := ⟨3, ![16, 196, 1]⟩
abbrev S16x196x2 : Shape := ⟨3, ![16, 196, 2]⟩
abbrev S3136x768 : Shape := ⟨2, ![3136, 768]⟩
abbrev S3136x2 : Shape := ⟨2, ![3136, 2]⟩
abbrev S6272 : Shape := ⟨1, ![6272]⟩
abbrev S6272x1 : Shape := ⟨2, ![6272, 1]⟩
abbrev S1x6 : Shape := ⟨2, ![1, 6]⟩
abbrev S6272x6 : Shape := ⟨2, ![6272, 6]⟩
abbrev S6272x1x1 : Shape := ⟨3, ![6272, 1, 1]⟩
abbrev S1 : Shape := ⟨1, ![1]⟩
abbrev S1x1x1 : Shape := ⟨3, ![1, 1, 1]⟩
abbrev S7 : Shape := ⟨1, ![7]⟩
abbrev S7936 : Shape := ⟨1, ![7936]⟩
abbrev S31 : Shape := ⟨1, ![31]⟩
abbrev S31x1 : Shape := ⟨2, ![31, 1]⟩
abbrev S31x6 : Shape := ⟨2, ![31, 6]⟩
abbrev S8x768 : Shape := ⟨2, ![8, 768]⟩
abbrev S3144x768 : Shape := ⟨2, ![3144, 768]⟩
abbrev S7936x1 : Shape := ⟨2, ![7936, 1]⟩
abbrev S1x1 : Shape := ⟨2, ![1, 1]⟩
abbrev S7936x768 : Shape := ⟨2, ![7936, 768]⟩
abbrev S6x1x3072 : Shape := ⟨3, ![6, 1, 3072]⟩
abbrev S6x1x768 : Shape := ⟨3, ![6, 1, 768]⟩
abbrev S256x768 : Shape := ⟨2, ![256, 768]⟩
abbrev S256x1 : Shape := ⟨2, ![256, 1]⟩
abbrev S1x3072x768 : Shape := ⟨3, ![1, 3072, 768]⟩
abbrev S3072x768 : Shape := ⟨2, ![3072, 768]⟩
abbrev S256x3072 : Shape := ⟨2, ![256, 3072]⟩
abbrev S1x1x3072 : Shape := ⟨3, ![1, 1, 3072]⟩
abbrev S3072 : Shape := ⟨1, ![3072]⟩
abbrev S1x3072 : Shape := ⟨2, ![1, 3072]⟩
abbrev S1x768x3072 : Shape := ⟨3, ![1, 768, 3072]⟩
abbrev S768x3072 : Shape := ⟨2, ![768, 3072]⟩
abbrev S3136x1 : Shape := ⟨2, ![3136, 1]⟩
abbrev S3136 : Shape := ⟨1, ![3136]⟩
abbrev S16x768 : Shape := ⟨2, ![16, 768]⟩
abbrev S768x1000 : Shape := ⟨2, ![768, 1000]⟩
abbrev S16x1000 : Shape := ⟨2, ![16, 1000]⟩
abbrev S1x1000 : Shape := ⟨2, ![1, 1000]⟩

abbrev nBuf : Space → Nat
  | .hbm => 328
  | .vmem => 20
  | .smem => 1
  | _ => 0

abbrev hbmTy0_0 (i : Nat) : BufTy := match i % 128 with
  | 0 => ⟨S16x3x224x224, .f32⟩
  | 1 => ⟨S768x3x16x16, .f32⟩
  | 2 => ⟨S768, .f32⟩
  | 3 => ⟨S1x196x768, .f32⟩
  | 4 => ⟨S768, .f32⟩
  | 5 => ⟨S768, .f32⟩
  | 6 => ⟨S2304x768, .f32⟩
  | 7 => ⟨S2304, .f32⟩
  | 8 => ⟨S768x768, .f32⟩
  | 9 => ⟨S768, .f32⟩
  | 10 => ⟨S6x768, .f32⟩
  | 11 => ⟨S6, .f32⟩
  | 12 => ⟨S6x3072x768, .f32⟩
  | 13 => ⟨S6x3072, .f32⟩
  | 14 => ⟨S6x768x3072, .f32⟩
  | 15 => ⟨S6x768, .f32⟩
  | 16 => ⟨S768, .f32⟩
  | 17 => ⟨S768, .f32⟩
  | 18 => ⟨S1000x768, .f32⟩
  | 19 => ⟨S1000, .f32⟩
  | 20 => ⟨S16x3x14x16x14x16, .f32⟩
  | 21 => ⟨S16x14x14x768, .f32⟩
  | 22 => ⟨S16x196x768, .f32⟩
  | 23 => ⟨S1x1x768, .f32⟩
  | 24 => ⟨S16x196x768, .f32⟩
  | 25 => ⟨S16x196x768, .f32⟩
  | 26 => ⟨S16x196x768, .f32⟩
  | 27 => ⟨S16x196x768, .f32⟩
  | 28 => ⟨S_, .i32⟩
  | 29 => ⟨S_, .f32⟩
  | 30 => ⟨S16x224x768, .f32⟩
  | 31 => ⟨S1x768, .f32⟩
  | 32 => ⟨S1x768, .f32⟩
  | 33 => ⟨S2304x768, .bf16⟩
  | 34 => ⟨S1x2304, .f32⟩
  | 35 => ⟨S768x768, .bf16⟩
  | 36 => ⟨S1x768, .f32⟩
  | 37 => ⟨S16x224x768, .f32⟩
  | 38 => ⟨S16x196x768, .f32⟩
  | 39 => ⟨S768x6, .f32⟩
  | 40 => ⟨S16x196x6, .f32⟩
  | 41 => ⟨S1x1x6, .f32⟩
  | 42 => ⟨S16x196x6, .f32⟩
  | 43 => ⟨S16x196x6, .f32⟩
  | 44 => ⟨S_, .f32⟩
  | 45 => ⟨S16x196, .f32⟩
  | 46 => ⟨S_, .f32⟩
  | 47 => ⟨S16x196, .f32⟩
  | 48 => ⟨S16x196, .f32⟩
  | 49 => ⟨S16x196x1, .f32⟩
  | 50 => ⟨S16x196x6, .f32⟩
  | 51 => ⟨S16x196x6, .f32⟩
  | 52 => ⟨S16x196x6, .f32⟩
  | 53 => ⟨S_, .f32⟩
  | 54 => ⟨S16x196, .f32⟩
  | 55 => ⟨S16x196x1, .f32⟩
  | 56 => ⟨S16x196x6, .f32⟩
  | 57 => ⟨S16x196x6, .f32⟩
  | 58 => ⟨S16x196x2, .f32⟩
  | 59 => ⟨S16x196x2, .i32⟩
  | 60 => ⟨S3136x768, .f32⟩
  | 61 => ⟨S3136x2, .i32⟩
  | 62 => ⟨S3136x2, .f32⟩
  | 63 => ⟨S6272, .i32⟩
  | 64 => ⟨S6272x1, .i32⟩
  | 65 => ⟨S6, .i32⟩
  | 66 => ⟨S1x6, .i32⟩
  | 67 => ⟨S6272x6, .i32⟩
  | 68 => ⟨S6272x6, .i32⟩
  | 69 => ⟨S6272x6, .i1⟩
  | 70 => ⟨S6272x6, .i32⟩
  | 71 => ⟨S_, .i32⟩
  | 72 => ⟨S_, .i32⟩
  | 73 => ⟨S6272x6, .i32⟩
  | 74 => ⟨S6272x1, .i32⟩
  | 75 => ⟨S_, .i32⟩
  | 76 => ⟨S6272x1, .i32⟩
  | 77 => ⟨S6272x1, .i1⟩
  | 78 => ⟨S_, .i32⟩
  | 79 => ⟨S6272x1, .i32⟩
  | 80 => ⟨S6272x1, .i32⟩
  | 81 => ⟨S6272x1, .i32⟩
  | 82 => ⟨S6272x1x1, .i32⟩
  | 83 => ⟨S1, .i32⟩
  | 84 => ⟨S_, .i32⟩
  | 85 => ⟨S6272x1x1, .i32⟩
  | 86 => ⟨S6272x1x1, .i1⟩
  | 87 => ⟨S1x1x1, .i32⟩
  | 88 => ⟨S6272x1x1, .i32⟩
  | 89 => ⟨S6272x1x1, .i1⟩
  | 90 => ⟨S6272x1x1, .i1⟩
  | 91 => ⟨S_, .i1⟩
  | 92 => ⟨S6272x1, .i1⟩
  | 93 => ⟨S6272x1, .i32⟩
  | 94 => ⟨S_, .i32⟩
  | 95 => ⟨S6272x1, .i32⟩
  | 96 => ⟨S6272x1, .i32⟩
  | 97 => ⟨S6272, .i32⟩
  | 98 => ⟨S_, .i32⟩
  | 99 => ⟨S6272, .i32⟩
  | 100 => ⟨S6272, .i32⟩
  | 101 => ⟨S1x6, .i32⟩
  | 102 => ⟨S6, .i32⟩
  | 103 => ⟨S_, .i32⟩
  | 104 => ⟨S6, .i32⟩
  | 105 => ⟨S6, .i32⟩
  | 106 => ⟨S_, .i32⟩
  | 107 => ⟨S6, .i32⟩
  | 108 => ⟨S6, .i32⟩
  | 109 => ⟨S_, .i32⟩
  | 110 => ⟨S_, .i32⟩
  | 111 => ⟨S6, .i32⟩
  | 112 => ⟨S6, .i32⟩
  | 113 => ⟨S6, .i32⟩
  | 114 => ⟨S_, .i32⟩
  | 115 => ⟨S6, .i32⟩
  | 116 => ⟨S6, .i1⟩
  | 117 => ⟨S6, .i32⟩
  | 118 => ⟨S6, .i32⟩
  | 119 => ⟨S_, .i32⟩
  | 120 => ⟨S6, .i32⟩
  | 121 => ⟨S6, .i1⟩
  | 122 => ⟨S6, .i1⟩
  | 123 => ⟨S_, .i32⟩
  | 124 => ⟨S6, .i32⟩
  | 125 => ⟨S6, .i32⟩
  | 126 => ⟨S6, .i32⟩
  | 127 => ⟨S_, .i32⟩
  | _ => ⟨S16x3x224x224, .f32⟩

abbrev hbmTy0_1 (i : Nat) : BufTy := match i % 128 with
  | 0 => ⟨S6, .i32⟩
  | 1 => ⟨S6, .i32⟩
  | 2 => ⟨S_, .i32⟩
  | 3 => ⟨S1, .i32⟩
  | 4 => ⟨S_, .i32⟩
  | 5 => ⟨S_, .i32⟩
  | 6 => ⟨S6, .i32⟩
  | 7 => ⟨S7, .i32⟩
  | 8 => ⟨S_, .i32⟩
  | 9 => ⟨S6272, .i32⟩
  | 10 => ⟨S6272, .i1⟩
  | 11 => ⟨S_, .i32⟩
  | 12 => ⟨S6272, .i32⟩
  | 13 => ⟨S6272, .i32⟩
  | 14 => ⟨S6272, .i32⟩
  | 15 => ⟨S6272x1, .i32⟩
  | 16 => ⟨S6272, .i32⟩
  | 17 => ⟨S6272, .i32⟩
  | 18 => ⟨S6272, .i32⟩
  | 19 => ⟨S_, .i32⟩
  | 20 => ⟨S_, .i32⟩
  | 21 => ⟨S6272, .i32⟩
  | 22 => ⟨S6272, .i32⟩
  | 23 => ⟨S6272, .i32⟩
  | 24 => ⟨S_, .i32⟩
  | 25 => ⟨S6272, .i32⟩
  | 26 => ⟨S6272, .i1⟩
  | 27 => ⟨S6272, .i32⟩
  | 28 => ⟨S6272, .i32⟩
  | 29 => ⟨S_, .i32⟩
  | 30 => ⟨S6272, .i32⟩
  | 31 => ⟨S6272, .i1⟩
  | 32 => ⟨S6272, .i1⟩
  | 33 => ⟨S_, .i32⟩
  | 34 => ⟨S6272, .i32⟩
  | 35 => ⟨S6272, .i32⟩
  | 36 => ⟨S6272, .i32⟩
  | 37 => ⟨S_, .i32⟩
  | 38 => ⟨S7936, .i32⟩
  | 39 => ⟨S_, .i32⟩
  | 40 => ⟨S6272, .i32⟩
  | 41 => ⟨S6272, .i1⟩
  | 42 => ⟨S_, .i32⟩
  | 43 => ⟨S6272, .i32⟩
  | 44 => ⟨S6272, .i32⟩
  | 45 => ⟨S6272, .i32⟩
  | 46 => ⟨S6272x1, .i32⟩
  | 47 => ⟨S7936, .i32⟩
  | 48 => ⟨S_, .f32⟩
  | 49 => ⟨S7936, .f32⟩
  | 50 => ⟨S6272, .f32⟩
  | 51 => ⟨S_, .i32⟩
  | 52 => ⟨S6272, .i32⟩
  | 53 => ⟨S6272, .i1⟩
  | 54 => ⟨S_, .i32⟩
  | 55 => ⟨S6272, .i32⟩
  | 56 => ⟨S6272, .i32⟩
  | 57 => ⟨S6272, .i32⟩
  | 58 => ⟨S6272x1, .i32⟩
  | 59 => ⟨S7936, .f32⟩
  | 60 => ⟨S31, .i32⟩
  | 61 => ⟨S_, .i32⟩
  | 62 => ⟨S31, .i32⟩
  | 63 => ⟨S31, .i32⟩
  | 64 => ⟨S6, .i32⟩
  | 65 => ⟨S1x6, .i32⟩
  | 66 => ⟨S31x1, .i32⟩
  | 67 => ⟨S31x6, .i32⟩
  | 68 => ⟨S31x6, .i32⟩
  | 69 => ⟨S31x6, .i1⟩
  | 70 => ⟨S31x6, .i32⟩
  | 71 => ⟨S_, .i32⟩
  | 72 => ⟨S31, .i32⟩
  | 73 => ⟨S_, .i32⟩
  | 74 => ⟨S31, .i32⟩
  | 75 => ⟨S_, .f32⟩
  | 76 => ⟨S8x768, .f32⟩
  | 77 => ⟨S3144x768, .f32⟩
  | 78 => ⟨S_, .i32⟩
  | 79 => ⟨S7936, .i32⟩
  | 80 => ⟨S7936, .i1⟩
  | 81 => ⟨S_, .i32⟩
  | 82 => ⟨S7936, .i32⟩
  | 83 => ⟨S7936, .i32⟩
  | 84 => ⟨S7936, .i32⟩
  | 85 => ⟨S7936x1, .i32⟩
  | 86 => ⟨S1, .i32⟩
  | 87 => ⟨S_, .i32⟩
  | 88 => ⟨S7936x1, .i32⟩
  | 89 => ⟨S7936x1, .i1⟩
  | 90 => ⟨S1x1, .i32⟩
  | 91 => ⟨S7936x1, .i32⟩
  | 92 => ⟨S7936x1, .i1⟩
  | 93 => ⟨S7936x1, .i1⟩
  | 94 => ⟨S_, .i1⟩
  | 95 => ⟨S7936, .i1⟩
  | 96 => ⟨S7936x768, .f32⟩
  | 97 => ⟨S7936x768, .i1⟩
  | 98 => ⟨S_, .f32⟩
  | 99 => ⟨S7936x768, .f32⟩
  | 100 => ⟨S7936x768, .f32⟩
  | 101 => ⟨S7936x768, .bf16⟩
  | 102 => ⟨S6x3072x768, .bf16⟩
  | 103 => ⟨S6x1x3072, .f32⟩
  | 104 => ⟨S6x768x3072, .bf16⟩
  | 105 => ⟨S6x1x768, .f32⟩
  | 106 => ⟨S7936x1, .f32⟩
  | 107 => ⟨S7936x768, .f32⟩
  | 108 => ⟨S3136x2, .i32⟩
  | 109 => ⟨S3136x1, .i32⟩
  | 110 => ⟨S3136, .i32⟩
  | 111 => ⟨S_, .i32⟩
  | 112 => ⟨S3136, .i32⟩
  | 113 => ⟨S3136, .i1⟩
  | 114 => ⟨S_, .i32⟩
  | 115 => ⟨S3136, .i32⟩
  | 116 => ⟨S3136, .i32⟩
  | 117 => ⟨S3136, .i32⟩
  | 118 => ⟨S3136x1, .i32⟩
  | 119 => ⟨S1, .i32⟩
  | 120 => ⟨S_, .i32⟩
  | 121 => ⟨S3136x1, .i32⟩
  | 122 => ⟨S3136x1, .i1⟩
  | 123 => ⟨S1x1, .i32⟩
  | 124 => ⟨S3136x1, .i32⟩
  | 125 => ⟨S3136x1, .i1⟩
  | 126 => ⟨S3136x1, .i1⟩
  | 127 => ⟨S_, .i1⟩
  | _ => ⟨S16x3x224x224, .f32⟩

abbrev hbmTy0_2 (i : Nat) : BufTy := match i % 128 with
  | 0 => ⟨S3136, .i1⟩
  | 1 => ⟨S3136x768, .f32⟩
  | 2 => ⟨S3136x768, .i1⟩
  | 3 => ⟨S_, .f32⟩
  | 4 => ⟨S3136x768, .f32⟩
  | 5 => ⟨S3136x768, .f32⟩
  | 6 => ⟨S3136x1, .i32⟩
  | 7 => ⟨S3136, .i32⟩
  | 8 => ⟨S_, .i32⟩
  | 9 => ⟨S3136, .i32⟩
  | 10 => ⟨S3136, .i1⟩
  | 11 => ⟨S_, .i32⟩
  | 12 => ⟨S3136, .i32⟩
  | 13 => ⟨S3136, .i32⟩
  | 14 => ⟨S3136, .i32⟩
  | 15 => ⟨S3136x1, .i32⟩
  | 16 => ⟨S1, .i32⟩
  | 17 => ⟨S_, .i32⟩
  | 18 => ⟨S3136x1, .i32⟩
  | 19 => ⟨S3136x1, .i1⟩
  | 20 => ⟨S1x1, .i32⟩
  | 21 => ⟨S3136x1, .i32⟩
  | 22 => ⟨S3136x1, .i1⟩
  | 23 => ⟨S3136x1, .i1⟩
  | 24 => ⟨S_, .i1⟩
  | 25 => ⟨S3136, .i1⟩
  | 26 => ⟨S3136x768, .f32⟩
  | 27 => ⟨S3136x768, .i1⟩
  | 28 => ⟨S_, .f32⟩
  | 29 => ⟨S3136x768, .f32⟩
  | 30 => ⟨S3136x768, .f32⟩
  | 31 => ⟨S3136x768, .f32⟩
  | 32 => ⟨S16x196x768, .f32⟩
  | 33 => ⟨S_, .f32⟩
  | 34 => ⟨S16x196, .f32⟩
  | 35 => ⟨S16x196x1, .f32⟩
  | 36 => ⟨S_, .f32⟩
  | 37 => ⟨S16x196x1, .f32⟩
  | 38 => ⟨S16x196x1, .f32⟩
  | 39 => ⟨S16x196x768, .f32⟩
  | 40 => ⟨S16x196x768, .f32⟩
  | 41 => ⟨S16x196x768, .f32⟩
  | 42 => ⟨S_, .f32⟩
  | 43 => ⟨S16x196, .f32⟩
  | 44 => ⟨S16x196x1, .f32⟩
  | 45 => ⟨S_, .f32⟩
  | 46 => ⟨S16x196x1, .f32⟩
  | 47 => ⟨S16x196x1, .f32⟩
  | 48 => ⟨S16x196x768, .f32⟩
  | 49 => ⟨S16x196x768, .f32⟩
  | 50 => ⟨S_, .f32⟩
  | 51 => ⟨S16x196x1, .f32⟩
  | 52 => ⟨S16x196x1, .f32⟩
  | 53 => ⟨S16x196x1, .f32⟩
  | 54 => ⟨S16x196x768, .f32⟩
  | 55 => ⟨S16x196x768, .f32⟩
  | 56 => ⟨S1x1x768, .f32⟩
  | 57 => ⟨S16x196x768, .f32⟩
  | 58 => ⟨S16x196x768, .f32⟩
  | 59 => ⟨S1x1x768, .f32⟩
  | 60 => ⟨S16x196x768, .f32⟩
  | 61 => ⟨S16x196x768, .f32⟩
  | 62 => ⟨S_, .f32⟩
  | 63 => ⟨S16x768, .f32⟩
  | 64 => ⟨S_, .f32⟩
  | 65 => ⟨S16x768, .f32⟩
  | 66 => ⟨S16x768, .f32⟩
  | 67 => ⟨S768x1000, .f32⟩
  | 68 => ⟨S16x1000, .f32⟩
  | 69 => ⟨S1x1000, .f32⟩
  | 70 => ⟨S16x1000, .f32⟩
  | 71 => ⟨S16x1000, .f32⟩
  | _ => ⟨S16x3x224x224, .f32⟩

abbrev hbmTy (i : Nat) : BufTy := match i / 128 with
  | 0 => hbmTy0_0 i
  | 1 => hbmTy0_1 i
  | 2 => hbmTy0_2 i
  | _ => ⟨S16x3x224x224, .f32⟩

abbrev bufTy : (tb : Table) → Fin (tcTables nBuf tb) → BufTy
  | .hbm, ⟨i, _⟩ => hbmTy i
  | .local _ .vmem, ⟨0, _⟩ => ⟨S1x224x768, .f32⟩
  | .local _ .vmem, ⟨1, _⟩ => ⟨S1x224x768, .f32⟩
  | .local _ .vmem, ⟨2, _⟩ => ⟨S1x768, .f32⟩
  | .local _ .vmem, ⟨3, _⟩ => ⟨S1x768, .f32⟩
  | .local _ .vmem, ⟨4, _⟩ => ⟨S2304x768, .bf16⟩
  | .local _ .vmem, ⟨5, _⟩ => ⟨S1x2304, .f32⟩
  | .local _ .vmem, ⟨6, _⟩ => ⟨S768x768, .bf16⟩
  | .local _ .vmem, ⟨7, _⟩ => ⟨S1x768, .f32⟩
  | .local _ .vmem, ⟨8, _⟩ => ⟨S1x224x768, .f32⟩
  | .local _ .vmem, ⟨9, _⟩ => ⟨S1x224x768, .f32⟩
  | .local _ .vmem, ⟨10, _⟩ => ⟨S256x768, .bf16⟩
  | .local _ .vmem, ⟨11, _⟩ => ⟨S256x768, .bf16⟩
  | .local _ .vmem, ⟨12, _⟩ => ⟨S6x3072x768, .bf16⟩
  | .local _ .vmem, ⟨13, _⟩ => ⟨S6x1x3072, .f32⟩
  | .local _ .vmem, ⟨14, _⟩ => ⟨S6x768x3072, .bf16⟩
  | .local _ .vmem, ⟨15, _⟩ => ⟨S6x1x768, .f32⟩
  | .local _ .vmem, ⟨16, _⟩ => ⟨S256x1, .f32⟩
  | .local _ .vmem, ⟨17, _⟩ => ⟨S256x1, .f32⟩
  | .local _ .vmem, ⟨18, _⟩ => ⟨S256x768, .f32⟩
  | .local _ .vmem, ⟨19, _⟩ => ⟨S256x768, .f32⟩
  | .local _ .smem, ⟨0, _⟩ => ⟨S31, .i32⟩
  | _, _ => ⟨S16x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_call0_v0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst : Ref sig .tc := ⟨.hbm, 44, rfl⟩
abbrev main_v22 : Ref sig .tc := ⟨.hbm, 45, rfl⟩
abbrev main_cst_0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_1 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_values : Ref sig .tc := ⟨.hbm, 58, rfl⟩
abbrev main_indices : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call1_call0_c : Ref sig .tc := ⟨.hbm, 71, rfl⟩
abbrev main_call1_call0_v0 : Ref sig .tc := ⟨.hbm, 72, rfl⟩
abbrev main_v44 : Ref sig .tc := ⟨.hbm, 73, rfl⟩
abbrev main_v45 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_c_4 : Ref sig .tc := ⟨.hbm, 94, rfl⟩
abbrev main_call2_v14 : Ref sig .tc := ⟨.hbm, 95, rfl⟩
abbrev main_v46 : Ref sig .tc := ⟨.hbm, 96, rfl⟩
abbrev main_v47 : Ref sig .tc := ⟨.hbm, 97, rfl⟩
abbrev main_c_2 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_c_3 : Ref sig .tc := ⟨.hbm, 103, rfl⟩
abbrev main_v52 : Ref sig .tc := ⟨.hbm, 104, rfl⟩
abbrev main_v53 : Ref sig .tc := ⟨.hbm, 105, rfl⟩
abbrev main_c_4 : Ref sig .tc := ⟨.hbm, 106, rfl⟩
abbrev main_v54 : Ref sig .tc := ⟨.hbm, 107, rfl⟩
abbrev main_v55 : Ref sig .tc := ⟨.hbm, 108, rfl⟩
abbrev main_c_5 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_call3_v5 : Ref sig .tc := ⟨.hbm, 115, rfl⟩
abbrev main_call3_v6 : Ref sig .tc := ⟨.hbm, 116, rfl⟩
abbrev main_call3_v7 : Ref sig .tc := ⟨.hbm, 117, rfl⟩
abbrev main_call3_v8 : Ref sig .tc := ⟨.hbm, 118, rfl⟩
abbrev main_call3_c : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_c_0 : Ref sig .tc := ⟨.hbm, 123, rfl⟩
abbrev main_call3_v12 : Ref sig .tc := ⟨.hbm, 124, rfl⟩
abbrev main_call3_v13 : Ref sig .tc := ⟨.hbm, 125, rfl⟩
abbrev main_v56 : Ref sig .tc := ⟨.hbm, 126, rfl⟩
abbrev main_c_6 : Ref sig .tc := ⟨.hbm, 127, rfl⟩
abbrev main_v57 : Ref sig .tc := ⟨.hbm, 128, rfl⟩
abbrev main_v58 : Ref sig .tc := ⟨.hbm, 129, rfl⟩
abbrev main_c_7 : Ref sig .tc := ⟨.hbm, 130, rfl⟩
abbrev main_v59 : Ref sig .tc := ⟨.hbm, 131, rfl⟩
abbrev main_call4_call0_c : Ref sig .tc := ⟨.hbm, 132, rfl⟩
abbrev main_call4_call0_v0 : Ref sig .tc := ⟨.hbm, 133, rfl⟩
abbrev main_v60 : Ref sig .tc := ⟨.hbm, 134, rfl⟩
abbrev main_v61 : Ref sig .tc := ⟨.hbm, 135, rfl⟩
abbrev main_c_8 : Ref sig .tc := ⟨.hbm, 136, rfl⟩
abbrev main_v62 : Ref sig .tc := ⟨.hbm, 137, rfl⟩
abbrev main_v63 : Ref sig .tc := ⟨.hbm, 138, rfl⟩
abbrev main_c_9 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_c_10 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_v5 : Ref sig .tc := ⟨.hbm, 153, rfl⟩
abbrev main_call5_v6 : Ref sig .tc := ⟨.hbm, 154, rfl⟩
abbrev main_call5_v7 : Ref sig .tc := ⟨.hbm, 155, rfl⟩
abbrev main_call5_v8 : Ref sig .tc := ⟨.hbm, 156, rfl⟩
abbrev main_call5_c : Ref sig .tc := ⟨.hbm, 157, rfl⟩
abbrev main_call5_v9 : Ref sig .tc := ⟨.hbm, 158, rfl⟩
abbrev main_call5_v10 : Ref sig .tc := ⟨.hbm, 159, rfl⟩
abbrev main_call5_v11 : Ref sig .tc := ⟨.hbm, 160, rfl⟩
abbrev main_call5_c_0 : Ref sig .tc := ⟨.hbm, 161, rfl⟩
abbrev main_call5_v12 : Ref sig .tc := ⟨.hbm, 162, rfl⟩
abbrev main_call5_v13 : Ref sig .tc := ⟨.hbm, 163, rfl⟩
abbrev main_v71 : Ref sig .tc := ⟨.hbm, 164, rfl⟩
abbrev main_c_11 : Ref sig .tc := ⟨.hbm, 165, rfl⟩
abbrev main_v72 : Ref sig .tc := ⟨.hbm, 166, rfl⟩
abbrev main_c_12 : Ref sig .tc := ⟨.hbm, 167, rfl⟩
abbrev main_v73 : Ref sig .tc := ⟨.hbm, 168, rfl⟩
abbrev main_v74 : Ref sig .tc := ⟨.hbm, 169, rfl⟩
abbrev main_c_13 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_cst_14 : Ref sig .tc := ⟨.hbm, 176, rfl⟩
abbrev main_v80 : Ref sig .tc := ⟨.hbm, 177, rfl⟩
abbrev main_v81 : Ref sig .tc := ⟨.hbm, 178, rfl⟩
abbrev main_c_15 : Ref sig .tc := ⟨.hbm, 179, rfl⟩
abbrev main_v82 : Ref sig .tc := ⟨.hbm, 180, rfl⟩
abbrev main_v83 : Ref sig .tc := ⟨.hbm, 181, rfl⟩
abbrev main_c_16 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_c_17 : Ref sig .tc := ⟨.hbm, 189, rfl⟩
abbrev main_v90 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_v95 : Ref sig .tc := ⟨.hbm, 195, rfl⟩
abbrev main_v96 : Ref sig .tc := ⟨.hbm, 196, rfl⟩
abbrev main_v97 : Ref sig .tc := ⟨.hbm, 197, rfl⟩
abbrev main_v98 : Ref sig .tc := ⟨.hbm, 198, rfl⟩
abbrev main_c_18 : Ref sig .tc := ⟨.hbm, 199, rfl⟩
abbrev main_v99 : Ref sig .tc := ⟨.hbm, 200, rfl⟩
abbrev main_c_19 : Ref sig .tc := ⟨.hbm, 201, rfl⟩
abbrev main_v100 : Ref sig .tc := ⟨.hbm, 202, rfl⟩
abbrev main_cst_20 : Ref sig .tc := ⟨.hbm, 203, rfl⟩
abbrev main_v102 : Ref sig .tc := ⟨.hbm, 204, rfl⟩
abbrev main_v103 : Ref sig .tc := ⟨.hbm, 205, rfl⟩
abbrev main_call6_c : Ref sig .tc := ⟨.hbm, 206, rfl⟩
abbrev main_call6_v0 : Ref sig .tc := ⟨.hbm, 207, rfl⟩
abbrev main_call6_v1 : Ref sig .tc := ⟨.hbm, 208, rfl⟩
abbrev main_call6_c_0 : Ref sig .tc := ⟨.hbm, 209, rfl⟩
abbrev main_call6_v2 : Ref sig .tc := ⟨.hbm, 210, rfl⟩
abbrev main_call6_v3 : Ref sig .tc := ⟨.hbm, 211, rfl⟩
abbrev main_call6_v4 : Ref sig .tc := ⟨.hbm, 212, rfl⟩
abbrev main_call6_v5 : Ref sig .tc := ⟨.hbm, 213, rfl⟩
abbrev main_call6_c_1 : Ref sig .tc := ⟨.hbm, 214, rfl⟩
abbrev main_call6_c_2 : Ref sig .tc := ⟨.hbm, 215, rfl⟩
abbrev main_call6_v6 : Ref sig .tc := ⟨.hbm, 216, rfl⟩
abbrev main_call6_v7 : Ref sig .tc := ⟨.hbm, 217, rfl⟩
abbrev main_call6_v8 : Ref sig .tc := ⟨.hbm, 218, rfl⟩
abbrev main_call6_v9 : Ref sig .tc := ⟨.hbm, 219, rfl⟩
abbrev main_call6_v10 : Ref sig .tc := ⟨.hbm, 220, rfl⟩
abbrev main_call6_v11 : Ref sig .tc := ⟨.hbm, 221, rfl⟩
abbrev main_call6_c_3 : Ref sig .tc := ⟨.hbm, 222, rfl⟩
abbrev main_call6_v12 : Ref sig .tc := ⟨.hbm, 223, rfl⟩
abbrev main_call6_v13 : Ref sig .tc := ⟨.hbm, 224, rfl⟩
abbrev main_call6_v14 : Ref sig .tc := ⟨.hbm, 225, rfl⟩
abbrev main_call6_cst : Ref sig .tc := ⟨.hbm, 226, rfl⟩
abbrev main_call6_v15 : Ref sig .tc := ⟨.hbm, 227, rfl⟩
abbrev main_v104 : Ref sig .tc := ⟨.hbm, 228, rfl⟩
abbrev main_v105 : Ref sig .tc := ⟨.hbm, 229, rfl⟩
abbrev main_v106 : Ref sig .tc := ⟨.hbm, 230, rfl⟩
abbrev main_v107 : Ref sig .tc := ⟨.hbm, 231, rfl⟩
abbrev main_v108 : Ref sig .tc := ⟨.hbm, 232, rfl⟩
abbrev main_v109 : Ref sig .tc := ⟨.hbm, 233, rfl⟩
abbrev main_v110 : Ref sig .tc := ⟨.hbm, 234, rfl⟩
abbrev main_v111 : Ref sig .tc := ⟨.hbm, 235, rfl⟩
abbrev main_v112 : Ref sig .tc := ⟨.hbm, 236, rfl⟩
abbrev main_v113 : Ref sig .tc := ⟨.hbm, 237, rfl⟩
abbrev main_v114 : Ref sig .tc := ⟨.hbm, 238, rfl⟩
abbrev main_call7_c : Ref sig .tc := ⟨.hbm, 239, rfl⟩
abbrev main_call7_v0 : Ref sig .tc := ⟨.hbm, 240, rfl⟩
abbrev main_call7_v1 : Ref sig .tc := ⟨.hbm, 241, rfl⟩
abbrev main_call7_c_0 : Ref sig .tc := ⟨.hbm, 242, rfl⟩
abbrev main_call7_v2 : Ref sig .tc := ⟨.hbm, 243, rfl⟩
abbrev main_call7_v3 : Ref sig .tc := ⟨.hbm, 244, rfl⟩
abbrev main_call7_v4 : Ref sig .tc := ⟨.hbm, 245, rfl⟩
abbrev main_call7_v5 : Ref sig .tc := ⟨.hbm, 246, rfl⟩
abbrev main_call7_c_1 : Ref sig .tc := ⟨.hbm, 247, rfl⟩
abbrev main_call7_c_2 : Ref sig .tc := ⟨.hbm, 248, rfl⟩
abbrev main_call7_v6 : Ref sig .tc := ⟨.hbm, 249, rfl⟩
abbrev main_call7_v7 : Ref sig .tc := ⟨.hbm, 250, rfl⟩
abbrev main_call7_v8 : Ref sig .tc := ⟨.hbm, 251, rfl⟩
abbrev main_call7_v9 : Ref sig .tc := ⟨.hbm, 252, rfl⟩
abbrev main_call7_v10 : Ref sig .tc := ⟨.hbm, 253, rfl⟩
abbrev main_call7_v11 : Ref sig .tc := ⟨.hbm, 254, rfl⟩
abbrev main_call7_c_3 : Ref sig .tc := ⟨.hbm, 255, rfl⟩
abbrev main_call7_v12 : Ref sig .tc := ⟨.hbm, 256, rfl⟩
abbrev main_call7_v13 : Ref sig .tc := ⟨.hbm, 257, rfl⟩
abbrev main_call7_v14 : Ref sig .tc := ⟨.hbm, 258, rfl⟩
abbrev main_call7_cst : Ref sig .tc := ⟨.hbm, 259, rfl⟩
abbrev main_call7_v15 : Ref sig .tc := ⟨.hbm, 260, rfl⟩
abbrev main_v115 : Ref sig .tc := ⟨.hbm, 261, rfl⟩
abbrev main_v116 : Ref sig .tc := ⟨.hbm, 262, rfl⟩
abbrev main_v117 : Ref sig .tc := ⟨.hbm, 263, rfl⟩
abbrev main_call8_c : Ref sig .tc := ⟨.hbm, 264, rfl⟩
abbrev main_call8_v0 : Ref sig .tc := ⟨.hbm, 265, rfl⟩
abbrev main_call8_v1 : Ref sig .tc := ⟨.hbm, 266, rfl⟩
abbrev main_call8_c_0 : Ref sig .tc := ⟨.hbm, 267, rfl⟩
abbrev main_call8_v2 : Ref sig .tc := ⟨.hbm, 268, rfl⟩
abbrev main_call8_v3 : Ref sig .tc := ⟨.hbm, 269, rfl⟩
abbrev main_call8_v4 : Ref sig .tc := ⟨.hbm, 270, rfl⟩
abbrev main_call8_v5 : Ref sig .tc := ⟨.hbm, 271, rfl⟩
abbrev main_call8_c_1 : Ref sig .tc := ⟨.hbm, 272, rfl⟩
abbrev main_call8_c_2 : Ref sig .tc := ⟨.hbm, 273, rfl⟩
abbrev main_call8_v6 : Ref sig .tc := ⟨.hbm, 274, rfl⟩
abbrev main_call8_v7 : Ref sig .tc := ⟨.hbm, 275, rfl⟩
abbrev main_call8_v8 : Ref sig .tc := ⟨.hbm, 276, rfl⟩
abbrev main_call8_v9 : Ref sig .tc := ⟨.hbm, 277, rfl⟩
abbrev main_call8_v10 : Ref sig .tc := ⟨.hbm, 278, rfl⟩
abbrev main_call8_v11 : Ref sig .tc := ⟨.hbm, 279, rfl⟩
abbrev main_call8_c_3 : Ref sig .tc := ⟨.hbm, 280, rfl⟩
abbrev main_call8_v12 : Ref sig .tc := ⟨.hbm, 281, rfl⟩
abbrev main_call8_v13 : Ref sig .tc := ⟨.hbm, 282, rfl⟩
abbrev main_call8_v14 : Ref sig .tc := ⟨.hbm, 283, rfl⟩
abbrev main_call8_cst : Ref sig .tc := ⟨.hbm, 284, rfl⟩
abbrev main_call8_v15 : Ref sig .tc := ⟨.hbm, 285, rfl⟩
abbrev main_v118 : Ref sig .tc := ⟨.hbm, 286, rfl⟩
abbrev main_v119 : Ref sig .tc := ⟨.hbm, 287, rfl⟩
abbrev main_v120 : Ref sig .tc := ⟨.hbm, 288, rfl⟩
abbrev main_cst_21 : Ref sig .tc := ⟨.hbm, 289, rfl⟩
abbrev main_v121 : Ref sig .tc := ⟨.hbm, 290, rfl⟩
abbrev main_v122 : Ref sig .tc := ⟨.hbm, 291, rfl⟩
abbrev main_cst_22 : Ref sig .tc := ⟨.hbm, 292, rfl⟩
abbrev main_v123 : Ref sig .tc := ⟨.hbm, 293, rfl⟩
abbrev main_v124 : Ref sig .tc := ⟨.hbm, 294, rfl⟩
abbrev main_v125 : Ref sig .tc := ⟨.hbm, 295, rfl⟩
abbrev main_v126 : Ref sig .tc := ⟨.hbm, 296, rfl⟩
abbrev main_v127 : Ref sig .tc := ⟨.hbm, 297, rfl⟩
abbrev main_cst_23 : Ref sig .tc := ⟨.hbm, 298, rfl⟩
abbrev main_v128 : Ref sig .tc := ⟨.hbm, 299, rfl⟩
abbrev main_v129 : Ref sig .tc := ⟨.hbm, 300, rfl⟩
abbrev main_cst_24 : Ref sig .tc := ⟨.hbm, 301, rfl⟩
abbrev main_v130 : Ref sig .tc := ⟨.hbm, 302, rfl⟩
abbrev main_v131 : Ref sig .tc := ⟨.hbm, 303, rfl⟩
abbrev main_v132 : Ref sig .tc := ⟨.hbm, 304, rfl⟩
abbrev main_v133 : Ref sig .tc := ⟨.hbm, 305, rfl⟩
abbrev main_cst_25 : Ref sig .tc := ⟨.hbm, 306, rfl⟩
abbrev main_v134 : Ref sig .tc := ⟨.hbm, 307, rfl⟩
abbrev main_v135 : Ref sig .tc := ⟨.hbm, 308, rfl⟩
abbrev main_v136 : Ref sig .tc := ⟨.hbm, 309, rfl⟩
abbrev main_v137 : Ref sig .tc := ⟨.hbm, 310, rfl⟩
abbrev main_v138 : Ref sig .tc := ⟨.hbm, 311, rfl⟩
abbrev main_v139 : Ref sig .tc := ⟨.hbm, 312, rfl⟩
abbrev main_v140 : Ref sig .tc := ⟨.hbm, 313, rfl⟩
abbrev main_v141 : Ref sig .tc := ⟨.hbm, 314, rfl⟩
abbrev main_v142 : Ref sig .tc := ⟨.hbm, 315, rfl⟩
abbrev main_v143 : Ref sig .tc := ⟨.hbm, 316, rfl⟩
abbrev main_v144 : Ref sig .tc := ⟨.hbm, 317, rfl⟩
abbrev main_cst_26 : Ref sig .tc := ⟨.hbm, 318, rfl⟩
abbrev main_v145 : Ref sig .tc := ⟨.hbm, 319, rfl⟩
abbrev main_cst_27 : Ref sig .tc := ⟨.hbm, 320, rfl⟩
abbrev main_v146 : Ref sig .tc := ⟨.hbm, 321, rfl⟩
abbrev main_v147 : Ref sig .tc := ⟨.hbm, 322, rfl⟩
abbrev main_v148 : Ref sig .tc := ⟨.hbm, 323, rfl⟩
abbrev main_v149 : Ref sig .tc := ⟨.hbm, 324, rfl⟩
abbrev main_v150 : Ref sig .tc := ⟨.hbm, 325, rfl⟩
abbrev main_v151 : Ref sig .tc := ⟨.hbm, 326, rfl⟩
abbrev main_v152 : Ref sig .tc := ⟨.hbm, 327, rfl⟩
abbrev main_v101 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x224x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2304x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x224x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![31], ![false]⟩

abbrev pre1 : Pipeline.Prefetch sig := ⟨1, ![main_v101.idx], fun | 0 => main_v101.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (v1 : BitVec 32) : Fin 3 → Nat :=
  let v4 : Index := Scalar.indexCast v1
  let c0_1 : Index := 0#32
  let c0_2 : Index := 0#32
  ![v4.toNat, 0, 0]

def k1_off3 (v1 : BitVec 32) : Fin 3 → Nat :=
  let v9 : Index := Scalar.indexCast v1
  let c0_3 : Index := 0#32
  let c0_4 : Index := 0#32
  ![v9.toNat, 0, 0]
def k1_off4 (v1 : BitVec 32) : Fin 3 → Nat :=
  let v24 : Index := Scalar.indexCast v1
  let c0_8 : Index := 0#32
  let c0_9 : Index := 0#32
  ![v24.toNat, 0, 0]
def k1_off5 (v1 : BitVec 32) : Fin 3 → Nat :=
  let v30 : Index := Scalar.indexCast v1
  let c0_11 : Index := 0#32
  let c0_12 : Index := 0#32
  ![v30.toNat, 0, 0]

def k1_chk1 (v1 : BitVec 32) : Prop :=
  (∀ a, (k1_off2 v1) a + S1x3072x768.size a ≤ S6x3072x768.size a) ∧
  (∀ a, (k1_off3 v1) a + S1x1x3072.size a ≤ S6x1x3072.size a) ∧
  (∀ a, (k1_off4 v1) a + S1x768x3072.size a ≤ S6x768x3072.size a) ∧
  (∀ a, (k1_off5 v1) a + S1x1x768.size a ≤ S6x1x768.size a)
theorem k1_off2_inb : ∀ (v1 : BitVec 32) (k1_hw1 : k1_chk1 v1), ∀ a, (k1_off2 v1) a + S1x3072x768.size a ≤ S6x3072x768.size a := fun v1 k1_hw1 => k1_hw1.1
theorem k1_off3_inb : ∀ (v1 : BitVec 32) (k1_hw1 : k1_chk1 v1), ∀ a, (k1_off3 v1) a + S1x1x3072.size a ≤ S6x1x3072.size a := fun v1 k1_hw1 => k1_hw1.2.1
theorem k1_off4_inb : ∀ (v1 : BitVec 32) (k1_hw1 : k1_chk1 v1), ∀ a, (k1_off4 v1) a + S1x768x3072.size a ≤ S6x768x3072.size a := fun v1 k1_hw1 => k1_hw1.2.2.1
theorem k1_off5_inb : ∀ (v1 : BitVec 32) (k1_hw1 : k1_chk1 v1), ∀ a, (k1_off5 v1) a + S1x1x768.size a ≤ S6x1x768.size a := fun v1 k1_hw1 => k1_hw1.2.2.2

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6x3072x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S6x1x3072 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S6x768x3072 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S6x1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "mask" => some ⊥
  | "sqrt2" => some ((16777216 / 11863283 : ℝ) : EReal)
  | _ => none
-- ==== ReferenceIdeal.lean ====
abbrev S16x3x224x224 : Shape := ⟨4, ![16, 3, 224, 224]⟩
abbrev S768x3x16x16 : Shape := ⟨4, ![768, 3, 16, 16]⟩
abbrev S768 : Shape := ⟨1, ![768]⟩
abbrev S1x196x768 : Shape := ⟨3, ![1, 196, 768]⟩
abbrev S2304x768 : Shape := ⟨2, ![2304, 768]⟩
abbrev S2304 : Shape := ⟨1, ![2304]⟩
abbrev S768x768 : Shape := ⟨2, ![768, 768]⟩
abbrev S6x768 : Shape := ⟨2, ![6, 768]⟩
abbrev S6 : Shape := ⟨1, ![6]⟩
abbrev S6x3072x768 : Shape := ⟨3, ![6, 3072, 768]⟩
abbrev S6x3072 : Shape := ⟨2, ![6, 3072]⟩
abbrev S6x768x3072 : Shape := ⟨3, ![6, 768, 3072]⟩
abbrev S1000x768 : Shape := ⟨2, ![1000, 768]⟩
abbrev S1000 : Shape := ⟨1, ![1000]⟩
abbrev S16x3x14x16x14x16 : Shape := ⟨6, ![16, 3, 14, 16, 14, 16]⟩
abbrev S16x14x14x768 : Shape := ⟨4, ![16, 14, 14, 768]⟩
abbrev S16x196x768 : Shape := ⟨3, ![16, 196, 768]⟩
abbrev S1x1x768 : Shape := ⟨3, ![1, 1, 768]⟩
abbrev S_ : Shape := ⟨0, ![]⟩
abbrev S16x196 : Shape := ⟨2, ![16, 196]⟩
abbrev S16x196x1 : Shape := ⟨3, ![16, 196, 1]⟩
abbrev S768x2304 : Shape := ⟨2, ![768, 2304]⟩
abbrev S16x196x2304 : Shape := ⟨3, ![16, 196, 2304]⟩
abbrev S1x1x2304 : Shape := ⟨3, ![1, 1, 2304]⟩
abbrev S16x196x12x64 : Shape := ⟨4, ![16, 196, 12, 64]⟩
abbrev S16x12x196x64 : Shape := ⟨4, ![16, 12, 196, 64]⟩
abbrev S16x12x196x196 : Shape := ⟨4, ![16, 12, 196, 196]⟩
abbrev S16x12x196 : Shape := ⟨3, ![16, 12, 196]⟩
abbrev S16x12x196x1 : Shape := ⟨4, ![16, 12, 196, 1]⟩
abbrev S768x6 : Shape := ⟨2, ![768, 6]⟩
abbrev S16x196x6 : Shape := ⟨3, ![16, 196, 6]⟩
abbrev S1x1x6 : Shape := ⟨3, ![1, 1, 6]⟩
abbrev S16x196x2 : Shape := ⟨3, ![16, 196, 2]⟩
abbrev S3136x768 : Shape := ⟨2, ![3136, 768]⟩
abbrev S3136x2 : Shape := ⟨2, ![3136, 2]⟩
abbrev S3136x6 : Shape := ⟨2, ![3136, 6]⟩
abbrev S3136 : Shape := ⟨1, ![3136]⟩
abbrev S3136x1 : Shape := ⟨2, ![3136, 1]⟩
abbrev S3136x2x1 : Shape := ⟨3, ![3136, 2, 1]⟩
abbrev S3136x2x2 : Shape := ⟨3, ![3136, 2, 2]⟩
abbrev S1x3072x768 : Shape := ⟨3, ![1, 3072, 768]⟩
abbrev S3072x768 : Shape := ⟨2, ![3072, 768]⟩
abbrev S768x3072 : Shape := ⟨2, ![768, 3072]⟩
abbrev S3136x3072 : Shape := ⟨2, ![3136, 3072]⟩
abbrev S1x3072 : Shape := ⟨2, ![1, 3072]⟩
abbrev S3072 : Shape := ⟨1, ![3072]⟩
abbrev S1x768x3072 : Shape := ⟨3, ![1, 768, 3072]⟩
abbrev S1x768 : Shape := ⟨2, ![1, 768]⟩
abbrev S16x768 : Shape := ⟨2, ![16, 768]⟩
abbrev S768x1000 : Shape := ⟨2, ![768, 1000]⟩
abbrev S16x1000 : Shape := ⟨2, ![16, 1000]⟩
abbrev S1x1000 : Shape := ⟨2, ![1, 1000]⟩

abbrev nBuf : Space → Nat
  | .hbm => 374
  | .vmem => 0
  | .smem => 0
  | _ => 0

abbrev hbmTy0_0 (i : Nat) : BufTy := match i % 128 with
  | 0 => ⟨S16x3x224x224, .f32⟩
  | 1 => ⟨S768x3x16x16, .f32⟩
  | 2 => ⟨S768, .f32⟩
  | 3 => ⟨S1x196x768, .f32⟩
  | 4 => ⟨S768, .f32⟩
  | 5 => ⟨S768, .f32⟩
  | 6 => ⟨S2304x768, .f32⟩
  | 7 => ⟨S2304, .f32⟩
  | 8 => ⟨S768x768, .f32⟩
  | 9 => ⟨S768, .f32⟩
  | 10 => ⟨S6x768, .f32⟩
  | 11 => ⟨S6, .f32⟩
  | 12 => ⟨S6x3072x768, .f32⟩
  | 13 => ⟨S6x3072, .f32⟩
  | 14 => ⟨S6x768x3072, .f32⟩
  | 15 => ⟨S6x768, .f32⟩
  | 16 => ⟨S768, .f32⟩
  | 17 => ⟨S768, .f32⟩
  | 18 => ⟨S1000x768, .f32⟩
  | 19 => ⟨S1000, .f32⟩
  | 20 => ⟨S16x3x14x16x14x16, .f32⟩
  | 21 => ⟨S16x14x14x768, .f32⟩
  | 22 => ⟨S16x196x768, .f32⟩
  | 23 => ⟨S1x1x768, .f32⟩
  | 24 => ⟨S16x196x768, .f32⟩
  | 25 => ⟨S16x196x768, .f32⟩
  | 26 => ⟨S16x196x768, .f32⟩
  | 27 => ⟨S16x196x768, .f32⟩
  | 28 => ⟨S_, .f32⟩
  | 29 => ⟨S16x196, .f32⟩
  | 30 => ⟨S16x196x1, .f32⟩
  | 31 => ⟨S_, .f32⟩
  | 32 => ⟨S16x196x1, .f32⟩
  | 33 => ⟨S16x196x1, .f32⟩
  | 34 => ⟨S16x196x768, .f32⟩
  | 35 => ⟨S16x196x768, .f32⟩
  | 36 => ⟨S16x196x768, .f32⟩
  | 37 => ⟨S_, .f32⟩
  | 38 => ⟨S16x196, .f32⟩
  | 39 => ⟨S16x196x1, .f32⟩
  | 40 => ⟨S_, .f32⟩
  | 41 => ⟨S16x196x1, .f32⟩
  | 42 => ⟨S16x196x1, .f32⟩
  | 43 => ⟨S16x196x768, .f32⟩
  | 44 => ⟨S16x196x768, .f32⟩
  | 45 => ⟨S_, .f32⟩
  | 46 => ⟨S16x196x1, .f32⟩
  | 47 => ⟨S16x196x1, .f32⟩
  | 48 => ⟨S16x196x1, .f32⟩
  | 49 => ⟨S16x196x768, .f32⟩
  | 50 => ⟨S16x196x768, .f32⟩
  | 51 => ⟨S1x1x768, .f32⟩
  | 52 => ⟨S16x196x768, .f32⟩
  | 53 => ⟨S16x196x768, .f32⟩
  | 54 => ⟨S1x1x768, .f32⟩
  | 55 => ⟨S16x196x768, .f32⟩
  | 56 => ⟨S16x196x768, .f32⟩
  | 57 => ⟨S768x2304, .f32⟩
  | 58 => ⟨S16x196x2304, .f32⟩
  | 59 => ⟨S1x1x2304, .f32⟩
  | 60 => ⟨S16x196x2304, .f32⟩
  | 61 => ⟨S16x196x2304, .f32⟩
  | 62 => ⟨S16x196x768, .f32⟩
  | 63 => ⟨S16x196x768, .f32⟩
  | 64 => ⟨S16x196x768, .f32⟩
  | 65 => ⟨S16x196x12x64, .f32⟩
  | 66 => ⟨S16x12x196x64, .f32⟩
  | 67 => ⟨S16x196x12x64, .f32⟩
  | 68 => ⟨S16x12x196x64, .f32⟩
  | 69 => ⟨S16x196x12x64, .f32⟩
  | 70 => ⟨S16x12x196x64, .f32⟩
  | 71 => ⟨S16x12x196x196, .f32⟩
  | 72 => ⟨S_, .f32⟩
  | 73 => ⟨S_, .f32⟩
  | 74 => ⟨S16x12x196x196, .f32⟩
  | 75 => ⟨S16x12x196x196, .f32⟩
  | 76 => ⟨S_, .f32⟩
  | 77 => ⟨S16x12x196, .f32⟩
  | 78 => ⟨S_, .f32⟩
  | 79 => ⟨S16x12x196, .f32⟩
  | 80 => ⟨S16x12x196, .f32⟩
  | 81 => ⟨S16x12x196x1, .f32⟩
  | 82 => ⟨S16x12x196x196, .f32⟩
  | 83 => ⟨S16x12x196x196, .f32⟩
  | 84 => ⟨S16x12x196x196, .f32⟩
  | 85 => ⟨S_, .f32⟩
  | 86 => ⟨S16x12x196, .f32⟩
  | 87 => ⟨S16x12x196x1, .f32⟩
  | 88 => ⟨S16x12x196x196, .f32⟩
  | 89 => ⟨S16x12x196x196, .f32⟩
  | 90 => ⟨S16x12x196x64, .f32⟩
  | 91 => ⟨S16x196x12x64, .f32⟩
  | 92 => ⟨S16x196x768, .f32⟩
  | 93 => ⟨S768x768, .f32⟩
  | 94 => ⟨S16x196x768, .f32⟩
  | 95 => ⟨S1x1x768, .f32⟩
  | 96 => ⟨S16x196x768, .f32⟩
  | 97 => ⟨S16x196x768, .f32⟩
  | 98 => ⟨S16x196x768, .f32⟩
  | 99 => ⟨S768x6, .f32⟩
  | 100 => ⟨S16x196x6, .f32⟩
  | 101 => ⟨S1x1x6, .f32⟩
  | 102 => ⟨S16x196x6, .f32⟩
  | 103 => ⟨S16x196x6, .f32⟩
  | 104 => ⟨S_, .f32⟩
  | 105 => ⟨S16x196, .f32⟩
  | 106 => ⟨S_, .f32⟩
  | 107 => ⟨S16x196, .f32⟩
  | 108 => ⟨S16x196, .f32⟩
  | 109 => ⟨S16x196x1, .f32⟩
  | 110 => ⟨S16x196x6, .f32⟩
  | 111 => ⟨S16x196x6, .f32⟩
  | 112 => ⟨S16x196x6, .f32⟩
  | 113 => ⟨S_, .f32⟩
  | 114 => ⟨S16x196, .f32⟩
  | 115 => ⟨S16x196x1, .f32⟩
  | 116 => ⟨S16x196x6, .f32⟩
  | 117 => ⟨S16x196x6, .f32⟩
  | 118 => ⟨S16x196x2, .f32⟩
  | 119 => ⟨S16x196x2, .i32⟩
  | 120 => ⟨S3136x768, .f32⟩
  | 121 => ⟨S3136x2, .i32⟩
  | 122 => ⟨S3136x2, .f32⟩
  | 123 => ⟨S_, .f32⟩
  | 124 => ⟨S3136x6, .f32⟩
  | 125 => ⟨S3136, .i32⟩
  | 126 => ⟨S3136x1, .i32⟩
  | 127 => ⟨S_, .i32⟩
  | _ => ⟨S16x3x224x224, .f32⟩

abbrev hbmTy0_1 (i : Nat) : BufTy := match i % 128 with
  | 0 => ⟨S3136x1, .i32⟩
  | 1 => ⟨S3136x1, .i1⟩
  | 2 => ⟨S_, .i32⟩
  | 3 => ⟨S3136x1, .i32⟩
  | 4 => ⟨S3136x1, .i32⟩
  | 5 => ⟨S3136x1, .i32⟩
  | 6 => ⟨S_, .i32⟩
  | 7 => ⟨S3136x2, .i32⟩
  | 8 => ⟨S3136x2, .i1⟩
  | 9 => ⟨S_, .i32⟩
  | 10 => ⟨S3136x2, .i32⟩
  | 11 => ⟨S3136x2, .i32⟩
  | 12 => ⟨S3136x2, .i32⟩
  | 13 => ⟨S3136x2, .i32⟩
  | 14 => ⟨S3136x2x1, .i32⟩
  | 15 => ⟨S3136x2x1, .i32⟩
  | 16 => ⟨S3136x2x2, .i32⟩
  | 17 => ⟨S3136x6, .f32⟩
  | 18 => ⟨S_, .f32⟩
  | 19 => ⟨S3136x768, .f32⟩
  | 20 => ⟨S1x3072x768, .f32⟩
  | 21 => ⟨S3072x768, .f32⟩
  | 22 => ⟨S768x3072, .f32⟩
  | 23 => ⟨S3136x3072, .f32⟩
  | 24 => ⟨S1x3072, .f32⟩
  | 25 => ⟨S3072, .f32⟩
  | 26 => ⟨S1x3072, .f32⟩
  | 27 => ⟨S3136x3072, .f32⟩
  | 28 => ⟨S3136x3072, .f32⟩
  | 29 => ⟨S_, .f32⟩
  | 30 => ⟨S3136x3072, .f32⟩
  | 31 => ⟨S3136x3072, .f32⟩
  | 32 => ⟨S3136x3072, .f32⟩
  | 33 => ⟨S_, .f32⟩
  | 34 => ⟨S3136x3072, .f32⟩
  | 35 => ⟨S3136x3072, .f32⟩
  | 36 => ⟨S3136x3072, .f32⟩
  | 37 => ⟨S3136x3072, .f32⟩
  | 38 => ⟨S1x768x3072, .f32⟩
  | 39 => ⟨S768x3072, .f32⟩
  | 40 => ⟨S3072x768, .f32⟩
  | 41 => ⟨S3136x768, .f32⟩
  | 42 => ⟨S1x768, .f32⟩
  | 43 => ⟨S768, .f32⟩
  | 44 => ⟨S1x768, .f32⟩
  | 45 => ⟨S3136x768, .f32⟩
  | 46 => ⟨S3136x768, .f32⟩
  | 47 => ⟨S3136x1, .f32⟩
  | 48 => ⟨S3136x768, .f32⟩
  | 49 => ⟨S3136x768, .f32⟩
  | 50 => ⟨S3136x768, .f32⟩
  | 51 => ⟨S1x3072x768, .f32⟩
  | 52 => ⟨S3072x768, .f32⟩
  | 53 => ⟨S768x3072, .f32⟩
  | 54 => ⟨S3136x3072, .f32⟩
  | 55 => ⟨S1x3072, .f32⟩
  | 56 => ⟨S3072, .f32⟩
  | 57 => ⟨S1x3072, .f32⟩
  | 58 => ⟨S3136x3072, .f32⟩
  | 59 => ⟨S3136x3072, .f32⟩
  | 60 => ⟨S_, .f32⟩
  | 61 => ⟨S3136x3072, .f32⟩
  | 62 => ⟨S3136x3072, .f32⟩
  | 63 => ⟨S3136x3072, .f32⟩
  | 64 => ⟨S_, .f32⟩
  | 65 => ⟨S3136x3072, .f32⟩
  | 66 => ⟨S3136x3072, .f32⟩
  | 67 => ⟨S3136x3072, .f32⟩
  | 68 => ⟨S3136x3072, .f32⟩
  | 69 => ⟨S1x768x3072, .f32⟩
  | 70 => ⟨S768x3072, .f32⟩
  | 71 => ⟨S3072x768, .f32⟩
  | 72 => ⟨S3136x768, .f32⟩
  | 73 => ⟨S1x768, .f32⟩
  | 74 => ⟨S768, .f32⟩
  | 75 => ⟨S1x768, .f32⟩
  | 76 => ⟨S3136x768, .f32⟩
  | 77 => ⟨S3136x768, .f32⟩
  | 78 => ⟨S3136x1, .f32⟩
  | 79 => ⟨S3136x768, .f32⟩
  | 80 => ⟨S3136x768, .f32⟩
  | 81 => ⟨S3136x768, .f32⟩
  | 82 => ⟨S1x3072x768, .f32⟩
  | 83 => ⟨S3072x768, .f32⟩
  | 84 => ⟨S768x3072, .f32⟩
  | 85 => ⟨S3136x3072, .f32⟩
  | 86 => ⟨S1x3072, .f32⟩
  | 87 => ⟨S3072, .f32⟩
  | 88 => ⟨S1x3072, .f32⟩
  | 89 => ⟨S3136x3072, .f32⟩
  | 90 => ⟨S3136x3072, .f32⟩
  | 91 => ⟨S_, .f32⟩
  | 92 => ⟨S3136x3072, .f32⟩
  | 93 => ⟨S3136x3072, .f32⟩
  | 94 => ⟨S3136x3072, .f32⟩
  | 95 => ⟨S_, .f32⟩
  | 96 => ⟨S3136x3072, .f32⟩
  | 97 => ⟨S3136x3072, .f32⟩
  | 98 => ⟨S3136x3072, .f32⟩
  | 99 => ⟨S3136x3072, .f32⟩
  | 100 => ⟨S1x768x3072, .f32⟩
  | 101 => ⟨S768x3072, .f32⟩
  | 102 => ⟨S3072x768, .f32⟩
  | 103 => ⟨S3136x768, .f32⟩
  | 104 => ⟨S1x768, .f32⟩
  | 105 => ⟨S768, .f32⟩
  | 106 => ⟨S1x768, .f32⟩
  | 107 => ⟨S3136x768, .f32⟩
  | 108 => ⟨S3136x768, .f32⟩
  | 109 => ⟨S3136x1, .f32⟩
  | 110 => ⟨S3136x768, .f32⟩
  | 111 => ⟨S3136x768, .f32⟩
  | 112 => ⟨S3136x768, .f32⟩
  | 113 => ⟨S1x3072x768, .f32⟩
  | 114 => ⟨S3072x768, .f32⟩
  | 115 => ⟨S768x3072, .f32⟩
  | 116 => ⟨S3136x3072, .f32⟩
  | 117 => ⟨S1x3072, .f32⟩
  | 118 => ⟨S3072, .f32⟩
  | 119 => ⟨S1x3072, .f32⟩
  | 120 => ⟨S3136x3072, .f32⟩
  | 121 => ⟨S3136x3072, .f32⟩
  | 122 => ⟨S_, .f32⟩
  | 123 => ⟨S3136x3072, .f32⟩
  | 124 => ⟨S3136x3072, .f32⟩
  | 125 => ⟨S3136x3072, .f32⟩
  | 126 => ⟨S_, .f32⟩
  | 127 => ⟨S3136x3072, .f32⟩
  | _ => ⟨S16x3x224x224, .f32⟩

abbrev hbmTy0_2 (i : Nat) : BufTy := match i % 128 with
  | 0 => ⟨S3136x3072, .f32⟩
  | 1 => ⟨S3136x3072, .f32⟩
  | 2 => ⟨S3136x3072, .f32⟩
  | 3 => ⟨S1x768x3072, .f32⟩
  | 4 => ⟨S768x3072, .f32⟩
  | 5 => ⟨S3072x768, .f32⟩
  | 6 => ⟨S3136x768, .f32⟩
  | 7 => ⟨S1x768, .f32⟩
  | 8 => ⟨S768, .f32⟩
  | 9 => ⟨S1x768, .f32⟩
  | 10 => ⟨S3136x768, .f32⟩
  | 11 => ⟨S3136x768, .f32⟩
  | 12 => ⟨S3136x1, .f32⟩
  | 13 => ⟨S3136x768, .f32⟩
  | 14 => ⟨S3136x768, .f32⟩
  | 15 => ⟨S3136x768, .f32⟩
  | 16 => ⟨S1x3072x768, .f32⟩
  | 17 => ⟨S3072x768, .f32⟩
  | 18 => ⟨S768x3072, .f32⟩
  | 19 => ⟨S3136x3072, .f32⟩
  | 20 => ⟨S1x3072, .f32⟩
  | 21 => ⟨S3072, .f32⟩
  | 22 => ⟨S1x3072, .f32⟩
  | 23 => ⟨S3136x3072, .f32⟩
  | 24 => ⟨S3136x3072, .f32⟩
  | 25 => ⟨S_, .f32⟩
  | 26 => ⟨S3136x3072, .f32⟩
  | 27 => ⟨S3136x3072, .f32⟩
  | 28 => ⟨S3136x3072, .f32⟩
  | 29 => ⟨S_, .f32⟩
  | 30 => ⟨S3136x3072, .f32⟩
  | 31 => ⟨S3136x3072, .f32⟩
  | 32 => ⟨S3136x3072, .f32⟩
  | 33 => ⟨S3136x3072, .f32⟩
  | 34 => ⟨S1x768x3072, .f32⟩
  | 35 => ⟨S768x3072, .f32⟩
  | 36 => ⟨S3072x768, .f32⟩
  | 37 => ⟨S3136x768, .f32⟩
  | 38 => ⟨S1x768, .f32⟩
  | 39 => ⟨S768, .f32⟩
  | 40 => ⟨S1x768, .f32⟩
  | 41 => ⟨S3136x768, .f32⟩
  | 42 => ⟨S3136x768, .f32⟩
  | 43 => ⟨S3136x1, .f32⟩
  | 44 => ⟨S3136x768, .f32⟩
  | 45 => ⟨S3136x768, .f32⟩
  | 46 => ⟨S3136x768, .f32⟩
  | 47 => ⟨S1x3072x768, .f32⟩
  | 48 => ⟨S3072x768, .f32⟩
  | 49 => ⟨S768x3072, .f32⟩
  | 50 => ⟨S3136x3072, .f32⟩
  | 51 => ⟨S1x3072, .f32⟩
  | 52 => ⟨S3072, .f32⟩
  | 53 => ⟨S1x3072, .f32⟩
  | 54 => ⟨S3136x3072, .f32⟩
  | 55 => ⟨S3136x3072, .f32⟩
  | 56 => ⟨S_, .f32⟩
  | 57 => ⟨S3136x3072, .f32⟩
  | 58 => ⟨S3136x3072, .f32⟩
  | 59 => ⟨S3136x3072, .f32⟩
  | 60 => ⟨S_, .f32⟩
  | 61 => ⟨S3136x3072, .f32⟩
  | 62 => ⟨S3136x3072, .f32⟩
  | 63 => ⟨S3136x3072, .f32⟩
  | 64 => ⟨S3136x3072, .f32⟩
  | 65 => ⟨S1x768x3072, .f32⟩
  | 66 => ⟨S768x3072, .f32⟩
  | 67 => ⟨S3072x768, .f32⟩
  | 68 => ⟨S3136x768, .f32⟩
  | 69 => ⟨S1x768, .f32⟩
  | 70 => ⟨S768, .f32⟩
  | 71 => ⟨S1x768, .f32⟩
  | 72 => ⟨S3136x768, .f32⟩
  | 73 => ⟨S3136x768, .f32⟩
  | 74 => ⟨S3136x1, .f32⟩
  | 75 => ⟨S3136x768, .f32⟩
  | 76 => ⟨S3136x768, .f32⟩
  | 77 => ⟨S3136x768, .f32⟩
  | 78 => ⟨S16x196x768, .f32⟩
  | 79 => ⟨S_, .f32⟩
  | 80 => ⟨S16x196, .f32⟩
  | 81 => ⟨S16x196x1, .f32⟩
  | 82 => ⟨S_, .f32⟩
  | 83 => ⟨S16x196x1, .f32⟩
  | 84 => ⟨S16x196x1, .f32⟩
  | 85 => ⟨S16x196x768, .f32⟩
  | 86 => ⟨S16x196x768, .f32⟩
  | 87 => ⟨S16x196x768, .f32⟩
  | 88 => ⟨S_, .f32⟩
  | 89 => ⟨S16x196, .f32⟩
  | 90 => ⟨S16x196x1, .f32⟩
  | 91 => ⟨S_, .f32⟩
  | 92 => ⟨S16x196x1, .f32⟩
  | 93 => ⟨S16x196x1, .f32⟩
  | 94 => ⟨S16x196x768, .f32⟩
  | 95 => ⟨S16x196x768, .f32⟩
  | 96 => ⟨S_, .f32⟩
  | 97 => ⟨S16x196x1, .f32⟩
  | 98 => ⟨S16x196x1, .f32⟩
  | 99 => ⟨S16x196x1, .f32⟩
  | 100 => ⟨S16x196x768, .f32⟩
  | 101 => ⟨S16x196x768, .f32⟩
  | 102 => ⟨S1x1x768, .f32⟩
  | 103 => ⟨S16x196x768, .f32⟩
  | 104 => ⟨S16x196x768, .f32⟩
  | 105 => ⟨S1x1x768, .f32⟩
  | 106 => ⟨S16x196x768, .f32⟩
  | 107 => ⟨S16x196x768, .f32⟩
  | 108 => ⟨S_, .f32⟩
  | 109 => ⟨S16x768, .f32⟩
  | 110 => ⟨S_, .f32⟩
  | 111 => ⟨S16x768, .f32⟩
  | 112 => ⟨S16x768, .f32⟩
  | 113 => ⟨S768x1000, .f32⟩
  | 114 => ⟨S16x1000, .f32⟩
  | 115 => ⟨S1x1000, .f32⟩
  | 116 => ⟨S16x1000, .f32⟩
  | 117 => ⟨S16x1000, .f32⟩
  | _ => ⟨S16x3x224x224, .f32⟩

abbrev hbmTy (i : Nat) : BufTy := match i / 128 with
  | 0 => hbmTy0_0 i
  | 1 => hbmTy0_1 i
  | 2 => hbmTy0_2 i
  | _ => ⟨S16x3x224x224, .f32⟩

abbrev bufTy : (tb : Table) → Fin (tcTables nBuf tb) → BufTy
  | .hbm, ⟨i, _⟩ => hbmTy i
  | _, _ => ⟨S16x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_v16 : Ref sig .tc := ⟨.hbm, 39, rfl⟩
abbrev main_cst_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_4 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_5 : Ref sig .tc := ⟨.hbm, 76, rfl⟩
abbrev main_v50 : Ref sig .tc := ⟨.hbm, 77, rfl⟩
abbrev main_cst_6 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_7 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_8 : Ref sig .tc := ⟨.hbm, 104, rfl⟩
abbrev main_v75 : Ref sig .tc := ⟨.hbm, 105, rfl⟩
abbrev main_cst_9 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_10 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_values : Ref sig .tc := ⟨.hbm, 118, rfl⟩
abbrev main_indices : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_11 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c : Ref sig .tc := ⟨.hbm, 127, rfl⟩
abbrev main_v92 : Ref sig .tc := ⟨.hbm, 128, rfl⟩
abbrev main_v93 : Ref sig .tc := ⟨.hbm, 129, rfl⟩
abbrev main_c_12 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_13 : Ref sig .tc := ⟨.hbm, 134, rfl⟩
abbrev main_v97 : Ref sig .tc := ⟨.hbm, 135, rfl⟩
abbrev main_v98 : Ref sig .tc := ⟨.hbm, 136, rfl⟩
abbrev main_c_14 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_15 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_16 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_17 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_cst_18 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_cst_19 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_cst_20 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_cst_21 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_cst_22 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_cst_23 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_cst_24 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_cst_25 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_cst_26 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩
abbrev main_cst_27 : Ref sig .tc := ⟨.hbm, 316, rfl⟩
abbrev main_v265 : Ref sig .tc := ⟨.hbm, 317, rfl⟩
abbrev main_v266 : Ref sig .tc := ⟨.hbm, 318, rfl⟩
abbrev main_v267 : Ref sig .tc := ⟨.hbm, 319, rfl⟩
abbrev main_v268 : Ref sig .tc := ⟨.hbm, 320, rfl⟩
abbrev main_v269 : Ref sig .tc := ⟨.hbm, 321, rfl⟩
abbrev main_v270 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_cst_28 : Ref sig .tc := ⟨.hbm, 335, rfl⟩
abbrev main_v283 : Ref sig .tc := ⟨.hbm, 336, rfl⟩
abbrev main_v284 : Ref sig .tc := ⟨.hbm, 337, rfl⟩
abbrev main_cst_29 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_cst_30 : Ref sig .tc := ⟨.hbm, 344, rfl⟩
abbrev main_v290 : Ref sig .tc := ⟨.hbm, 345, rfl⟩
abbrev main_v291 : Ref sig .tc := ⟨.hbm, 346, rfl⟩
abbrev main_cst_31 : Ref sig .tc := ⟨.hbm, 347, rfl⟩
abbrev main_v292 : Ref sig .tc := ⟨.hbm, 348, rfl⟩
abbrev main_v293 : Ref sig .tc := ⟨.hbm, 349, rfl⟩
abbrev main_v294 : Ref sig .tc := ⟨.hbm, 350, rfl⟩
abbrev main_v295 : Ref sig .tc := ⟨.hbm, 351, rfl⟩
abbrev main_cst_32 : Ref sig .tc := ⟨.hbm, 352, rfl⟩
abbrev main_v296 : Ref sig .tc := ⟨.hbm, 353, rfl⟩
abbrev main_v297 : Ref sig .tc := ⟨.hbm, 354, rfl⟩
abbrev main_v298 : Ref sig .tc := ⟨.hbm, 355, rfl⟩
abbrev main_v299 : Ref sig .tc := ⟨.hbm, 356, rfl⟩
abbrev main_v300 : Ref sig .tc := ⟨.hbm, 357, rfl⟩
abbrev main_v301 : Ref sig .tc := ⟨.hbm, 358, rfl⟩
abbrev main_v302 : Ref sig .tc := ⟨.hbm, 359, rfl⟩
abbrev main_v303 : Ref sig .tc := ⟨.hbm, 360, rfl⟩
abbrev main_v304 : Ref sig .tc := ⟨.hbm, 361, rfl⟩
abbrev main_v305 : Ref sig .tc := ⟨.hbm, 362, rfl⟩
abbrev main_v306 : Ref sig .tc := ⟨.hbm, 363, rfl⟩
abbrev main_cst_33 : Ref sig .tc := ⟨.hbm, 364, rfl⟩
abbrev main_v307 : Ref sig .tc := ⟨.hbm, 365, rfl⟩
abbrev main_cst_34 : Ref sig .tc := ⟨.hbm, 366, rfl⟩
abbrev main_v308 : Ref sig .tc := ⟨.hbm, 367, rfl⟩
abbrev main_v309 : Ref sig .tc := ⟨.hbm, 368, rfl⟩
abbrev main_v310 : Ref sig .tc := ⟨.hbm, 369, rfl⟩
abbrev main_v311 : Ref sig .tc := ⟨.hbm, 370, rfl⟩
abbrev main_v312 : Ref sig .tc := ⟨.hbm, 371, rfl⟩
abbrev main_v313 : Ref sig .tc := ⟨.hbm, 372, rfl⟩
abbrev main_v314 : Ref sig .tc := ⟨.hbm, 373, rfl⟩

abbrev nD : Nat := 1
abbrev τ : Topo := Topo.v7x

variable {F : FTy → Type} [FloatOps F]
-- ==== Proof.Ideal.AttnRegion.lean ====
/- The attention call: one grid point handles one image. Stated for any contents of the buffers at the entry:
   what each window's staging buffer holds, what the body leaves in the output's, and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the buffers when the region is entered
variable (V : (c : Dev nD) → (b : Ref sig .tc) → Buf (Elt F) ((c : Thread nD τ).loc b))

/-- The block of window `w` at grid point `t`, read off the array as the call finds it. -/
def blkIn0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input's staging buffer holds its block at every point, whether it was fetched there or stayed from before. -/

theorem stg0_0 {c : Dev nD} (d : Dat τ (Elt F) Unit ℕ (UR sig nD τ) ℕ cfg0 c) (hA : d.A 0 = V c (Pipeline.arrRef spec0 0))
    (ha : ∀ t, d.after 0 t = blkIn0 V c 0 t) (t : Fin (cfg0).N) (y) : d.before 0 t y = blkIn0 V c 0 t :=
  (d.before_in_eq_fetched 0 rfl (fun _ => rfl) (fun _ _ _ => rfl) (fun t => by rw [ha]; unfold Dat.blockOf blkIn0; rw [hA]; try rfl) t y).trans
    (by unfold Dat.fetched Dat.blockOf blkIn0; rw [hA]; try rfl)
theorem stg0_1 {c : Dev nD} (d : Dat τ (Elt F) Unit ℕ (UR sig nD τ) ℕ cfg0 c) (hA : d.A 1 = V c (Pipeline.arrRef spec0 1))
    (ha : ∀ t, d.after 1 t = blkIn0 V c 1 t) (t : Fin (cfg0).N) (y) : d.before 1 t y = blkIn0 V c 1 t :=
  (d.before_in_eq_fetched 1 rfl (fun _ => rfl) (fun _ _ _ => rfl) (fun t => by rw [ha]; unfold Dat.blockOf blkIn0; rw [hA]; try rfl) t y).trans
    (by unfold Dat.fetched Dat.blockOf blkIn0; rw [hA]; try rfl)
theorem stg0_2 {c : Dev nD} (d : Dat τ (Elt F) Unit ℕ (UR sig nD τ) ℕ cfg0 c) (hA : d.A 2 = V c (Pipeline.arrRef spec0 2))
    (ha : ∀ t, d.after 2 t = blkIn0 V c 2 t) (t : Fin (cfg0).N) (y) : d.before 2 t y = blkIn0 V c 2 t :=
  (d.before_in_eq_fetched 2 rfl (fun _ => rfl) (fun _ _ _ => rfl) (fun t => by rw [ha]; unfold Dat.blockOf blkIn0; rw [hA]; try rfl) t y).trans
    (by unfold Dat.fetched Dat.blockOf blkIn0; rw [hA]; try rfl)
theorem stg0_3 {c : Dev nD} (d : Dat τ (Elt F) Unit ℕ (UR sig nD τ) ℕ cfg0 c) (hA : d.A 3 = V c (Pipeline.arrRef spec0 3))
    (ha : ∀ t, d.after 3 t = blkIn0 V c 3 t) (t : Fin (cfg0).N) (y) : d.before 3 t y = blkIn0 V c 3 t :=
  (d.before_in_eq_fetched 3 rfl (fun _ => rfl) (fun _ _ _ => rfl) (fun t => by rw [ha]; unfold Dat.blockOf blkIn0; rw [hA]; try rfl) t y).trans
    (by unfold Dat.fetched Dat.blockOf blkIn0; rw [hA]; try rfl)
theorem stg0_4 {c : Dev nD} (d : Dat τ (Elt F) Unit ℕ (UR sig nD τ) ℕ cfg0 c) (hA : d.A 4 = V c (Pipeline.arrRef spec0 4))
    (ha : ∀ t, d.after 4 t = blkIn0 V c 4 t) (t : Fin (cfg0).N) (y) : d.before 4 t y = blkIn0 V c 4 t :=
  (d.before_in_eq_fetched 4 rfl (fun _ => rfl) (fun _ _ _ => rfl) (fun t => by rw [ha]; unfold Dat.blockOf blkIn0; rw [hA]; try rfl) t y).trans
    (by unfold Dat.fetched Dat.blockOf blkIn0; rw [hA]; try rfl)
theorem stg0_5 {c : Dev nD} (d : Dat τ (Elt F) Unit ℕ (UR sig nD τ) ℕ cfg0 c) (hA : d.A 5 = V c (Pipeline.arrRef spec0 5))
    (ha : ∀ t, d.after 5 t = blkIn0 V c 5 t) (t : Fin (cfg0).N) (y) : d.before 5 t y = blkIn0 V c 5 t :=
  (d.before_in_eq_fetched 5 rfl (fun _ => rfl) (fun _ _ _ => rfl) (fun t => by rw [ha]; unfold Dat.blockOf blkIn0; rw [hA]; try rfl) t y).trans
    (by unfold Dat.fetched Dat.blockOf blkIn0; rw [hA]; try rfl)
theorem stg0_6 {c : Dev nD} (d : Dat τ (Elt F) Unit ℕ (UR sig nD τ) ℕ cfg0 c) (hA : d.A 6 = V c (Pipeline.arrRef spec0 6))
    (ha : ∀ t, d.after 6 t = blkIn0 V c 6 t) (t : Fin (cfg0).N) (y) : d.before 6 t y = blkIn0 V c 6 t :=
  (d.before_in_eq_fetched 6 rfl (fun _ => rfl) (fun _ _ _ => rfl) (fun t => by rw [ha]; unfold Dat.blockOf blkIn0; rw [hA]; try rfl) t y).trans
    (by unfold Dat.fetched Dat.blockOf blkIn0; rw [hA]; try rfl)

abbrev acc0_0 : Rect S1x224x768 := Rect.unit (s := S1x224x768) ![0, 0, 0] S1x224x768.size inb_S1x224x768_S1x224x768_0_0_0
abbrev acc0_1 : Rect S1x768 := Rect.unit (s := S1x768) ![0, 0] S1x768.size inb_S1x768_S1x768_0_0
abbrev acc0_2 : Rect S2304x768 := Rect.unit (s := S2304x768) ![0, 0] S2304x768.size inb_S2304x768_S2304x768_0_0
abbrev acc0_3 : Rect S1x2304 := Rect.unit (s := S1x2304) ![0, 0] S1x2304.size inb_S1x2304_S1x2304_0_0
abbrev acc0_4 : Rect S768x768 := Rect.unit (s := S768x768) ![0, 0] S768x768.size inb_S768x768_S768x768_0_0

/-! Values of the body that the stored value names more than once. -/

def attnIota (x0 : Vec F S1x224x768 .f32) (x1 : Vec F S1x768 .f32) (x2 : Vec F S1x768 .f32) (x3 : Vec F S2304x768 .bf16) (x4 : Vec F S1x2304 .f32) (x5 : Vec F S768x768 .bf16) (x6 : Vec F S1x768 .f32) : IVec S224x224 32 :=
  iota .tc S224x224 32 [1] iota_S224x224_d1_w32
def attnQkv (x0 : Vec F S1x224x768 .f32) (x1 : Vec F S1x768 .f32) (x2 : Vec F S1x768 .f32) (x3 : Vec F S2304x768 .bf16) (x4 : Vec F S1x2304 .f32) (x5 : Vec F S768x768 .bf16) (x6 : Vec F S1x768 .f32) : FVec F S224x2304 .f32 :=
  k0_pay4 (View.ld x0 acc0_0) (View.ld x1 acc0_1) (View.ld x2 acc0_1) (View.ld x3 acc0_2) (View.ld x4 acc0_3)
def attnCut (x0 : Vec F S1x224x768 .f32) (x1 : Vec F S1x768 .f32) (x2 : Vec F S1x768 .f32) (x3 : Vec F S2304x768 .bf16) (x4 : Vec F S1x2304 .f32) (x5 : Vec F S768x768 .bf16) (x6 : Vec F S1x768 .f32) : IVec S224x224 32 :=
  k0_pay5
def attnMask (x0 : Vec F S1x224x768 .f32) (x1 : Vec F S1x768 .f32) (x2 : Vec F S1x768 .f32) (x3 : Vec F S2304x768 .bf16) (x4 : Vec F S1x2304 .f32) (x5 : Vec F S768x768 .bf16) (x6 : Vec F S1x768 .f32) : IVec S224x224 1 :=
  k0_pay6 (attnIota x0 x1 x2 x3 x4 x5 x6) (attnCut x0 x1 x2 x3 x4 x5 x6)

/-- What the body stores in the output block, as a function of the seven input blocks. -/
def attnOut (x0 : Vec F S1x224x768 .f32) (x1 : Vec F S1x768 .f32) (x2 : Vec F S1x768 .f32) (x3 : Vec F S2304x768 .bf16) (x4 : Vec F S1x2304 .f32) (x5 : Vec F S768x768 .bf16) (x6 : Vec F S1x768 .f32) : Vec F S1x224x768 .f32 :=
  View.canon [⟨acc0_0, k0_pay2 (k0_pay3 (View.ld x0 acc0_0)) (k0_pay7 (attnQkv x0 x1 x2 x3 x4 x5 x6) (attnIota x0 x1 x2 x3 x4 x5 x6) (attnCut x0 x1 x2 x3 x4 x5 x6)) (k0_pay8 (attnQkv x0 x1 x2 x3 x4 x5 x6) (attnIota x0 x1 x2 x3 x4 x5 x6) (attnCut x0 x1 x2 x3 x4 x5 x6)) (k0_pay12 (attnMask x0 x1 x2 x3 x4 x5 x6) (k0_pay9 (attnQkv x0 x1 x2 x3 x4 x5 x6)) (k0_pay10 (attnQkv x0 x1 x2 x3 x4 x5 x6)) (k0_pay11 (F := F))) (k0_pay13 (attnQkv x0 x1 x2 x3 x4 x5 x6) (attnMask x0 x1 x2 x3 x4 x5 x6)) (k0_pay17 (k0_pay14 (attnQkv x0 x1 x2 x3 x4 x5 x6)) (k0_pay15 (attnQkv x0 x1 x2 x3 x4 x5 x6) (attnMask x0 x1 x2 x3 x4 x5 x6)) (k0_pay16 (attnQkv x0 x1 x2 x3 x4 x5 x6) (attnMask x0 x1 x2 x3 x4 x5 x6))) (k0_pay18 (attnQkv x0 x1 x2 x3 x4 x5 x6) (attnMask x0 x1 x2 x3 x4 x5 x6)) (k0_pay21 (k0_pay19 (attnQkv x0 x1 x2 x3 x4 x5 x6)) (k0_pay20 (attnQkv x0 x1 x2 x3 x4 x5 x6) (attnMask x0 x1 x2 x3 x4 x5 x6))) (k0_pay22 (attnQkv x0 x1 x2 x3 x4 x5 x6) (attnMask x0 x1 x2 x3 x4 x5 x6)) (k0_pay23 (attnQkv x0 x1 x2 x3 x4 x5 x6) (attnMask x0 x1 x2 x3 x4 x5 x6)) (k0_pay26 (attnMask x0 x1 x2 x3 x4 x5 x6) (k0_pay24 (attnQkv x0 x1 x2 x3 x4 x5 x6)) (k0_pay25 (attnQkv x0 x1 x2 x3 x4 x5 x6))) (k0_pay27 (attnQkv x0 x1 x2 x3 x4 x5 x6) (attnMask x0 x1 x2 x3 x4 x5 x6)) (k0_pay1 (k0_pay28 (attnQkv x0 x1 x2 x3 x4 x5 x6)) (k0_pay29 (attnQkv x0 x1 x2 x3 x4 x5 x6) (attnMask x0 x1 x2 x3 x4 x5 x6)) (k0_pay30 (attnQkv x0 x1 x2 x3 x4 x5 x6) (attnMask x0 x1 x2 x3 x4 x5 x6))) (View.ld x5 acc0_4) (View.ld x6 acc0_1)⟩]

/-- The one store writes the whole block. -/
theorem attnOut_cover (p0 : Vec F S1x224x768 .f32) (y : S1x224x768.Idx) :
    ∃ pc ∈ ([⟨acc0_0, p0⟩] : List (View.Piece (Elt F) S1x224x768 .f32)), y ∈ pc.1.set :=
  View.cover_of_tiled [⟨acc0_0, p0⟩] S1x224x768.size (by rfl) y

set_option maxHeartbeats 1000000 in
/-- The body, given its inputs' blocks, ends with them unchanged and the output block at `attnOut` of them. -/
theorem attn_triple (c : Dev nD) (E : Set ℕ) (i : grid0.Coords) (arg1 : Memref sig .tc .vmem S1x224x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S2304x768 .bf16) (harg4 : arg4.IsWhole) (arg5 : Memref sig .tc .vmem S1x2304 .f32) (harg5 : arg5.IsWhole) (arg6 : Memref sig .tc .vmem S768x768 .bf16) (harg6 : arg6.IsWhole) (arg7 : Memref sig .tc .vmem S1x768 .f32) (harg7 : arg7.IsWhole) (arg8 : Memref sig .tc .vmem S1x224x768 .f32) (harg8 : arg8.IsWhole)
    (x0 : Vec F S1x224x768 .f32) (x1 : Vec F S1x768 .f32) (x2 : Vec F S1x768 .f32) (x3 : Vec F S2304x768 .bf16) (x4 : Vec F S1x2304 .f32) (x5 : Vec F S768x768 .bf16) (x6 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (attnOut x0 x1 x2 x3 x4 x5 x6)) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8) K := by
  simp only [cc0__attn_kernel_eq_skeleton]; unfold cc0__attn_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (attnOut_cover _)).trans ?_
  rfl

/-- The call's data: the arrays at entry, each staging buffer after the body, nothing owed, full shares. -/
def attnDat (c : Dev nD) : Dat τ (Elt F) Unit ℕ (UR sig nD τ) ℕ cfg0 c where
  A w := V c (Pipeline.arrRef spec0 w)
  after w t := match w with
    | ⟨0, _⟩ => blkIn0 V c 0 t
    | ⟨1, _⟩ => blkIn0 V c 1 t
    | ⟨2, _⟩ => blkIn0 V c 2 t
    | ⟨3, _⟩ => blkIn0 V c 3 t
    | ⟨4, _⟩ => blkIn0 V c 4 t
    | ⟨5, _⟩ => blkIn0 V c 5 t
    | ⟨6, _⟩ => blkIn0 V c 6 t
    | ⟨7, _⟩ => attnOut (blkIn0 V c 0 t) (blkIn0 V c 1 t) (blkIn0 V c 2 t) (blkIn0 V c 3 t) (blkIn0 V c 4 t) (blkIn0 V c 5 t) (blkIn0 V c 6 t)
  Φ _ := Pipeline.ΦA spec0 c
  q _ := fullShare
  owed _ := 0

/-- The arrays of the data are the contents at entry. -/
theorem attnDat_A (c : Dev nD) (w : Fin cfg0.W) : (attnDat V c).A w = V c (Pipeline.arrRef spec0 w) := by
  dsimp only [attnDat]

/-! What the body leaves, window by window. -/
theorem leave0_0 (c : Dev nD) (t : Fin cfg0.N) : (attnDat V c).after 0 t = blkIn0 V c 0 t := by dsimp only [attnDat]
theorem leave0_1 (c : Dev nD) (t : Fin cfg0.N) : (attnDat V c).after 1 t = blkIn0 V c 1 t := by dsimp only [attnDat]
theorem leave0_2 (c : Dev nD) (t : Fin cfg0.N) : (attnDat V c).after 2 t = blkIn0 V c 2 t := by dsimp only [attnDat]
theorem leave0_3 (c : Dev nD) (t : Fin cfg0.N) : (attnDat V c).after 3 t = blkIn0 V c 3 t := by dsimp only [attnDat]
theorem leave0_4 (c : Dev nD) (t : Fin cfg0.N) : (attnDat V c).after 4 t = blkIn0 V c 4 t := by dsimp only [attnDat]
theorem leave0_5 (c : Dev nD) (t : Fin cfg0.N) : (attnDat V c).after 5 t = blkIn0 V c 5 t := by dsimp only [attnDat]
theorem leave0_6 (c : Dev nD) (t : Fin cfg0.N) : (attnDat V c).after 6 t = blkIn0 V c 6 t := by dsimp only [attnDat]
theorem leave0_7 (c : Dev nD) (t : Fin cfg0.N) : (attnDat V c).after 7 t = attnOut (blkIn0 V c 0 t) (blkIn0 V c 1 t) (blkIn0 V c 2 t) (blkIn0 V c 3 t) (blkIn0 V c 4 t) (blkIn0 V c 5 t) (blkIn0 V c 6 t) := by dsimp only [attnDat]

/-! What each input's staging buffer holds before the body. -/
theorem hold0_0 (c : Dev nD) (t : Fin cfg0.N) (d) : (attnDat V c).before 0 t d = blkIn0 V c 0 t :=
  stg0_0 V (attnDat V c) (attnDat_A V c 0) (leave0_0 V c) t d
theorem hold0_1 (c : Dev nD) (t : Fin cfg0.N) (d) : (attnDat V c).before 1 t d = blkIn0 V c 1 t :=  stg0_1 V (attnDat V c) (attnDat_A V c 1) (leave0_1 V c) t d
theorem hold0_2 (c : Dev nD) (t : Fin cfg0.N) (d) : (attnDat V c).before 2 t d = blkIn0 V c 2 t :=
  stg0_2 V (attnDat V c) (attnDat_A V c 2) (leave0_2 V c) t d
theorem hold0_3 (c : Dev nD) (t : Fin cfg0.N) (d) : (attnDat V c).before 3 t d = blkIn0 V c 3 t :=
  stg0_3 V (attnDat V c) (attnDat_A V c 3) (leave0_3 V c) t d
theorem hold0_4 (c : Dev nD) (t : Fin cfg0.N) (d) : (attnDat V c).before 4 t d = blkIn0 V c 4 t :=
  stg0_4 V (attnDat V c) (attnDat_A V c 4) (leave0_4 V c) t d
theorem hold0_5 (c : Dev nD) (t : Fin cfg0.N) (d) : (attnDat V c).before 5 t d = blkIn0 V c 5 t :=
  stg0_5 V (attnDat V c) (attnDat_A V c 5) (leave0_5 V c) t d
theorem hold0_6 (c : Dev nD) (t : Fin cfg0.N) (d) : (attnDat V c).before 6 t d = blkIn0 V c 6 t :=
  stg0_6 V (attnDat V c) (attnDat_A V c 6) (leave0_6 V c) t d

/-- What the body is given at point `t` -/
def bodyPre0 (c : Dev nD) (t : Fin cfg0.N) : sProp 𝕄 :=
  iprop((attnDat V c).Φ t.castSucc ∗ (attnDat V c).owesAt () t.castSucc
    ∗ (∃ d, owns (c : Thread nD τ) (st0_0 t) fullShare ((attnDat V c).before 0 t d))
    ∗ (∃ d, owns (c : Thread nD τ) (st0_1 t) fullShare ((attnDat V c).before 1 t d))
    ∗ (∃ d, owns (c : Thread nD τ) (st0_2 t) fullShare ((attnDat V c).before 2 t d))
    ∗ (∃ d, owns (c : Thread nD τ) (st0_3 t) fullShare ((attnDat V c).before 3 t d))
    ∗ (∃ d, owns (c : Thread nD τ) (st0_4 t) fullShare ((attnDat V c).before 4 t d))
    ∗ (∃ d, owns (c : Thread nD τ) (st0_5 t) fullShare ((attnDat V c).before 5 t d))
    ∗ (∃ d, owns (c : Thread nD τ) (st0_6 t) fullShare ((attnDat V c).before 6 t d))
    ∗ (∃ d, owns (c : Thread nD τ) (st0_7 t) fullShare ((attnDat V c).before 7 t d)))

/-- and what it gives back. -/
def bodyPost0 (c : Dev nD) (t : Fin cfg0.N) : sProp 𝕄 :=
  iprop((attnDat V c).Φ t.succ ∗ (attnDat V c).owesAt () t.succ
    ∗ owns (c : Thread nD τ) (st0_0 t) fullShare ((attnDat V c).after 0 t)
    ∗ owns (c : Thread nD τ) (st0_1 t) fullShare ((attnDat V c).after 1 t)
    ∗ owns (c : Thread nD τ) (st0_2 t) fullShare ((attnDat V c).after 2 t)
    ∗ owns (c : Thread nD τ) (st0_3 t) fullShare ((attnDat V c).after 3 t)
    ∗ owns (c : Thread nD τ) (st0_4 t) fullShare ((attnDat V c).after 4 t)
    ∗ owns (c : Thread nD τ) (st0_5 t) fullShare ((attnDat V c).after 5 t)
    ∗ owns (c : Thread nD τ) (st0_6 t) fullShare ((attnDat V c).after 6 t)
    ∗ owns (c : Thread nD τ) (st0_7 t) fullShare ((attnDat V c).after 7 t))

/-- The body's triple at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [hold0_0, hold0_1, hold0_2, hold0_3, hold0_4, hold0_5, hold0_6]
  rw [show (attnDat V c).Φ t.succ = (attnDat V c).Φ t.castSucc from rfl,
    show (attnDat V c).owesAt () t.succ = (attnDat V c).owesAt () t.castSucc from rfl,
    leave0_0, leave0_1, leave0_2, leave0_3, leave0_4, leave0_5, leave0_6, leave0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (attn_triple c Set.univ (grid0.coords t) _ _ _ _ _ _ _ _ _ _ _ _ _ _ _ _ (blkIn0 V c 0 t) (blkIn0 V c 1 t) (blkIn0 V c 2 t) (blkIn0 V c 3 t) (blkIn0 V c 4 t) (blkIn0 V c 5 t) (blkIn0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The row of the table of bodies is the body at this point's slots. -/
theorem defs₀_row0 (t : Fin cfg0.N) :
    defs₀ (F := F) .tc cfg0.body (cfg0.bodyArgs t (cfg0.slots t)) = bodyAt0 t := by
  unfold defs₀; rw [Defs.onTc_tc]

/-- The obligation of the call's body, at every point. -/
theorem attn_obligation (c : Dev nD) : BodyObligation (attnDat (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.Ideal.MoeRegion.lean ====
/- The expert call: one grid point handles 256 sorted rows, all of one expert, which the table names. Stated for any contents
   `V` of the buffers at the entry and any table `T` whose words all name an expert: what each window's staging buffer
   holds, what the body leaves in the output's, and the body's triple. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the buffers when the region is entered
variable (V : (c : Dev nD) → (b : Ref sig .tc) → Buf (Elt F) ((c : Thread nD τ).loc b))

/-- The contents of the table of experts, one word for each grid point. -/
abbrev Tbl (F : FTy → Type) [FloatOps F] [Named F] : Type := pre1.Contents (Elt F)

/-- Every word of the table names an expert: the four blocks the body loads for it lie inside their arrays. -/
def TblOk (T : S31.Idx → BitVec 32) : Prop := ∀ y : S31.Idx, k1_chk1 (T y)

variable (T : S31.Idx → BitVec 32)

/-- The table as the pipeline's contents. -/
def tblC : pre1.Contents (Elt F) := fun | 0 => T | ⟨_ + 1, h⟩ => absurd h (Nat.not_lt.2 (Nat.le_add_left _ _))

/-- The table's contents as the pipeline takes them: no window's place depends on them, so no condition is left. -/
abbrev tblA : (pcfg1 (F := F)).Adm := ⟨tblC T, trivial⟩

/-- The call's configuration with this table. -/
abbrev cfgT : Pipeline.Cfg sig Λ₀ := cfg1 (F := F) (tblA T)

/-- The block of window `w` at grid point `t`, read off the array as the call finds it. -/
def blkIn1 (c : Dev nD) (w : Fin (cfgT (F := F) T).W) (t : Fin (cfgT (F := F) T).N) :
    (((cfgT (F := F) T).win w).xblock ((cfgT (F := F) T).grid.coords t)).Idx → Elt F ((cfgT (F := F) T).win w).elt :=
  (((cfgT (F := F) T).win w).blk t).view.read (Elt F) (V c (Pipeline.arrRef spec1 w))

theorem stg1_0 {c : Dev nD} (d : Dat τ (Elt F) Unit ℕ (UR sig nD τ) ℕ (cfgT (F := F) T) c) (hA : d.A 0 = V c (Pipeline.arrRef spec1 0))
    (ha : ∀ t, d.after 0 t = blkIn1 V T c 0 t) (t : Fin (cfgT (F := F) T).N) (y) : d.before 0 t y = blkIn1 V T c 0 t :=
  (d.before_in_eq_fetched 0 rfl (fun _ => rfl) (fun _ _ _ => rfl) (fun t => by rw [ha]; unfold Dat.blockOf blkIn1; rw [hA]; try rfl) t y).trans
    (by unfold Dat.fetched Dat.blockOf blkIn1; rw [hA]; try rfl)
theorem stg1_1 {c : Dev nD} (d : Dat τ (Elt F) Unit ℕ (UR sig nD τ) ℕ (cfgT (F := F) T) c) (hA : d.A 1 = V c (Pipeline.arrRef spec1 1))
    (ha : ∀ t, d.after 1 t = blkIn1 V T c 1 t) (t : Fin (cfgT (F := F) T).N) (y) : d.before 1 t y = blkIn1 V T c 1 t :=
  (d.before_in_eq_fetched 1 rfl (fun _ => rfl) (fun _ _ _ => rfl) (fun t => by rw [ha]; unfold Dat.blockOf blkIn1; rw [hA]; try rfl) t y).trans
    (by unfold Dat.fetched Dat.blockOf blkIn1; rw [hA]; try rfl)
theorem stg1_2 {c : Dev nD} (d : Dat τ (Elt F) Unit ℕ (UR sig nD τ) ℕ (cfgT (F := F) T) c) (hA : d.A 2 = V c (Pipeline.arrRef spec1 2))
    (ha : ∀ t, d.after 2 t = blkIn1 V T c 2 t) (t : Fin (cfgT (F := F) T).N) (y) : d.before 2 t y = blkIn1 V T c 2 t :=
  (d.before_in_eq_fetched 2 rfl (fun _ => rfl) (fun _ _ _ => rfl) (fun t => by rw [ha]; unfold Dat.blockOf blkIn1; rw [hA]; try rfl) t y).trans
    (by unfold Dat.fetched Dat.blockOf blkIn1; rw [hA]; try rfl)
theorem stg1_3 {c : Dev nD} (d : Dat τ (Elt F) Unit ℕ (UR sig nD τ) ℕ (cfgT (F := F) T) c) (hA : d.A 3 = V c (Pipeline.arrRef spec1 3))
    (ha : ∀ t, d.after 3 t = blkIn1 V T c 3 t) (t : Fin (cfgT (F := F) T).N) (y) : d.before 3 t y = blkIn1 V T c 3 t :=
  (d.before_in_eq_fetched 3 rfl (fun _ => rfl) (fun _ _ _ => rfl) (fun t => by rw [ha]; unfold Dat.blockOf blkIn1; rw [hA]; try rfl) t y).trans
    (by unfold Dat.fetched Dat.blockOf blkIn1; rw [hA]; try rfl)
theorem stg1_4 {c : Dev nD} (d : Dat τ (Elt F) Unit ℕ (UR sig nD τ) ℕ (cfgT (F := F) T) c) (hA : d.A 4 = V c (Pipeline.arrRef spec1 4))
    (ha : ∀ t, d.after 4 t = blkIn1 V T c 4 t) (t : Fin (cfgT (F := F) T).N) (y) : d.before 4 t y = blkIn1 V T c 4 t :=
  (d.before_in_eq_fetched 4 rfl (fun _ => rfl) (fun _ _ _ => rfl) (fun t => by rw [ha]; unfold Dat.blockOf blkIn1; rw [hA]; try rfl) t y).trans
    (by unfold Dat.fetched Dat.blockOf blkIn1; rw [hA]; try rfl)
theorem stg1_5 {c : Dev nD} (d : Dat τ (Elt F) Unit ℕ (UR sig nD τ) ℕ (cfgT (F := F) T) c) (hA : d.A 5 = V c (Pipeline.arrRef spec1 5))
    (ha : ∀ t, d.after 5 t = blkIn1 V T c 5 t) (t : Fin (cfgT (F := F) T).N) (y) : d.before 5 t y = blkIn1 V T c 5 t :=
  (d.before_in_eq_fetched 5 rfl (fun _ => rfl) (fun _ _ _ => rfl) (fun t => by rw [ha]; unfold Dat.blockOf blkIn1; rw [hA]; try rfl) t y).trans
    (by unfold Dat.fetched Dat.blockOf blkIn1; rw [hA]; try rfl)

/-- The word of the table a grid point reads. -/
def wordAt (i : grid1.Coords) : BitVec 32 :=
  T ((Rect.unit (s := S31) (k1_off1 i) S1.size (k1_off1_inb i)).idx (Shape.Idx.first (numel1_S1.symm ▸ Nat.one_pos)))

/-- The rows of the block, whole. -/
abbrev accRows : Rect S256x768 := Rect.unit (s := S256x768) ![0, 0] S256x768.size inb_S256x768_S256x768_0_0
/-- The gates of the block, whole. -/
abbrev accGate : Rect S256x1 := Rect.unit (s := S256x1) ![0, 0] S256x1.size inb_S256x1_S256x1_0_0

/-- What the body stores in the output block, as a function of the expert's word `v` and the six input blocks. -/
def moeOut (v : BitVec 32) (hv : k1_chk1 v) (x0 : Vec F S256x768 .bf16) (x1 : Vec F S6x3072x768 .bf16) (x2 : Vec F S6x1x3072 .f32) (x3 : Vec F S6x768x3072 .bf16) (x4 : Vec F S6x1x768 .f32) (x5 : Vec F S256x1 .f32) : Vec F S256x768 .f32 :=
  View.canon [⟨accRows, k1_pay1 (View.ld x0 accRows)
    (View.ld x1 (Rect.unit (s := S6x3072x768) (k1_off2 v) S1x3072x768.size (k1_off2_inb v hv)))
    (View.ld x2 (Rect.unit (s := S6x1x3072) (k1_off3 v) S1x1x3072.size (k1_off3_inb v hv)))
    (View.ld x3 (Rect.unit (s := S6x768x3072) (k1_off4 v) S1x768x3072.size (k1_off4_inb v hv)))
    (View.ld x4 (Rect.unit (s := S6x1x768) (k1_off5 v) S1x1x768.size (k1_off5_inb v hv)))
    (View.ld x5 accGate)⟩]

/-- The one store writes the whole block. -/
theorem moeOut_cover (p0 : Vec F S256x768 .f32) (y : S256x768.Idx) :
    ∃ pc ∈ ([⟨accRows, p0⟩] : List (View.Piece (Elt F) S256x768 .f32)), y ∈ pc.1.set :=
  View.cover_of_tiled [⟨accRows, p0⟩] S256x768.size (by rfl) y

/-- The table's buffer as the body is handed it, and the buffer held whole at some contents. -/
abbrev tblM : Memref sig .tc .smem S31 .i32 := Memref.whole main_v101
abbrev tblPt (c : Dev nD) {S : Shape} {e : EltTy} (M : Memref sig .tc .smem S e) (f : Buf (Elt F) (M.view.loc (c : Thread nD τ))) : sProp 𝕄 :=
  M.view.loc (c : Thread nD τ) ↦{fullShare} f

theorem prefHeld_tbl (c : Dev nD) :
    (Pipeline.prefHeld pre1 c (fun _ => fullShare) (tblC (F := F) T) : sProp 𝕄) = tblPt (F := F) c tblM T := by
  unfold Pipeline.prefHeld
  rw [show (Finset.univ : Finset (Fin 1)) = {(0 : Fin 1)} from by decide, bigSep_singleton]
  rfl

set_option maxHeartbeats 1000000 in
/-- The body, given the table and its inputs' blocks, ends with them unchanged and the output block at `moeOut` of them. -/
theorem moe_triple (hT : TblOk T) (c : Dev nD) (E : Set ℕ) (i : grid1.Coords) (arg2 : Memref sig .tc .vmem S256x768 .bf16) (harg2 : arg2.IsWhole) (arg3 : Memref sig .tc .vmem S6x3072x768 .bf16) (harg3 : arg3.IsWhole) (arg4 : Memref sig .tc .vmem S6x1x3072 .f32) (harg4 : arg4.IsWhole) (arg5 : Memref sig .tc .vmem S6x768x3072 .bf16) (harg5 : arg5.IsWhole) (arg6 : Memref sig .tc .vmem S6x1x768 .f32) (harg6 : arg6.IsWhole) (arg7 : Memref sig .tc .vmem S256x1 .f32) (harg7 : arg7.IsWhole) (arg8 : Memref sig .tc .vmem S256x768 .f32) (harg8 : arg8.IsWhole)
    (x0 : Vec F S256x768 .bf16) (x1 : Vec F S6x3072x768 .bf16) (x2 : Vec F S6x1x3072 .f32) (x3 : Vec F S6x768x3072 .bf16) (x4 : Vec F S6x1x768 .f32) (x5 : Vec F S256x1 .f32) (K : PUnit → sProp 𝕄) :
    iprop(tblPt (F := F) c tblM T ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(tblPt (F := F) c tblM T ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (moeOut (wordAt T i) (hT _) x0 x1 x2 x3 x4 x5)) -∗ K ⟨⟩))
      ⊢ wp frame (wpE (defs₀ (F := F)) Variants.none c none) E (cc1__moe_ffn_kernel i tblM (Memref.isWhole_whole _) arg2 harg2 arg3 harg3 arg4 harg4 arg5 harg5 arg6 harg6 arg7 harg7 arg8 harg8) K := by
  simp only [cc1__moe_ffn_kernel_eq_skeleton]; unfold cc1__moe_ffn_kernel_skel
  simp only [k1_part1_eq_skeleton]
  unfold owns
  iintro ⟨HT, ⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  have hw : ∀ y, k1_chk1 (View.readAt (Elt F) tblM.view (Rect.unit (s := S31) (k1_off1 i) S1.size (k1_off1_inb i)).toLoadRect T y) := fun y => hT _
  have hw0 := hw (Shape.Idx.first (numel1_S1.symm ▸ Nat.one_pos))
  sl_exec (disch := exact hT _)
  sl_step
  iapply Hk
  isplitl [HT]; · iexact HT
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (moeOut_cover _)

/-- The call's data: the arrays at entry, each staging buffer after the body; the invariant holds the table, the scoped
    buffers no window stages and the generator; nothing owed, full shares. -/
def moeDat (hT : TblOk T) (c : Dev nD) : Dat τ (Elt F) Unit ℕ (UR sig nD τ) ℕ (cfgT (F := F) T) c where
  A w := V c (Pipeline.arrRef spec1 w)
  after w t := match w with
    | ⟨0, _⟩ => blkIn1 V T c 0 t
    | ⟨1, _⟩ => blkIn1 V T c 1 t
    | ⟨2, _⟩ => blkIn1 V T c 2 t
    | ⟨3, _⟩ => blkIn1 V T c 3 t
    | ⟨4, _⟩ => blkIn1 V T c 4 t
    | ⟨5, _⟩ => blkIn1 V T c 5 t
    | ⟨6, _⟩ => moeOut (wordAt T (grid1.coords t)) (hT _) (blkIn1 V T c 0 t) (blkIn1 V T c 1 t) (blkIn1 V T c 2 t) (blkIn1 V T c 3 t) (blkIn1 V T c 4 t) (blkIn1 V T c 5 t)
  Φ _ := iprop(Pipeline.ΦA spec1 c ∗ Pipeline.prefHeld pre1 c (fun _ => fullShare) (tblC (F := F) T))
  q _ := fullShare
  owed _ := 0

variable (hT : TblOk T)

/-- The arrays of the data are the contents at entry. -/
theorem moeDat_A (c : Dev nD) (w : Fin (cfgT (F := F) T).W) : (moeDat V T hT c).A w = V c (Pipeline.arrRef spec1 w) := by
  dsimp only [moeDat]

/-! What the body leaves, window by window. -/
theorem leave1_0 (c : Dev nD) (t : Fin (cfgT (F := F) T).N) : (moeDat V T hT c).after 0 t = blkIn1 V T c 0 t := by dsimp only [moeDat]; rfl
theorem leave1_1 (c : Dev nD) (t : Fin (cfgT (F := F) T).N) : (moeDat V T hT c).after 1 t = blkIn1 V T c 1 t := by dsimp only [moeDat]; rfl
theorem leave1_2 (c : Dev nD) (t : Fin (cfgT (F := F) T).N) : (moeDat V T hT c).after 2 t = blkIn1 V T c 2 t := by dsimp only [moeDat]; rfl
theorem leave1_3 (c : Dev nD) (t : Fin (cfgT (F := F) T).N) : (moeDat V T hT c).after 3 t = blkIn1 V T c 3 t := by dsimp only [moeDat]; rfl
theorem leave1_4 (c : Dev nD) (t : Fin (cfgT (F := F) T).N) : (moeDat V T hT c).after 4 t = blkIn1 V T c 4 t := by dsimp only [moeDat]; rfl
theorem leave1_5 (c : Dev nD) (t : Fin (cfgT (F := F) T).N) : (moeDat V T hT c).after 5 t = blkIn1 V T c 5 t := by dsimp only [moeDat]; rfl
theorem leave1_6 (c : Dev nD) (t : Fin (cfgT (F := F) T).N) : (moeDat V T hT c).after 6 t = moeOut (wordAt T (grid1.coords t)) (hT _) (blkIn1 V T c 0 t) (blkIn1 V T c 1 t) (blkIn1 V T c 2 t) (blkIn1 V T c 3 t) (blkIn1 V T c 4 t) (blkIn1 V T c 5 t) := by dsimp only [moeDat]; rfl

/-! What each input's staging buffer holds before the body. -/
theorem hold1_0 (c : Dev nD) (t : Fin (cfgT (F := F) T).N) (d) : (moeDat V T hT c).before 0 t d = blkIn1 V T c 0 t :=
  stg1_0 V T (moeDat V T hT c) (moeDat_A V T hT c 0) (leave1_0 V T hT c) t d
theorem hold1_1 (c : Dev nD) (t : Fin (cfgT (F := F) T).N) (d) : (moeDat V T hT c).before 1 t d = blkIn1 V T c 1 t :=
  stg1_1 V T (moeDat V T hT c) (moeDat_A V T hT c 1) (leave1_1 V T hT c) t d
theorem hold1_2 (c : Dev nD) (t : Fin (cfgT (F := F) T).N) (d) : (moeDat V T hT c).before 2 t d = blkIn1 V T c 2 t :=
  stg1_2 V T (moeDat V T hT c) (moeDat_A V T hT c 2) (leave1_2 V T hT c) t d
theorem hold1_3 (c : Dev nD) (t : Fin (cfgT (F := F) T).N) (d) : (moeDat V T hT c).before 3 t d = blkIn1 V T c 3 t :=
  stg1_3 V T (moeDat V T hT c) (moeDat_A V T hT c 3) (leave1_3 V T hT c) t d
theorem hold1_4 (c : Dev nD) (t : Fin (cfgT (F := F) T).N) (d) : (moeDat V T hT c).before 4 t d = blkIn1 V T c 4 t :=
  stg1_4 V T (moeDat V T hT c) (moeDat_A V T hT c 4) (leave1_4 V T hT c) t d
theorem hold1_5 (c : Dev nD) (t : Fin (cfgT (F := F) T).N) (d) : (moeDat V T hT c).before 5 t d = blkIn1 V T c 5 t :=
  stg1_5 V T (moeDat V T hT c) (moeDat_A V T hT c 5) (leave1_5 V T hT c) t d

/-! The staging buffer of each window at a point. -/
abbrev slot1_0 (t : Fin (cfgT (F := F) T).N) := ((cfgT (F := F) T).win 0).stage ((cfgT (F := F) T).slots t 0)
abbrev slot1_1 (t : Fin (cfgT (F := F) T).N) := ((cfgT (F := F) T).win 1).stage ((cfgT (F := F) T).slots t 1)
abbrev slot1_2 (t : Fin (cfgT (F := F) T).N) := ((cfgT (F := F) T).win 2).stage ((cfgT (F := F) T).slots t 2)
abbrev slot1_3 (t : Fin (cfgT (F := F) T).N) := ((cfgT (F := F) T).win 3).stage ((cfgT (F := F) T).slots t 3)
abbrev slot1_4 (t : Fin (cfgT (F := F) T).N) := ((cfgT (F := F) T).win 4).stage ((cfgT (F := F) T).slots t 4)
abbrev slot1_5 (t : Fin (cfgT (F := F) T).N) := ((cfgT (F := F) T).win 5).stage ((cfgT (F := F) T).slots t 5)
abbrev slot1_6 (t : Fin (cfgT (F := F) T).N) := ((cfgT (F := F) T).win 6).stage ((cfgT (F := F) T).slots t 6)

/-- The body at point `t`, on the slots of that point. -/
def moeBodyAt (t : Fin (cfgT (F := F) T).N) : Prog (TpuEff nD τ sig (Elt F) Λ₀ .tc) PUnit :=
  cc1__moe_ffn_kernel (grid1.coords t) tblM (Memref.isWhole_whole _) (spec1_0.stage ((cfgT (F := F) T).slots t 0)) (hstage1_0 (((cfgT (F := F) T).slots t 0).cast nbuf1_0)) (spec1_1.stage ((cfgT (F := F) T).slots t 1)) (hstage1_1 (((cfgT (F := F) T).slots t 1).cast nbuf1_1)) (spec1_2.stage ((cfgT (F := F) T).slots t 2)) (hstage1_2 (((cfgT (F := F) T).slots t 2).cast nbuf1_2)) (spec1_3.stage ((cfgT (F := F) T).slots t 3)) (hstage1_3 (((cfgT (F := F) T).slots t 3).cast nbuf1_3)) (spec1_4.stage ((cfgT (F := F) T).slots t 4)) (hstage1_4 (((cfgT (F := F) T).slots t 4).cast nbuf1_4)) (spec1_5.stage ((cfgT (F := F) T).slots t 5)) (hstage1_5 (((cfgT (F := F) T).slots t 5).cast nbuf1_5)) (spec1_6.stage ((cfgT (F := F) T).slots t 6)) (hstage1_6 (((cfgT (F := F) T).slots t 6).cast nbuf1_6))

/-- What the body is given at point `t` -/
def moePre (c : Dev nD) (t : Fin (cfgT (F := F) T).N) : sProp 𝕄 :=
  iprop((moeDat V T hT c).Φ t.castSucc ∗ (moeDat V T hT c).owesAt () t.castSucc
    ∗ (∃ d, owns (c : Thread nD τ) (slot1_0 (F := F) T t) fullShare ((moeDat V T hT c).before 0 t d))
    ∗ (∃ d, owns (c : Thread nD τ) (slot1_1 (F := F) T t) fullShare ((moeDat V T hT c).before 1 t d))
    ∗ (∃ d, owns (c : Thread nD τ) (slot1_2 (F := F) T t) fullShare ((moeDat V T hT c).before 2 t d))
    ∗ (∃ d, owns (c : Thread nD τ) (slot1_3 (F := F) T t) fullShare ((moeDat V T hT c).before 3 t d))
    ∗ (∃ d, owns (c : Thread nD τ) (slot1_4 (F := F) T t) fullShare ((moeDat V T hT c).before 4 t d))
    ∗ (∃ d, owns (c : Thread nD τ) (slot1_5 (F := F) T t) fullShare ((moeDat V T hT c).before 5 t d))
    ∗ (∃ d, owns (c : Thread nD τ) (slot1_6 (F := F) T t) fullShare ((moeDat V T hT c).before 6 t d)))

/-- and what it gives back. -/
def moePost (c : Dev nD) (t : Fin (cfgT (F := F) T).N) : sProp 𝕄 :=
  iprop((moeDat V T hT c).Φ t.succ ∗ (moeDat V T hT c).owesAt () t.succ
    ∗ owns (c : Thread nD τ) (slot1_0 (F := F) T t) fullShare ((moeDat V T hT c).after 0 t)
    ∗ owns (c : Thread nD τ) (slot1_1 (F := F) T t) fullShare ((moeDat V T hT c).after 1 t)
    ∗ owns (c : Thread nD τ) (slot1_2 (F := F) T t) fullShare ((moeDat V T hT c).after 2 t)
    ∗ owns (c : Thread nD τ) (slot1_3 (F := F) T t) fullShare ((moeDat V T hT c).after 3 t)
    ∗ owns (c : Thread nD τ) (slot1_4 (F := F) T t) fullShare ((moeDat V T hT c).after 4 t)
    ∗ owns (c : Thread nD τ) (slot1_5 (F := F) T t) fullShare ((moeDat V T hT c).after 5 t)
    ∗ owns (c : Thread nD τ) (slot1_6 (F := F) T t) fullShare ((moeDat V T hT c).after 6 t))

/-- The body's triple at any point. -/
theorem moe_body (c : Dev nD) (t : Fin (cfgT (F := F) T).N) :
    moePre V T hT c t ⊢ wp frame (wpE (defs₀ (F := F)) Variants.none c none) Set.univ (moeBodyAt (F := F) T t) (fun _ => moePost V T hT c t) := by
  unfold moePre moePost moeBodyAt
  simp only [hold1_0, hold1_1, hold1_2, hold1_3, hold1_4, hold1_5]
  rw [show (moeDat V T hT c).Φ t.succ = (moeDat V T hT c).Φ t.castSucc from rfl,
    show (moeDat V T hT c).owesAt () t.succ = (moeDat V T hT c).owesAt () t.castSucc from rfl,
    leave1_0, leave1_1, leave1_2, leave1_3, leave1_4, leave1_5, leave1_6,
    show (moeDat V T hT c).Φ t.castSucc = iprop(Pipeline.ΦA spec1 c ∗ Pipeline.prefHeld pre1 c (fun _ => fullShare) (tblC (F := F) T)) from rfl,
    prefHeld_tbl]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩⟩
  iapply (moe_triple T hT c Set.univ (grid1.coords t) _ _ _ _ _ _ _ _ _ _ _ _ _ _ (blkIn1 V T c 0 t) (blkIn1 V T c 1 t) (blkIn1 V T c 2 t) (blkIn1 V T c 3 t) (blkIn1 V T c 4 t) (blkIn1 V T c 5 t) _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨HT, H0, H1, H2, H3, H4, H5, H6⟩
  isplitl [HΦ HT]
  · isplitl [HΦ]; · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The row of the table of bodies is the body at this point's slots. -/
theorem moe_row (t : Fin (cfgT (F := F) T).N) :
    defs₀ (F := F) .tc (cfgT (F := F) T).body ((cfgT (F := F) T).bodyArgs t ((cfgT (F := F) T).slots t)) = moeBodyAt (F := F) T t := by
  unfold defs₀; rw [Defs.onTc_tc]; rfl

/-- The obligation of the call's body, at every point. -/
theorem moe_obligation (c : Dev nD) : BodyObligation (moeDat (F := F) V T hT c) (defs₀ (F := F)) Variants.none () Set.univ := fun t => by
  rw [bigSep_W1, bigSep_W1, moe_row]
  exact triple_restated (moe_body V T hT c t) rfl .rfl fun _ => .rfl

end Cert.KernelIdeal.Hand

end
-- ==== Proof.Ideal.Table.lean ====
/- The prefetched table of the second call: every word of it is one of the six expert numbers, because
it is the smaller of a count of ones among six and of five. -/
module

public import proofs.«01_k».proof.Proof.Gen.KernelIdeal.Regions
public import Idealize.ShloMosaic.PureOps.Reduce
public import Idealize.ShloMosaic.Lib.StableHlo.Run
public import Idealize.ShloMosaic.Lib.Tactic
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.StableHlo

variable {F : FTy → Type} [FloatOps F] [Named F]

/-- A word of at most five passes the four bounds the second call's body checks. -/
theorem chk_of_le (v : BitVec 32) (h : v.toNat ≤ 5) : k1_chk1 v := by
  have hv : v = 0#32 ∨ v = 1#32 ∨ v = 2#32 ∨ v = 3#32 ∨ v = 4#32 ∨ v = 5#32 := by
    have := v.isLt
    simp only [← BitVec.toNat_inj]
    simp
    omega
  rcases hv with rfl | rfl | rfl | rfl | rfl | rfl <;> decide

/-- A sum of words that are 0 or 1, over a set of fewer than 2³¹ places, is at most the number of places. -/
theorem fold_le_card {ι : Type} [DecidableEq ι] (x : ι → BitVec 32) (hx : ∀ i, (x i).toNat ≤ 1) (s : Finset ι) (hs : s.card < 2 ^ 31) :
    (s.fold IntOp.addi 0#32 x).toNat ≤ s.card := by
  induction s using Finset.induction_on with
  | empty => simp
  | insert a s ha ih =>
    rw [Finset.card_insert_of_notMem ha] at hs ⊢
    rw [Finset.fold_insert ha]
    have h1 := ih (by omega)
    have h2 := hx a
    show (x a + _).toNat ≤ _
    rw [BitVec.toNat_add]
    exact (Nat.mod_le _ _).trans (by omega)

/-- The signed minimum of a word below 2³¹ and five is at most five. -/
theorem minsi_five_le (a : BitVec 32) (ha : a.toNat < 2 ^ 31) : (IntOp.minsi a 5#32).toNat ≤ 5 := by
  unfold IntOp.minsi
  split
  · rename_i h
    have : a.toInt = a.toNat := by rw [BitVec.toInt_eq_toNat_cond]; split <;> omega
    simp only [BitVec.sle, BitVec.slt, decide_eq_true_eq, this] at h
    have h5 : (5#32).toInt = 5 := by decide
    omega
  · decide

/-- The words of the table, over any contents of the comparison's buffer. -/
theorem table_le (x : S31x6.Idx → BitVec 1) (y : S31.Idx) :
    (minsi (Host.reduce IntOp.addi (extui 32 x natLt_1_32) (constantI S_ 32 0#32) reducesTo_S31x6_S31_d1 h_S_)
      (broadcastInDim S31 ![] bcast_S_S31 (constantI S_ 32 5#32)) y).toNat ≤ 5 := by
  refine minsi_five_le _ ?_
  rw [Host.reduce_eq_fold]
  refine lt_of_le_of_lt (fold_le_card _ (fun i => ?_) _ (lt_of_le_of_lt (Finset.card_le_univ _) ?_)) (lt_of_le_of_lt (Finset.card_le_univ _) ?_)
  · show ((x i).setWidth 32).toNat ≤ 1
    have := (x i).isLt
    simp
    omega
  all_goals
    rw [Fintype.card_congr (Shape.rowMajor (s := S31x6)), Fintype.card_fin]
    decide

/-- The table after its stretch of host operations, from any contents. -/
theorem table_after (W : Valuation τ sig (Elt F)) : ∃ x : S31x6.Idx → BitVec 1,
    (after (hostOps1_10 (F := F)) W (Proc.devRef .tc main_v101) : S31.Idx → BitVec 32)
      = minsi (Host.reduce IntOp.addi (extui 32 x natLt_1_32) (constantI S_ 32 0#32) reducesTo_S31x6_S31_d1 h_S_)
      (broadcastInDim S31 ![] bcast_S_S31 (constantI S_ 32 5#32)) := by
  refine ⟨after (hostOps1_10 (F := F)) W (Proc.devRef .tc main_v97), ?_⟩
  unfold_abbrev_sides
  after_results

end Cert.KernelIdeal.Hand

end
-- ==== Proof.Ideal.Run.lean ====
/- The run of the whole program: the contents every buffer ends with, from the two calls' bodies. -/
module

public import proofs.«01_k».proof.Proof.Ideal.AttnRegion
public import proofs.«01_k».proof.Proof.Ideal.MoeRegion
public import proofs.«01_k».proof.Proof.Ideal.Table
public import proofs.«01_k».proof.Proof.Gen.KernelIdeal.Regions
public import Idealize.ShloMosaic.Lib.Pipeline.RegionArraysT

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F] [Named F]

local notation "𝕄" => MT nD τ sig Unit (Elt F) ℕ (UR sig nD τ) ℕ

variable (m : (l : Loc nD τ sig) → Buf (Elt F) l) (ρ : Dev nD → PrngReg)

/-- What the first call leaves in its result buffer. -/
def attnEnd (c : Dev nD) : Buf (Elt F) ((c : Thread nD τ).loc main_v15) :=
  (attnDat (fun c b => V3 m c b) c).arrAt 7 cfg0.N

/-- The contents the calls leave, with only the first call's result set. -/
def outs0 : Outs (F := F) := fun _ r c => Function.update (V3 m c) (Proc.devRef .tc main_v15) (attnEnd m c) (Proc.devRef .tc r)

/-- The table of expert numbers the second call reads. -/
def tbl : S31.Idx → BitVec 32 := V17 m (outs0 m) 0 (Proc.devRef .tc main_v101)

/-- Each of its words is an expert's number. -/
theorem tbl_le (y : S31.Idx) : (tbl m y).toNat ≤ 5 := by
  unfold tbl
  obtain ⟨x, hx⟩ := table_after (F := F) (V14 m (outs0 m) 0)
  rw [V17_of m (outs0 m) 0 main_v101 (by decide), V16_of m (outs0 m) 0 main_v101 (by decide)]
  exact (congrArg (fun f : S31.Idx → BitVec 32 => (f y).toNat ≤ 5) hx).mpr (table_le x y)

theorem tbl_ok : TblOk (tbl m) := fun y => chk_of_le _ (tbl_le m y)

/-- What the second call leaves in its result buffer. -/
def moeEnd (c : Dev nD) : Buf (Elt F) ((c : Thread nD τ).loc main_v111) :=
  (moeDat (fun c b => V17 m (outs0 m) c b) (tbl m) (tbl_ok m) c).arrAt 6 (cfgT (F := F) (tbl m)).N

/-- The contents the calls leave. -/
def outs : Outs (F := F) := fun _ r c =>
  Function.update (Function.update (V3 m c) (Proc.devRef .tc main_v15) (attnEnd m c)) (Proc.devRef .tc main_v111) (moeEnd m c) (Proc.devRef .tc r)

theorem outs_v15 (c : Dev nD) : outs m 4 main_v15 c = attnEnd m c := by
  unfold outs
  rw [Function.update_of_ne (StableHlo.devRef_ne_of_ne (by decide)), Function.update_self]
theorem outs0_v15 (c : Dev nD) : outs0 m 4 main_v15 c = attnEnd m c := by
  unfold outs0; rw [Function.update_self]
theorem outs_v111 (c : Dev nD) : outs m 18 main_v111 c = moeEnd m c := by
  unfold outs; rw [Function.update_self]

theorem V4_outs (c : Dev nD) : V4 m (outs m) c = V4 m (outs0 m) c := by
  show Function.update (V3 m c) _ _ = Function.update (V3 m c) _ _
  rw [outs_v15, outs0_v15]

theorem V17_outs (c : Dev nD) : V17 m (outs m) c = V17 m (outs0 m) c := by
  show StableHlo.after hostOps1_12 (StableHlo.after hostOps1_11 (StableHlo.after hostOps1_10 (StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (V4 m (outs m) c))))))))))))) = _
  rw [V4_outs]

/-- The tables of the two calls: none, and the expert numbers. -/
def adm : (p : Fin 2) → (pcfgs (F := F) p).Adm
  | ⟨0, _⟩ => cfg0.toPCfg_adm
  | ⟨1, _⟩ => tblA (tbl m)

/-- The data of the two calls. -/
def pdats : (p : Fin 2) → (c : Dev nD) → Dat τ (Elt F) Unit ℕ (UR sig nD τ) ℕ (Pipeline.pin (pcfgs (F := F)) (adm m) p) c
  | ⟨0, _⟩ => fun c => attnDat (fun c b => V3 m c b) c
  | ⟨1, _⟩ => fun c => moeDat (fun c b => V17 m (outs0 m) c b) (tbl m) (tbl_ok m) c

abbrev 𝒱₀ : Variants := Variants.none
abbrev L : GSem nD τ sig → Finset Unit := fun _ => ∅
abbrev lv : GSem nD τ sig → Unit → ℕ := fun _ _ => 0

/-- What rides along beside the buffers: the generator register, and owing nothing. -/
abbrev R (c : Dev nD) : sProp 𝕄 := iprop((∃ r, prngReg c r) ∗ ∃ W, owes (c : Thread nD τ) (0 : CellTallies nD τ sig Unit) W)

/-- The first call's arrays at its end. -/
theorem attn_arrays (c : Dev nD) (w : Fin cfg0.W) :
    (attnDat (F := F) (fun c b => V3 m c b) c).arrAt w cfg0.N = V4 m (outs m) c (Proc.devRef .tc (Pipeline.arrRef spec0 w)) := by
  fin_cases w
  case «7» =>
    show attnEnd m c = Function.update (V3 m c) (Proc.devRef .tc main_v15) (outs m 4 main_v15 c) (Proc.devRef .tc main_v15)
    rw [Function.update_self, outs_v15]
  all_goals
    refine ((attnDat (F := F) (fun c b => V3 m c b) c).arrAt_in _ rfl _).trans ((attnDat_A _ c _).trans ?_)
    exact (Function.update_of_ne (StableHlo.devRef_ne_of_ne (by decide)) _ _).symm

theorem attn_rest (c : Dev nD) (b : Ref sig .tc) (hb : b ∉ Finset.univ.image (Pipeline.arrRef spec0)) :
    V4 m (outs m) c (Proc.devRef .tc b) = V3 m c (Proc.devRef .tc b) :=
  Function.update_of_ne (StableHlo.devRef_ne_of_ne fun h => hb (Finset.mem_image.mpr ⟨7, Finset.mem_univ _, h.symm⟩)) _ _

/-- The second call's arrays at its end. -/
theorem moe_arrays (c : Dev nD) (w : Fin 7) :
    (moeDat (F := F) (fun c b => V17 m (outs0 m) c b) (tbl m) (tbl_ok m) c).arrAt w (cfgT (F := F) (tbl m)).N
      = V18 m (outs m) c (Proc.devRef .tc (Pipeline.arrRef spec1 w)) := by
  have e : ∀ x, V18 m (outs m) c x = Function.update (V17 m (outs0 m) c) (Proc.devRef .tc main_v111) (moeEnd m c) x := fun x => by
    show Function.update (V17 m (outs m) c) _ _ x = _
    rw [V17_outs, outs_v111]
  rw [e]
  fin_cases w
  case «6» =>
    exact (Function.update_self (Proc.devRef .tc main_v111) (moeEnd m c) (V17 m (outs0 m) c)).symm
  all_goals
    refine ((moeDat (F := F) (fun c b => V17 m (outs0 m) c b) (tbl m) (tbl_ok m) c).arrAt_in _ rfl _).trans ((moeDat_A _ _ _ c _).trans ?_)
    exact (Function.update_of_ne (StableHlo.devRef_ne_of_ne (by decide)) _ _).symm

theorem moe_rest (c : Dev nD) (b : Ref sig .tc) (hb : b ∉ Finset.univ.image (Pipeline.arrRef spec1)) :
    V18 m (outs m) c (Proc.devRef .tc b) = V17 m (outs0 m) c (Proc.devRef .tc b) := by
  rw [← V17_outs]
  exact Function.update_of_ne (StableHlo.devRef_ne_of_ne fun h => hb (Finset.mem_image.mpr ⟨6, Finset.mem_univ _, h.symm⟩)) _ _

set_option backward.isDefEq.respectTransparency.types false in
/-- The first call as a step of the run: entered with the buffers at `V3`, left with them at `V4`. -/
def reg0 : RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (attn_obligation (fun c b => V3 m c b) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (fun b => V3 m c b) (attnDat_A (F := F) (fun c b => V3 m c b) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m) ((pdats m 0 c).share_full fun _ => rfl)
      (fun b => V3 m c b) (fun b => V4 m (outs m) c b) ((pdats m 0 c).arrAt · cfg0.N) (attn_arrays m c) (attn_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The table's buffer is held at the words of `tbl`. -/
theorem tbl_held (c : Dev nD) (k : Fin pre1.K) : (fun k => V17 m (outs0 m) c (Proc.devRef .tc (pre1.ref k)) : pre1.Contents (Elt F)) k = tblC (F := F) (tbl m) k := by
  have : c = 0 := Subsingleton.elim _ _
  subst this
  fin_cases k
  rfl

set_option backward.isDefEq.respectTransparency.types false in
/-- The second call as a step of the run: entered with the buffers at `V17`, left with them at `V18`. -/
def reg1 : RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (moe_obligation (fun c b => V17 m (outs0 m) c b) (tbl m) (tbl_ok m) c).loose
  hwaits := Pipeline.hwaits_of_owed_zero _ _ _ _ L lv 1 fun _ _ => rfl
  pre c := iprop(StableHlo.held (c : Thread nD τ) (Pipeline.ucRefs τ sig) (V17 m (outs0 m) c) ∗ R c)
  post c := iprop(StableHlo.held (c : Thread nD τ) (Pipeline.ucRefs τ sig) (V18 m (outs m) c) ∗ R c)
  X c := iprop(∃ r, prngReg c r)
  Y c := iprop((∃ r, prngReg c r) ∗ Pipeline.prefHeld pre1 c (fun _ => fullShare) (tblC (F := F) (tbl m)))
  Z c := Pipeline.unscopedRestP (Ix := Unit) (Name := ℕ) (U := UR sig nD τ) (Lvl := ℕ) pre1 spec1 c (fun b => V17 m (outs0 m) c b)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (fun b => V17 m (outs0 m) c b) (moeDat_A (F := F) (fun c b => V17 m (outs0 m) c b) (tbl m) (tbl_ok m) c)
    rw [Pipeline.unscopedBufs_held] at hsplit
    have hpre := Pipeline.unscopedRest_split (Ix := Unit) (Name := ℕ) (U := UR sig nD τ) (Lvl := ℕ) preFacts1 c (fun b => V17 m (outs0 m) c b)
    rw [show (fun k => V17 m (outs0 m) c (Proc.devRef .tc (pre1.ref k)) : pre1.Contents (Elt F)) = tblC (F := F) (tbl m) from funext (tbl_held m c)] at hpre
    iintro ⟨⟨Hub, Hp, HO⟩, -, -⟩
    ihave H := hsplit $$ Hub
    icases H with ⟨Ha, Hrest⟩
    ihave H2 := (Entails.of_eq hpre) $$ Hrest
    icases H2 with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(Pipeline.ΦA spec1 c ∗ Pipeline.prefHeld pre1 c (fun _ => fullShare) (tblC (F := F) (tbl m))) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m 1 c).Φ (Fin.last _) = iprop(Pipeline.ΦA spec1 c ∗ Pipeline.prefHeld pre1 c (fun _ => fullShare) (tblC (F := F) (tbl m))) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m) ((pdats m 1 c).share_full fun _ => rfl)
      (fun b => V17 m (outs0 m) c b) (fun b => V18 m (outs m) c b) ((pdats m 1 c).arrAt · (cfgT (F := F) (tbl m)).N) (moe_arrays m c) (moe_rest m c)
    rw [Pipeline.unscopedBufs_held] at hjoin
    have hpre := Pipeline.unscopedRest_split (Ix := Unit) (Name := ℕ) (U := UR sig nD τ) (Lvl := ℕ) preFacts1 c (fun b => V17 m (outs0 m) c b)
    rw [show (fun k => V17 m (outs0 m) c (Proc.devRef .tc (pre1.ref k)) : pre1.Contents (Elt F)) = tblC (F := F) (tbl m) from funext (tbl_held m c)] at hpre
    iintro ⟨Ha, HO, ⟨HY, Ht⟩, Hrest⟩
    imodintro
    isplitl [Ha Hrest Ht]
    · iapply hjoin
      isplitl [Ha]; · iexact Ha
      iapply (Entails.of_eq hpre.symm)
      isplitl [Ht] <;> iassumption
    isplitl [HY]; · iexact HY
    unfold Pipeline.Dat.owesAt Pipeline.owesWithin
    icases HO with ⟨%W, -, HO⟩; iexists W; iexact HO

set_option backward.isDefEq.respectTransparency.types false in
/-- THE RUN. From any memory with zero counters every weakly fair execution ends, with every unscoped
    buffer at `V23` and every counter at zero. -/
theorem run_values : θ_run defs (onTc (τ := τ) (main (F := F))) ⟨m, fun _ => 0, ρ⟩ (fun r =>
      (∀ c : Dev nD, ∀ b ∈ Pipeline.ucRefs τ sig, r.2.mem (((c : Thread nD τ)).1, b) = V23 m (outs m) c b)
      ∧ r.2.sem = fun _ => 0) := by
  refine Pipeline.θ_run_regions_kit_dev_sems (pcfgs (F := F)) (adm m) (pdats m) () (cellOf_inj (adm m)) emb₁ defs₀ 𝒱₀ L lv m ρ main
    (segs m (outs m) 𝒱₀ L lv (fun _ => R) () (adm m) (pdats m) (reg0 m) (reg1 m))
    (fun c Q => by
      rewrite [main_chain c, Seg.run_eq_chain,
        show (segs m (outs m) 𝒱₀ L lv (fun _ => R) () (adm m) (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      dsimp (config := { failIfUnchanged := false }) only
      exact .rfl)
    (fun c => by simp only [segs, Seg.pipes_host, Seg.pipes_region, Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V23 m (outs m) c))
    (hch := fun c => ⟨.rfl, .rfl, .rfl, .rfl, .rfl, .rfl, .rfl, .rfl, .rfl, .rfl, .rfl, .rfl, .rfl, .rfl, .rfl, .rfl, .rfl,
      by
        show iprop(StableHlo.held (c : Thread nD τ) (Pipeline.ucRefs τ sig) (V17 m (outs m) c) ∗ R c) ⊢ iprop(StableHlo.held (c : Thread nD τ) (Pipeline.ucRefs τ sig) (V17 m (outs0 m) c) ∗ R c)
        rw [V17_outs], .rfl, .rfl, .rfl, .rfl, .rfl, sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V23 m (outs m) c b)
    (hfin := fun c s' => by
      iintro ⟨Hh, HSI⟩
      unfold StableHlo.held
      imodintro
      iapply (pointsTo_read_all (Pipeline.ucRefs τ sig) (fun b => (((c : Thread nD τ)).1, b)) (V23 m (outs m) c) s')
      isplitl [Hh] <;> iassumption)
    (hQ := fun s h hz => ⟨h, funext fun g => hz g (.inr (regions_no_unscoped g.2))⟩)

/-- An array of @main outside the calls' scope is among the buffers `run_values` speaks of. -/
theorem mem_ucRefs (r : Ref sig .tc) (h : r.isScoped = false) : Proc.devRef .tc r ∈ Pipeline.ucRefs τ sig :=
  Finset.mem_filter.mpr ⟨StableHlo.devRef_mem_tcRefs r, by simpa using h⟩

end Cert.KernelIdeal.Hand

end
-- ==== Proof.Frames.lean ====
/- The two frames of the kernel, read off the contents its run ends with. -/
module

public import proofs.«01_k».proof.Defs
public import proofs.«01_k».proof.Proof.Ideal.Run
public import proofs.«01_k».proof.Proof.Word.Run

@[expose] public section

noncomputable section

namespace Cert.Proof

open Idealize.ShloMosaic Idealize.ShloMosaic.TcCoe Idealize.SL.Sem

/-- The printed kernel runs to the end, leaves every argument as it was and every counter at zero. -/
theorem frame_Kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0) :=
  (θ_run _ _ _).mono (fun r h => ⟨fun c => ⟨(h.1 c _ (Cert.Kernel.Hand.mem_ucRefs Cert.Kernel.main_arg0 rfl)).trans (Cert.Kernel.Gen.V23_main_arg0 m (Cert.Kernel.Hand.outs m) c),
      (h.1 c _ (Cert.Kernel.Hand.mem_ucRefs Cert.Kernel.main_arg1 rfl)).trans (Cert.Kernel.Gen.V23_main_arg1 m (Cert.Kernel.Hand.outs m) c),
      (h.1 c _ (Cert.Kernel.Hand.mem_ucRefs Cert.Kernel.main_arg2 rfl)).trans (Cert.Kernel.Gen.V23_main_arg2 m (Cert.Kernel.Hand.outs m) c),
      (h.1 c _ (Cert.Kernel.Hand.mem_ucRefs Cert.Kernel.main_arg3 rfl)).trans (Cert.Kernel.Gen.V23_main_arg3 m (Cert.Kernel.Hand.outs m) c),
      (h.1 c _ (Cert.Kernel.Hand.mem_ucRefs Cert.Kernel.main_arg4 rfl)).trans (Cert.Kernel.Gen.V23_main_arg4 m (Cert.Kernel.Hand.outs m) c),
      (h.1 c _ (Cert.Kernel.Hand.mem_ucRefs Cert.Kernel.main_arg5 rfl)).trans (Cert.Kernel.Gen.V23_main_arg5 m (Cert.Kernel.Hand.outs m) c),
      (h.1 c _ (Cert.Kernel.Hand.mem_ucRefs Cert.Kernel.main_arg6 rfl)).trans (Cert.Kernel.Gen.V23_main_arg6 m (Cert.Kernel.Hand.outs m) c),
      (h.1 c _ (Cert.Kernel.Hand.mem_ucRefs Cert.Kernel.main_arg7 rfl)).trans (Cert.Kernel.Gen.V23_main_arg7 m (Cert.Kernel.Hand.outs m) c),
      (h.1 c _ (Cert.Kernel.Hand.mem_ucRefs Cert.Kernel.main_arg8 rfl)).trans (Cert.Kernel.Gen.V23_main_arg8 m (Cert.Kernel.Hand.outs m) c),
      (h.1 c _ (Cert.Kernel.Hand.mem_ucRefs Cert.Kernel.main_arg9 rfl)).trans (Cert.Kernel.Gen.V23_main_arg9 m (Cert.Kernel.Hand.outs m) c),
      (h.1 c _ (Cert.Kernel.Hand.mem_ucRefs Cert.Kernel.main_arg10 rfl)).trans (Cert.Kernel.Gen.V23_main_arg10 m (Cert.Kernel.Hand.outs m) c),
      (h.1 c _ (Cert.Kernel.Hand.mem_ucRefs Cert.Kernel.main_arg11 rfl)).trans (Cert.Kernel.Gen.V23_main_arg11 m (Cert.Kernel.Hand.outs m) c),
      (h.1 c _ (Cert.Kernel.Hand.mem_ucRefs Cert.Kernel.main_arg12 rfl)).trans (Cert.Kernel.Gen.V23_main_arg12 m (Cert.Kernel.Hand.outs m) c),
      (h.1 c _ (Cert.Kernel.Hand.mem_ucRefs Cert.Kernel.main_arg13 rfl)).trans (Cert.Kernel.Gen.V23_main_arg13 m (Cert.Kernel.Hand.outs m) c),
      (h.1 c _ (Cert.Kernel.Hand.mem_ucRefs Cert.Kernel.main_arg14 rfl)).trans (Cert.Kernel.Gen.V23_main_arg14 m (Cert.Kernel.Hand.outs m) c),
      (h.1 c _ (Cert.Kernel.Hand.mem_ucRefs Cert.Kernel.main_arg15 rfl)).trans (Cert.Kernel.Gen.V23_main_arg15 m (Cert.Kernel.Hand.outs m) c),
      (h.1 c _ (Cert.Kernel.Hand.mem_ucRefs Cert.Kernel.main_arg16 rfl)).trans (Cert.Kernel.Gen.V23_main_arg16 m (Cert.Kernel.Hand.outs m) c),
      (h.1 c _ (Cert.Kernel.Hand.mem_ucRefs Cert.Kernel.main_arg17 rfl)).trans (Cert.Kernel.Gen.V23_main_arg17 m (Cert.Kernel.Hand.outs m) c),
      (h.1 c _ (Cert.Kernel.Hand.mem_ucRefs Cert.Kernel.main_arg18 rfl)).trans (Cert.Kernel.Gen.V23_main_arg18 m (Cert.Kernel.Hand.outs m) c),
      (h.1 c _ (Cert.Kernel.Hand.mem_ucRefs Cert.Kernel.main_arg19 rfl)).trans (Cert.Kernel.Gen.V23_main_arg19 m (Cert.Kernel.Hand.outs m) c)⟩, h.2⟩)
    (Cert.Kernel.Hand.run_values (F := Bits) m g)

/-- The idealized kernel runs to the end, leaves every argument as it was and every counter at zero. -/
theorem frame_KernelIdeal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0) :=
  (θ_run _ _ _).mono (fun r h => ⟨fun c => ⟨(h.1 c _ (Cert.KernelIdeal.Hand.mem_ucRefs Cert.KernelIdeal.main_arg0 rfl)).trans (Cert.KernelIdeal.Gen.V23_main_arg0 m (Cert.KernelIdeal.Hand.outs m) c),
      (h.1 c _ (Cert.KernelIdeal.Hand.mem_ucRefs Cert.KernelIdeal.main_arg1 rfl)).trans (Cert.KernelIdeal.Gen.V23_main_arg1 m (Cert.KernelIdeal.Hand.outs m) c),
      (h.1 c _ (Cert.KernelIdeal.Hand.mem_ucRefs Cert.KernelIdeal.main_arg2 rfl)).trans (Cert.KernelIdeal.Gen.V23_main_arg2 m (Cert.KernelIdeal.Hand.outs m) c),
      (h.1 c _ (Cert.KernelIdeal.Hand.mem_ucRefs Cert.KernelIdeal.main_arg3 rfl)).trans (Cert.KernelIdeal.Gen.V23_main_arg3 m (Cert.KernelIdeal.Hand.outs m) c),
      (h.1 c _ (Cert.KernelIdeal.Hand.mem_ucRefs Cert.KernelIdeal.main_arg4 rfl)).trans (Cert.KernelIdeal.Gen.V23_main_arg4 m (Cert.KernelIdeal.Hand.outs m) c),
      (h.1 c _ (Cert.KernelIdeal.Hand.mem_ucRefs Cert.KernelIdeal.main_arg5 rfl)).trans (Cert.KernelIdeal.Gen.V23_main_arg5 m (Cert.KernelIdeal.Hand.outs m) c),
      (h.1 c _ (Cert.KernelIdeal.Hand.mem_ucRefs Cert.KernelIdeal.main_arg6 rfl)).trans (Cert.KernelIdeal.Gen.V23_main_arg6 m (Cert.KernelIdeal.Hand.outs m) c),
      (h.1 c _ (Cert.KernelIdeal.Hand.mem_ucRefs Cert.KernelIdeal.main_arg7 rfl)).trans (Cert.KernelIdeal.Gen.V23_main_arg7 m (Cert.KernelIdeal.Hand.outs m) c),
      (h.1 c _ (Cert.KernelIdeal.Hand.mem_ucRefs Cert.KernelIdeal.main_arg8 rfl)).trans (Cert.KernelIdeal.Gen.V23_main_arg8 m (Cert.KernelIdeal.Hand.outs m) c),
      (h.1 c _ (Cert.KernelIdeal.Hand.mem_ucRefs Cert.KernelIdeal.main_arg9 rfl)).trans (Cert.KernelIdeal.Gen.V23_main_arg9 m (Cert.KernelIdeal.Hand.outs m) c),
      (h.1 c _ (Cert.KernelIdeal.Hand.mem_ucRefs Cert.KernelIdeal.main_arg10 rfl)).trans (Cert.KernelIdeal.Gen.V23_main_arg10 m (Cert.KernelIdeal.Hand.outs m) c),
      (h.1 c _ (Cert.KernelIdeal.Hand.mem_ucRefs Cert.KernelIdeal.main_arg11 rfl)).trans (Cert.KernelIdeal.Gen.V23_main_arg11 m (Cert.KernelIdeal.Hand.outs m) c),
      (h.1 c _ (Cert.KernelIdeal.Hand.mem_ucRefs Cert.KernelIdeal.main_arg12 rfl)).trans (Cert.KernelIdeal.Gen.V23_main_arg12 m (Cert.KernelIdeal.Hand.outs m) c),
      (h.1 c _ (Cert.KernelIdeal.Hand.mem_ucRefs Cert.KernelIdeal.main_arg13 rfl)).trans (Cert.KernelIdeal.Gen.V23_main_arg13 m (Cert.KernelIdeal.Hand.outs m) c),
      (h.1 c _ (Cert.KernelIdeal.Hand.mem_ucRefs Cert.KernelIdeal.main_arg14 rfl)).trans (Cert.KernelIdeal.Gen.V23_main_arg14 m (Cert.KernelIdeal.Hand.outs m) c),
      (h.1 c _ (Cert.KernelIdeal.Hand.mem_ucRefs Cert.KernelIdeal.main_arg15 rfl)).trans (Cert.KernelIdeal.Gen.V23_main_arg15 m (Cert.KernelIdeal.Hand.outs m) c),
      (h.1 c _ (Cert.KernelIdeal.Hand.mem_ucRefs Cert.KernelIdeal.main_arg16 rfl)).trans (Cert.KernelIdeal.Gen.V23_main_arg16 m (Cert.KernelIdeal.Hand.outs m) c),
      (h.1 c _ (Cert.KernelIdeal.Hand.mem_ucRefs Cert.KernelIdeal.main_arg17 rfl)).trans (Cert.KernelIdeal.Gen.V23_main_arg17 m (Cert.KernelIdeal.Hand.outs m) c),
      (h.1 c _ (Cert.KernelIdeal.Hand.mem_ucRefs Cert.KernelIdeal.main_arg18 rfl)).trans (Cert.KernelIdeal.Gen.V23_main_arg18 m (Cert.KernelIdeal.Hand.outs m) c),
      (h.1 c _ (Cert.KernelIdeal.Hand.mem_ucRefs Cert.KernelIdeal.main_arg19 rfl)).trans (Cert.KernelIdeal.Gen.V23_main_arg19 m (Cert.KernelIdeal.Hand.outs m) c)⟩, h.2⟩)
    (Cert.KernelIdeal.Hand.run_values (F := Ideal) m g)

end Cert.Proof

end
-- ==== Proof.Math.Softmax.lean ====
/- Row normalisation, projection and softmax over the extended reals, and what finiteness gives them. -/
module

public import Idealize.ShloMosaic.PureOps.Ideal
public import Idealize.ShloMosaic.Lib.IdealHost
public import Mathlib.Algebra.BigOperators.Fin
public import Mathlib.Data.Finset.Lattice.Fold

@[expose] public section

noncomputable section

open Idealize.ShloMosaic
open scoped BigOperators

namespace Cert.Attn

/-! ### The scalar formulas -/

/-- The row length, as the programs write it. -/
def nE : EReal := Ideal.ofBits .f32 0x44400000#32

/-- The number added to a row's variance. -/
def epsE : EReal := Ideal.ofBits .f32 0x3727C5AC#32

/-- The mean of a row. -/
def mean (z : Fin 768 → EReal) : EReal := Ideal.div (∑ e, z e) nE

/-- The standard deviation of a row. -/
def dev (z : Fin 768 → EReal) : EReal :=
  Ideal.sqrt (Ideal.div (∑ e, (z e - mean z) * (z e - mean z)) nE + epsE)

/-- A row normalised, scaled and shifted. -/
def norm (z g b : Fin 768 → EReal) (e : Fin 768) : EReal :=
  Ideal.div (z e - mean z) (dev z) * g e + b e

/-- Column `c` of the projection of a normalised row to queries, keys and values. -/
def proj (z g b : Fin 768 → EReal) (W : Fin 2304 → Fin 768 → EReal) (w : Fin 2304 → EReal) (c : Fin 2304) : EReal :=
  (∑ e, norm z g b e * W c e) + w c

/-- The greatest of the scores. -/
def top {n : ℕ} (s : Fin n → EReal) : EReal := Finset.univ.fold max ⊥ s

/-- The sum of the exponentials of the scores' distances from the greatest. -/
def expSum {n : ℕ} (s : Fin n → EReal) : EReal := ∑ j, Ideal.exp (s j - top s)

/-- The mean of `v` under the softmax of the scores `s`. -/
def soft {n : ℕ} (s v : Fin n → EReal) : EReal :=
  ∑ j, Ideal.div (Ideal.exp (s j - top s)) (expSum s) * v j

/-! ### Real extended reals -/

/-- `x` is a real number. -/
def Fn (x : EReal) : Prop := ∃ r : ℝ, x = (r : EReal)

theorem Fn.add {x y : EReal} (hx : Fn x) (hy : Fn y) : Fn (x + y) := by
  obtain ⟨a, rfl⟩ := hx; obtain ⟨b, rfl⟩ := hy; exact ⟨a + b, (EReal.coe_add a b).symm⟩

theorem Fn.sub {x y : EReal} (hx : Fn x) (hy : Fn y) : Fn (x - y) := by
  obtain ⟨a, rfl⟩ := hx; obtain ⟨b, rfl⟩ := hy; exact ⟨a - b, (EReal.coe_sub a b).symm⟩

theorem Fn.mul {x y : EReal} (hx : Fn x) (hy : Fn y) : Fn (x * y) := by
  obtain ⟨a, rfl⟩ := hx; obtain ⟨b, rfl⟩ := hy; exact ⟨a * b, (EReal.coe_mul a b).symm⟩

theorem Fn.sum {ι : Type} (s : Finset ι) {f : ι → EReal} (h : ∀ i, Fn (f i)) : Fn (∑ i ∈ s, f i) := by
  classical
  induction s using Finset.induction_on with
  | empty => exact ⟨0, by simp⟩
  | insert a s ha ih => rw [Finset.sum_insert ha]; exact (h a).add ih

theorem Fn.div {x y : EReal} (hx : Fn x) (hy : Fn y) (h0 : y ≠ 0) : Fn (Ideal.div x y) := by
  unfold Ideal.div
  rw [if_neg h0]
  obtain ⟨b, rfl⟩ := hy
  exact hx.mul ⟨b⁻¹, (EReal.coe_inv b).symm⟩

theorem Fn.of_abs {x : EReal} (h : max x (-x) < ⊤) : Fn x := by
  induction x using EReal.rec with
  | bot => simp at h
  | top => simp at h
  | coe r => exact ⟨r, rfl⟩

/-- A positive normal 32-bit pattern, from its exponent and its fraction. -/
theorem ofBits_normal (b : BitVec 32) (ex fr : ℕ) (hn : (b.extractLsb' 31 1 == 1#1) = false)
    (he : (b.extractLsb' 23 8).toNat = ex) (hf : (b.extractLsb' 0 23).toNat = fr) (h1 : ex ≠ 255) (h0 : ex ≠ 0) :
    Ideal.ofBits .f32 b = (((8388608 + fr : ℕ) : ℝ) * (2 : ℝ) ^ ((ex : ℤ) - 150) : ℝ) := by
  have e1 : (2 : ℕ) ^ 8 - 1 = 255 := by norm_num
  have e2 : (2 : ℕ) ^ 23 = 8388608 := by norm_num
  have e3 : ((ex : ℤ) - (2 ^ (8 - 1) - 1) - (23 : ℕ)) = (ex : ℤ) - 150 := by norm_num; ring
  simp only [Ideal.ofBits, Ideal.ieee]
  simp only [Nat.reduceAdd, hn, he, hf, e1, e2, e3, if_neg h1, if_neg h0, if_false, one_mul, Bool.false_eq_true]

theorem nE_eq : nE = ((768 : ℝ) : EReal) := by
  unfold nE
  rw [ofBits_normal _ 136 4194304 (by decide) (by decide) (by decide) (by decide) (by decide)]
  norm_num

theorem epsE_pos : ∃ r : ℝ, 0 < r ∧ epsE = (r : EReal) := by
  unfold epsE
  rw [ofBits_normal _ 110 2606508 (by decide) (by decide) (by decide) (by decide) (by decide)]
  exact ⟨_, by positivity, rfl⟩

theorem nE_ne : nE ≠ 0 := by
  rw [nE_eq]; exact_mod_cast (by norm_num : (768 : ℝ) ≠ 0)

theorem mean_fn {z : Fin 768 → EReal} (hz : ∀ e, Fn (z e)) : Fn (mean z) :=
  (Fn.sum _ hz).div ⟨_, nE_eq⟩ nE_ne

theorem sum_sq {ι : Type} (s : Finset ι) {f : ι → EReal} (h : ∀ i, Fn (f i)) :
    ∃ r : ℝ, 0 ≤ r ∧ ∑ i ∈ s, f i * f i = (r : EReal) := by
  classical
  induction s using Finset.induction_on with
  | empty => exact ⟨0, le_refl _, by simp⟩
  | insert a s ha ih =>
    obtain ⟨r, hr, e⟩ := ih
    obtain ⟨t, ht⟩ := h a
    refine ⟨t * t + r, add_nonneg (mul_self_nonneg t) hr, ?_⟩
    rw [Finset.sum_insert ha, e, ht]
    push_cast
    rfl

theorem dev_fn {z : Fin 768 → EReal} (hz : ∀ e, Fn (z e)) : Fn (dev z) ∧ dev z ≠ 0 := by
  obtain ⟨r, hr, e⟩ := sum_sq Finset.univ (f := fun e => z e - mean z) (fun e => (hz e).sub (mean_fn hz))
  obtain ⟨p, hp, hpe⟩ := epsE_pos
  have hv : Ideal.div (∑ e, (z e - mean z) * (z e - mean z)) nE + epsE = ((r * (768 : ℝ)⁻¹ + p : ℝ) : EReal) := by
    unfold Ideal.div
    rw [if_neg nE_ne, e, hpe, nE_eq, ← EReal.coe_inv]
    push_cast
    rfl
  have hq : 0 < r * (768 : ℝ)⁻¹ + p := by positivity
  have hs : dev z = ((Real.sqrt (r * (768 : ℝ)⁻¹ + p) : ℝ) : EReal) := by
    unfold dev
    rw [hv]
    show (if r * (768 : ℝ)⁻¹ + p < 0 then (⊥ : EReal) else _) = _
    rw [if_neg (not_lt.mpr hq.le)]
  refine ⟨⟨_, hs⟩, ?_⟩
  rw [hs]
  exact_mod_cast (Real.sqrt_pos.mpr hq).ne'

theorem norm_fn {z g b : Fin 768 → EReal} (hz : ∀ e, Fn (z e)) (hg : ∀ e, Fn (g e)) (hb : ∀ e, Fn (b e))
    (e : Fin 768) : Fn (norm z g b e) :=
  ((((hz e).sub (mean_fn hz)).div (dev_fn hz).1 (dev_fn hz).2).mul (hg e)).add (hb e)

theorem proj_fn {z g b : Fin 768 → EReal} {W : Fin 2304 → Fin 768 → EReal} {w : Fin 2304 → EReal}
    (hz : ∀ e, Fn (z e)) (hg : ∀ e, Fn (g e)) (hb : ∀ e, Fn (b e)) (hW : ∀ c e, Fn (W c e)) (hw : ∀ c, Fn (w c))
    (c : Fin 2304) : Fn (proj z g b W w c) :=
  (Fn.sum _ fun e => (norm_fn hz hg hb e).mul (hW c e)).add (hw c)

/-! ### Softmax with masked entries -/

theorem top_eq_sup {n : ℕ} (s : Fin n → EReal) : top s = Finset.univ.sup s := rfl

theorem exp_nonneg (x : EReal) : 0 ≤ Ideal.exp x := by
  induction x using EReal.rec with
  | bot => exact le_refl _
  | top => exact le_top
  | coe r => show (0 : EReal) ≤ ((Real.exp r : ℝ) : EReal); exact_mod_cast (Real.exp_pos r).le

/-- Of real scores the sum of exponentials is not zero: the greatest score's own exponential is one. -/
theorem expSum_ne {n : ℕ} (hn : 0 < n) {s : Fin n → EReal} (hs : ∀ j, Fn (s j)) : expSum s ≠ 0 := by
  haveI : Nonempty (Fin n) := ⟨⟨0, hn⟩⟩
  obtain ⟨j, -, hj⟩ := Finset.exists_mem_eq_sup Finset.univ Finset.univ_nonempty s
  obtain ⟨r, hr⟩ := hs j
  have h1 : Ideal.exp (s j - top s) = 1 := by
    rw [top_eq_sup, hj, hr, ← EReal.coe_sub, sub_self]
    show ((Real.exp 0 : ℝ) : EReal) = 1
    rw [Real.exp_zero]; rfl
  have h2 : (1 : EReal) ≤ expSum s := by
    rw [← h1]
    exact Finset.single_le_sum (f := fun j => Ideal.exp (s j - top s)) (fun i _ => exp_nonneg _) (Finset.mem_univ j)
  intro h
  rw [h] at h2
  exact absurd h2 (by norm_num)

variable {n p : ℕ} {s : Fin n → EReal} {s' : Fin (n + p) → EReal} {v : Fin n → EReal} {v' : Fin (n + p) → EReal}

theorem top_mask (h1 : ∀ j, s' (Fin.castAdd p j) = s j) (h2 : ∀ j, s' (Fin.natAdd n j) = ⊥) : top s' = top s := by
  rw [top_eq_sup, top_eq_sup]
  refine le_antisymm (Finset.sup_le fun j _ => ?_) (Finset.sup_le fun j _ => ?_)
  · refine Fin.addCases (fun j => ?_) (fun j => ?_) j
    · rw [h1]; exact Finset.le_sup (f := s) (Finset.mem_univ j)
    · rw [h2]; exact bot_le
  · rw [← h1 j]; exact Finset.le_sup (f := s') (Finset.mem_univ _)

theorem exp_mask (x : EReal) : Ideal.exp (⊥ - x) = 0 := by
  rw [sub_eq_add_neg, EReal.bot_add]; rfl

theorem expSum_mask (h1 : ∀ j, s' (Fin.castAdd p j) = s j) (h2 : ∀ j, s' (Fin.natAdd n j) = ⊥) :
    expSum s' = expSum s := by
  unfold expSum
  rw [Fin.sum_univ_add, top_mask h1 h2]
  simp only [h1, h2, exp_mask, Finset.sum_const_zero, add_zero]

/-- Entries masked with `⊥` beyond the first `n` do not count, where the first `n` scores are real. -/
theorem soft_mask (hn : 0 < n) (hs : ∀ j, Fn (s j)) (h1 : ∀ j, s' (Fin.castAdd p j) = s j)
    (h2 : ∀ j, s' (Fin.natAdd n j) = ⊥) (hv : ∀ j, v' (Fin.castAdd p j) = v j) : soft s' v' = soft s v := by
  unfold soft
  rw [Fin.sum_univ_add, expSum_mask h1 h2, top_mask h1 h2]
  have h0 : ∀ j : Fin p, Ideal.div (Ideal.exp (s' (Fin.natAdd n j) - top s)) (expSum s) * v' (Fin.natAdd n j) = 0 := by
    intro j
    rw [h2, exp_mask]
    unfold Ideal.div
    rw [if_neg (expSum_ne hn hs), zero_mul, zero_mul]
  simp only [h0, Finset.sum_const_zero, add_zero, h1, hv]

/-- A product with an eighth is a quotient by the square root of sixty-four. -/
theorem scale (x : EReal) : x * Ideal.ofBits .f32 0x3E000000#32 = Ideal.div x (Ideal.sqrt (Ideal.ofBits .f32 0x42800000#32)) := by
  have h8 : Ideal.ofBits .f32 0x3E000000#32 = (((8 : ℝ)⁻¹ : ℝ) : EReal) := by
    rw [ofBits_normal _ 124 0 (by decide) (by decide) (by decide) (by decide) (by decide)]
    norm_num
  have h64 : Ideal.ofBits .f32 0x42800000#32 = ((64 : ℝ) : EReal) := by
    rw [ofBits_normal _ 133 0 (by decide) (by decide) (by decide) (by decide) (by decide)]
    norm_num
  have hq : Ideal.sqrt ((64 : ℝ) : EReal) = ((8 : ℝ) : EReal) := by
    show (if (64 : ℝ) < 0 then (⊥ : EReal) else _) = _
    rw [if_neg (by norm_num), show (64 : ℝ) = 8 ^ 2 by norm_num, Real.sqrt_sq (by norm_num)]
  have h0 : ((8 : ℝ) : EReal) ≠ 0 := by exact_mod_cast (by norm_num : (8 : ℝ) ≠ 0)
  rw [h8, h64, hq]
  unfold Ideal.div
  rw [if_neg h0, EReal.coe_inv]

theorem ofBits_neg_inf : Ideal.ofBits .f32 0xFF800000#32 = ⊥ := by
  have h : ((0xFF800000#32 : BitVec 32).extractLsb' 31 1 == 1#1) = true := by decide
  have he : ((0xFF800000#32 : BitVec 32).extractLsb' 23 8).toNat = 255 := by decide
  have hf : ((0xFF800000#32 : BitVec 32).extractLsb' 0 23).toNat = 0 := by decide
  simp only [Ideal.ofBits, Ideal.ieee]
  simp only [Nat.reduceAdd, h, he, hf, show (2 : ℕ) ^ 8 - 1 = 255 by norm_num, if_true]

theorem ofBits_inf : Ideal.ofBits .f32 0x7F800000#32 = ⊤ := by
  have h : ((0x7F800000#32 : BitVec 32).extractLsb' 31 1 == 1#1) = false := by decide
  have he : ((0x7F800000#32 : BitVec 32).extractLsb' 23 8).toNat = 255 := by decide
  have hf : ((0x7F800000#32 : BitVec 32).extractLsb' 0 23).toNat = 0 := by decide
  simp only [Ideal.ofBits, Ideal.ieee]
  simp only [Nat.reduceAdd, h, he, hf, show (2 : ℕ) ^ 8 - 1 = 255 by norm_num, if_true, Bool.false_eq_true, if_false]

end Cert.Attn

end
-- ==== Proof.Pre.lean ====
/- The precondition, read: every entry of the arrays the attention reads is finite. -/
module

public import proofs.«01_k».proof.Defs
public import proofs.«01_k».proof.Proof.Math.Softmax
public import Idealize.ShloMosaic.Lib.Pointwise

@[expose] public section

noncomputable section

namespace Cert.Proof

open Idealize.ShloMosaic Idealize.ShloMosaic.TcCoe Idealize.ShloMosaic.Tactic

/-- The shape relations the precondition's operations take. -/
theorem preFacts : Cert.Pre_attention_finite.Facts where
  bcast_S_S16x3x224x224 := by decide
  bcast_S_S768x3x16x16 := by decide
  bcast_S_S768 := by decide
  bcast_S_S1x196x768 := by decide
  bcast_S_S2304x768 := by decide
  bcast_S_S2304 := by decide

/-- An array whose absolute values compare below infinity is finite. -/
theorem fn_of_cmp {S : Shape} (x : FVec Ideal S .f32) (hb : Cert.Pre_attention_finite.S_.BroadcastsInDim S (![] : Fin 0 → Fin S.rank))
    (h : cmpf .olt (Host.absf x) (broadcastInDim S ![] hb (constant (F := Ideal) Cert.Pre_attention_finite.S_ .f32 0x7F800000#32)) = fun _ => 1#1) (i : S.Idx) :
    Cert.Attn.Fn (x i) := by
  have hi : Ideal.cmp .olt (max (x i) (-(x i))) (Ideal.ofBits .f32 0x7F800000#32) = 1 := congrFun h i
  rw [Cert.Attn.ofBits_inf] at hi
  exact Cert.Attn.Fn.of_abs ((Ideal.cmp_olt_eq_one _ _).mp hi)

/-- The precondition's eight parts, one array each. -/
theorem finite_of_pre (m : (ℓ : Loc Cert.KernelIdeal.nD Cert.KernelIdeal.τ Cert.KernelIdeal.sig) → Buf (Elt Ideal) ℓ)
    (h : Pre_KernelIdeal_attention_finite (hPre_attention_finite := preFacts) m) (c : Dev Cert.KernelIdeal.nD) :
      (∀ i : Cert.KernelIdeal.S16x3x224x224.Idx, Cert.Attn.Fn ((m ((c.tc : Thread Cert.KernelIdeal.nD Cert.KernelIdeal.τ).loc Cert.KernelIdeal.main_arg0) : Cert.KernelIdeal.S16x3x224x224.Idx → EReal) i)) ∧
      (∀ i : Cert.KernelIdeal.S768x3x16x16.Idx, Cert.Attn.Fn ((m ((c.tc : Thread Cert.KernelIdeal.nD Cert.KernelIdeal.τ).loc Cert.KernelIdeal.main_arg1) : Cert.KernelIdeal.S768x3x16x16.Idx → EReal) i)) ∧
      (∀ i : Cert.KernelIdeal.S768.Idx, Cert.Attn.Fn ((m ((c.tc : Thread Cert.KernelIdeal.nD Cert.KernelIdeal.τ).loc Cert.KernelIdeal.main_arg2) : Cert.KernelIdeal.S768.Idx → EReal) i)) ∧
      (∀ i : Cert.KernelIdeal.S1x196x768.Idx, Cert.Attn.Fn ((m ((c.tc : Thread Cert.KernelIdeal.nD Cert.KernelIdeal.τ).loc Cert.KernelIdeal.main_arg3) : Cert.KernelIdeal.S1x196x768.Idx → EReal) i)) ∧
      (∀ i : Cert.KernelIdeal.S768.Idx, Cert.Attn.Fn ((m ((c.tc : Thread Cert.KernelIdeal.nD Cert.KernelIdeal.τ).loc Cert.KernelIdeal.main_arg4) : Cert.KernelIdeal.S768.Idx → EReal) i)) ∧
      (∀ i : Cert.KernelIdeal.S768.Idx, Cert.Attn.Fn ((m ((c.tc : Thread Cert.KernelIdeal.nD Cert.KernelIdeal.τ).loc Cert.KernelIdeal.main_arg5) : Cert.KernelIdeal.S768.Idx → EReal) i)) ∧
      (∀ i : Cert.KernelIdeal.S2304x768.Idx, Cert.Attn.Fn ((m ((c.tc : Thread Cert.KernelIdeal.nD Cert.KernelIdeal.τ).loc Cert.KernelIdeal.main_arg6) : Cert.KernelIdeal.S2304x768.Idx → EReal) i)) ∧
      (∀ i : Cert.KernelIdeal.S2304.Idx, Cert.Attn.Fn ((m ((c.tc : Thread Cert.KernelIdeal.nD Cert.KernelIdeal.τ).loc Cert.KernelIdeal.main_arg7) : Cert.KernelIdeal.S2304.Idx → EReal) i)) := by
  exact ⟨fn_of_cmp _ _ (h c).1, fn_of_cmp _ _ (h c).2.1, fn_of_cmp _ _ (h c).2.2.1, fn_of_cmp _ _ (h c).2.2.2.1, fn_of_cmp _ _ (h c).2.2.2.2.1, fn_of_cmp _ _ (h c).2.2.2.2.2.1, fn_of_cmp _ _ (h c).2.2.2.2.2.2.1, fn_of_cmp _ _ (h c).2.2.2.2.2.2.2⟩

end Cert.Proof

end
-- ==== Proof.Math.Ffn.lean ====
/- One expert's network at one row of tokens. -/
module

public import Idealize.ShloMosaic.Lib.Pointwise
public import proofs.«01_k».proof.Proof.Math.Softmax

@[expose] public section

noncomputable section

namespace Cert.Moe

open Idealize.ShloMosaic

/-- The hidden layer before its activation. -/
def hid (x : Fin 768 → EReal) (w : Fin 3072 → Fin 768 → EReal) (b : Fin 3072 → EReal) (k : Fin 3072) : EReal := (∑ e, x e * w k e) + b k

/-- The activation `0.5 · h · (1 + erf (h · c))`, where `c` is the 32-bit rounding of `1/√2`. -/
def act (h : EReal) : EReal := Ideal.ofBits .f32 0x3F000000#32 * h * (1 + Ideal.erf (h * Ideal.ofBits .f32 0x3F3504F3#32))

/-- The constant `c` of the activation, as a fraction. -/
theorem act_const : Ideal.ofBits .f32 0x3F3504F3#32 = ((11863283 / 16777216 : ℝ) : EReal) := by
  rw [Cert.Attn.ofBits_normal _ 126 3474675 (by decide) (by decide) (by decide) (by decide) (by decide)]
  norm_num

/-- Dividing by the inverse of `c` is multiplying by `c`. -/
theorem div_named (h : EReal) : Ideal.div h ((16777216 / 11863283 : ℝ) : EReal) = h * Ideal.ofBits .f32 0x3F3504F3#32 := by
  rw [Ideal.div_coe (by norm_num), act_const]
  norm_num

/-- The activation spelled with the complementary error function. -/
theorem act_erfc (h : EReal) : Ideal.ofBits .f32 0x3F000000#32 * h * Ideal.erfc (-h * Ideal.ofBits .f32 0x3F3504F3#32) = act h := by
  rw [neg_mul, Ideal.erfc_neg, act]

/-- The expert's output. -/
def ffn (x : Fin 768 → EReal) (w : Fin 3072 → Fin 768 → EReal) (b : Fin 3072 → EReal) (u : Fin 768 → Fin 3072 → EReal) (a : Fin 768 → EReal) (d : Fin 768) : EReal :=
  (∑ k, act (hid x w b k) * u d k) + a d

end Cert.Moe

end
-- ==== Proof.Ref.Experts.lean ====
/- What each expert of the reference computes of every token, read at a token and a column. -/
module

public import proofs.«01_k».proof.Proof.Gen.ReferenceIdeal.Run
public import proofs.«01_k».proof.Proof.Math.Ffn
public import Idealize.ShloMosaic.Lib.Pointwise

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic

/-- Expert `n`'s hidden layer. -/
theorem hid_apply (n : Fin 6) (y : FVec Ideal S3136x768 .f32) (w : FVec Ideal S6x3072x768 .f32) (b : FVec Ideal S6x3072 .f32)
    (h1 : S6x3072x768.Slices ![n.val, 0, 0] S1x3072x768) (h2 : S6x3072.Slices ![n.val, 0] S1x3072) (t : Fin 3136) (k : Fin 3072) :
    addf (Host.dotGeneral dot_S3136x768_S768x3072_S3136x3072_1_0_0_1_n_n none y (transpose S768x3072 [1, 0] (shapeCast _ (extractStridedSlice S1x3072x768 ![n.val, 0, 0] w h1) shapeCasts_S1x3072x768_S3072x768) transposes_S3072x768_S768x3072_1_0)) (broadcastInDim S3136x3072 ![0, 1] bcast_S1x3072_S3136x3072_0_1 (broadcastInDim S1x3072 ![1] bcast_S3072_S1x3072_1 (shapeCast _ (extractStridedSlice S1x3072 ![n.val, 0] b h2) shapeCasts_S1x3072_S3072))) (ix2 t k)
      = Cert.Moe.hid (fun e => y (ix2 t e)) (fun k e => w (ix3 n k e)) (fun k => b (ix2 n k)) k := by
  pointwise []
  rfl

/-- Expert `n`'s term of the sum: its network, times its gate. -/
theorem term_apply (n : Fin 6) (x : FVec Ideal S3136x3072 .f32) (u : FVec Ideal S6x768x3072 .f32) (a : FVec Ideal S6x768 .f32) (g : FVec Ideal S3136x6 .f32)
    (h1 : S6x768x3072.Slices ![n.val, 0, 0] S1x768x3072) (h2 : S6x768.Slices ![n.val, 0] S1x768) (h3 : S3136x6.Slices ![0, n.val] S3136x1) (t : Fin 3136) (d : Fin 768)
    (y : Fin 768 → EReal) (w : Fin 3072 → Fin 768 → EReal) (b : Fin 3072 → EReal) (hx : ∀ k, x (ix2 t k) = Cert.Moe.hid y w b k) :
    mulf (addf (Host.dotGeneral dot_S3136x3072_S3072x768_S3136x768_1_0_0_1_n_n none (mulf (mulf (broadcastInDim S3136x3072 ![] bcast_S_S3136x3072 (constant S_ .f32 0x3F000000#32)) x) (Host.erfc (mulf (Host.negf x) (broadcastInDim S3136x3072 ![] bcast_S_S3136x3072 (constant S_ .f32 0x3F3504F3#32))))) (transpose S3072x768 [1, 0] (shapeCast _ (extractStridedSlice S1x768x3072 ![n.val, 0, 0] u h1) shapeCasts_S1x768x3072_S768x3072) transposes_S768x3072_S3072x768_1_0)) (broadcastInDim S3136x768 ![0, 1] bcast_S1x768_S3136x768_0_1 (broadcastInDim S1x768 ![1] bcast_S768_S1x768_1 (shapeCast _ (extractStridedSlice S1x768 ![n.val, 0] a h2) shapeCasts_S1x768_S768)))) (broadcastInDim S3136x768 ![0, 1] bcast_S3136x1_S3136x768_0_1 (extractStridedSlice S3136x1 ![0, n.val] g h3)) (ix2 t d)
      = Cert.Moe.ffn y w b (fun d k => u (ix3 n d k)) (fun d => a (ix2 n d)) d * g (ix2 t n) := by
  pointwise []
  simp only [hx]
  simp only [Cert.Moe.act_erfc]
  rfl

end Cert.ReferenceIdeal.Hand

end
-- ==== Proof.Math.Best2.lean ====
/- The positions of the two greatest of six: below six, and two different ones. -/
module

public import Idealize.ShloMosaic.Lib.Pointwise
public import Idealize.ShloMosaic.Lib.SortFacts

@[expose] public section

noncomputable section

namespace Cert.Best2

open Idealize.ShloMosaic

abbrev S6 : Shape := ⟨3, ![16, 196, 6]⟩
abbrev S2 : Shape := ⟨3, ![16, 196, 2]⟩

/-- The order in which the stable sort leaves the six entries of one row. -/
def order (x : S6.Idx → EReal) (b : Fin 16) (r : Fin 196) : Fin 6 → Fin 6 :=
  sortedFrom fun k k' => FloatOps.cmpfTotal (F := Ideal) (φ := .f32) .gt (x (ix3 b r k)) (x (ix3 b r k')) == 1#1

theorem order_injective (x : S6.Idx → EReal) (b : Fin 16) (r : Fin 196) : Function.Injective (order x b r) := sortedFrom_injective _

theorem along_self {s : Shape} (i : s.Idx) (d : Fin s.rank) (k : Fin (s.size d)) : Shape.Idx.along i d k d = k := by
  unfold Shape.Idx.along Function.update
  exact dif_pos rfl

theorem index_eq (x : S6.Idx → EReal) (h : S6.Slices (fun _ => 0) S2) (b : Fin 16) (r : Fin 196) (q : Fin 2) :
    (Host.topK S2 2 (FloatOps.cmpfTotal (F := Ideal) (φ := .f32) .gt) x h).2 (ix3 b r q) = BitVec.ofNat 32 (order x b r ⟨q.val, by omega⟩).val := by
  have ha : ∀ (i : S6.Idx) (k : Fin 6), i = ix3 b r ⟨q.val, by omega⟩ → Shape.Idx.along (s := S6) i 2 k = ix3 b r k := fun i k hi => by
    subst hi
    funext a
    match a with
    | ⟨0, _⟩ => rfl
    | ⟨1, _⟩ => rfl
    | ⟨2, _⟩ => rfl
  have hi : (fun a => ⟨0 + ((ix3 b r q : S2.Idx) (a.cast h.1.symm)).val, Nat.lt_of_lt_of_le (Nat.add_lt_add_left ((ix3 b r q : S2.Idx) _).isLt _) (h.2 a)⟩ : S6.Idx) = ix3 b r ⟨q.val, by omega⟩ := by
    funext a
    apply Fin.ext
    match a with
    | ⟨0, _⟩ => exact Nat.zero_add _
    | ⟨1, _⟩ => exact Nat.zero_add _
    | ⟨2, _⟩ => exact Nat.zero_add _
  unfold Host.topK extractStridedSlice Host.sort2
  dsimp only
  rw [dif_pos (show 2 < S6.rank by decide)]
  dsimp only
  rw [dif_pos (show 2 < S6.rank by decide), hi]
  unfold order
  have hs : ∀ (i : S6.Idx) (k : Fin 6), ((Shape.Idx.along (s := S6) i 2 k) 2).val = k.val := fun i k =>
    congrArg Fin.val (along_self i 2 k)
  refine congrArg (BitVec.ofNat 32) ((hs _ _).trans ?_)
  refine congrArg Fin.val (?_ : sortedFrom (n := 6) _ _ = sortedFrom (n := 6) _ _)
  congr 1
  · funext k k'
    exact congrArg₂ (fun u w => FloatOps.cmpfTotal (F := Ideal) (φ := .f32) .gt (x u) (x w) == 1#1) (ha _ k rfl) (ha _ k' rfl)
  · exact Fin.ext (Nat.zero_add _)

end Cert.Best2

end
-- ==== Proof.Math.Words.lean ====
/- Machine words that hold small numbers: wrapping a negative index, checking an index's range, dividing. -/
module

public import Idealize.ShloMosaic.Lib.Routing.Ops
public import Idealize.ShloMosaic.Lib.Routing.OpsSearch
public import Idealize.ShloMosaic.Lib.Routing.OpsPair

@[expose] public section

noncomputable section

namespace Cert.Words

open Idealize.ShloMosaic Idealize.ShloMosaic.Routing Idealize.ShloMosaic.ValueIdx

/-- A small number's word is not negative, so it is not wrapped. -/
theorem keep (k : ℕ) (hk : k < 2 ^ 31) (a : BitVec 32) :
    Scalar.select (IntOp.cmpi .slt (BitVec.ofNat 32 k) 0#32) a (BitVec.ofNat 32 k) = BitVec.ofNat 32 k :=
  wrap_of_lt _ _ (by rw [BitVec.toNat_ofNat]; omega)

theorem toInt_small (k : ℕ) (hk : k < 2 ^ 31) : (BitVec.ofNat 32 k).toInt = (k : Int) :=
  StableHlo.Predicate.toInt_ofNat_small _ hk

/-- A small number's word is at least zero. -/
theorem ge_zero (k : ℕ) (hk : k < 2 ^ 31) : IntOp.cmpi .sge (BitVec.ofNat 32 k) 0#32 = 1#1 := by
  have e : IntOp.cmpi .sge (BitVec.ofNat 32 k) 0#32 = BitVec.ofBool ((0#32).sle (BitVec.ofNat 32 k)) := rfl
  rw [e, BitVec.sle, toInt_small k hk]
  simp

/-- Order of small numbers, on their words. -/
theorem le_word (a b : ℕ) (ha : a < 2 ^ 31) (hb : b < 2 ^ 31) :
    IntOp.cmpi .sle (BitVec.ofNat 32 a) (BitVec.ofNat 32 b) = BitVec.ofBool (decide (a ≤ b)) := by
  have e : IntOp.cmpi .sle (BitVec.ofNat 32 a) (BitVec.ofNat 32 b) = BitVec.ofBool ((BitVec.ofNat 32 a).sle (BitVec.ofNat 32 b)) := rfl
  rw [e, BitVec.sle, toInt_small a ha, toInt_small b hb]
  simp

theorem eq_word (a b : ℕ) (ha : a < 2 ^ 31) (hb : b < 2 ^ 31) :
    IntOp.cmpi .eq (BitVec.ofNat 32 a) (BitVec.ofNat 32 b) = BitVec.ofBool (decide (a = b)) := by
  have e : IntOp.cmpi .eq (BitVec.ofNat 32 a) (BitVec.ofNat 32 b) = BitVec.ofBool (BitVec.ofNat 32 a == BitVec.ofNat 32 b) := rfl
  have h : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  rw [e]
  congr 1
  rw [beq_eq_decide]
  exact decide_eq_decide.mpr h

/-- An index in range passes the two-sided check. -/
theorem in_range (k n : ℕ) (hk : k ≤ n) (hn : n < 2 ^ 31) :
    IntOp.andi (IntOp.cmpi .sge (BitVec.ofNat 32 k) 0#32) (IntOp.cmpi .sle (BitVec.ofNat 32 k) (BitVec.ofNat 32 n)) = 1#1 := by
  rw [ge_zero k (by omega), le_word k n (by omega) hn, decide_eq_true hk]
  rfl

/-- Division rounding down, as it is printed for signed words. -/
theorem floor_div (a b : ℕ) (ha : a < 2 ^ 31) (h0 : 0 < b) (hb : b < 2 ^ 31) :
    pyDiv0 (fun _ => BitVec.ofNat 32 a) (fun _ => BitVec.ofNat 32 b) ix0 = BitVec.ofNat 32 (a / b) :=
  pyDiv0_ap _ _ rfl rfl ha h0 hb

theorem add_word (a b : ℕ) : IntOp.addi (BitVec.ofNat 32 a) (BitVec.ofNat 32 b) = BitVec.ofNat 32 (a + b) := (BitVec.ofNat_add a b).symm
theorem mul_word (a b : ℕ) : IntOp.muli (BitVec.ofNat 32 a) (BitVec.ofNat 32 b) = BitVec.ofNat 32 (a * b) := (BitVec.ofNat_mul a b).symm
theorem sub_word (a b : ℕ) (h : b ≤ a) : IntOp.subi (BitVec.ofNat 32 a) (BitVec.ofNat 32 b) = BitVec.ofNat 32 (a - b) := by
  obtain ⟨c, rfl⟩ := Nat.exists_eq_add_of_le h
  rw [Nat.add_sub_cancel_left, ← add_word, show IntOp.subi (IntOp.addi (BitVec.ofNat 32 b) (BitVec.ofNat 32 c)) (BitVec.ofNat 32 b)
    = (BitVec.ofNat 32 b + BitVec.ofNat 32 c) - BitVec.ofNat 32 b from rfl]
  rw [BitVec.add_comm, BitVec.add_sub_cancel]

theorem min_word (a b : ℕ) (ha : a < 2 ^ 31) (hb : b < 2 ^ 31) :
    IntOp.minsi (BitVec.ofNat 32 a) (BitVec.ofNat 32 b) = BitVec.ofNat 32 (min a b) := by
  unfold IntOp.minsi
  simp only [BitVec.sle, BitVec.slt, toInt_small a ha, toInt_small b hb]
  rcases Nat.lt_trichotomy a b with h | h | h
  · rw [min_eq_left h.le]; simp [h, h.le]
  · subst h; simp
  · rw [min_eq_right h.le]
    split
    · rename_i h'; simp at h'; omega
    · rfl

end Cert.Words

end
-- ==== Proof.Math.Spread.lean ====
/- A matrix of zeros into which each row's two picks are added, each in its own column. -/
module

public import Idealize.ShloMosaic.Lib.Pointwise
public import Idealize.ShloMosaic.Lib.Routing.OpsPair
public import proofs.«01_k».proof.Proof.Math.Words

@[expose] public section

noncomputable section

namespace Cert.Spread

open Idealize.ShloMosaic Idealize.ShloMosaic.Routing

/-- The columns `n` that row `t` picks (two different ones) hold what was picked, the other columns zero: so a sum over the
columns of terms that each carry their column's entry is the sum over the two picks. -/
theorem sum_entries {R : ℕ} (d : ScatterDims (shape2 R 6) (shape3 R 2 2) (shape2 R 2)) (hiw : d.insertedWindowDims = [0, 1])
    (hsd : d.scatterDimsToOperandDims = [0, 1]) (hivd : d.indexVectorDim = 2) (hR : R < 2 ^ 31)
    (x : (shape2 R 6).Idx → EReal) (hx : ∀ i, x i = 0) (idx : IVec (shape3 R 2 2) 32) (u : (shape2 R 2).Idx → EReal)
    (f : Fin R → Fin 2 → Fin 6) (hf : ∀ t, f t 0 ≠ f t 1)
    (h0 : ∀ t q, idx (ix3 t q 0) = BitVec.ofNat 32 t.val) (h1 : ∀ t q, idx (ix3 t q 1) = BitVec.ofNat 32 (f t q).val)
    (t : Fin R) (F : Fin 6 → EReal) :
    (∑ n, F n * Ideal.hostScatterAdd d x idx u (ix2 t n)) = F (f t 0) * u (ix2 t 0) + F (f t 1) * u (ix2 t 1) := by
  have land : ∀ (a : Fin R) (q : Fin 2) (n : Fin 6), d.resultIdx? (ix2 a q) idx = some (ix2 t n) ↔ a = t ∧ f a q = n := fun a q n => by
    have e := scatter_lands2 d hiw hsd hivd idx a q t n
    simp only [← ix2_eq_valueIdx] at e
    refine e.trans ?_
    have e0 : idx (ValueIdx.ix3 a q 0) = BitVec.ofNat 32 a.val := h0 a q
    have e1 : idx (ValueIdx.ix3 a q 1) = BitVec.ofNat 32 (f a q).val := h1 a q
    rw [e0, e1, Cert.Words.toInt_small a.val (by omega), Cert.Words.toInt_small (f a q).val (by omega)]
    constructor
    · rintro ⟨p, q⟩
      exact ⟨Fin.ext (by omega), Fin.ext (by omega)⟩
    · rintro ⟨rfl, rfl⟩
      exact ⟨rfl, rfl⟩
  have val : ∀ n : Fin 6, Ideal.hostScatterAdd d x idx u (ix2 t n) = (if f t 0 = n then u (ix2 t 0) else 0) + (if f t 1 = n then u (ix2 t 1) else 0) := fun n => by
    unfold Ideal.hostScatterAdd
    rw [hx, zero_add, Finset.sum_filter]
    have hne : (ix2 t 0 : (shape2 R 2).Idx) ≠ ix2 t 1 := fun h => absurd (show (0 : Fin 2) = 1 from congrFun h 1) (by decide)
    rw [← Finset.sum_subset (Finset.subset_univ {(ix2 t 0 : (shape2 R 2).Idx), ix2 t 1}) ?_, Finset.sum_pair hne]
    · simp only [land, true_and]
    · intro j _ hj
      refine if_neg ?_
      obtain ⟨a, q, rfl⟩ : ∃ (a : Fin R) (q : Fin 2), j = ix2 a q := ⟨j 0, j 1, by
        funext k
        match k with
        | ⟨0, _⟩ => rfl
        | ⟨1, _⟩ => rfl⟩
      rw [land]
      rintro ⟨rfl, -⟩
      refine hj ?_
      rcases (by omega : q = 0 ∨ q = 1) with rfl | rfl <;> simp
  simp only [val]
  rw [← Finset.sum_subset (Finset.subset_univ {f t 0, f t 1}) ?_, Finset.sum_pair (hf t)]
  · rw [if_pos rfl, if_pos rfl, if_neg (hf t).symm, if_neg (hf t), add_zero, zero_add]
  · intro n _ hn
    rw [if_neg, if_neg, add_zero, mul_zero]
    · rintro rfl
      exact hn (by simp)
    · rintro rfl
      exact hn (by simp)

end Cert.Spread

end
-- ==== Proof.Ref.Moe.lean ====
/- The reference's mixture of experts, read at a token and a column: the two picked experts' outputs, each times its gate. -/
module

public import proofs.«01_k».proof.Proof.Ref.Experts
public import proofs.«01_k».proof.Proof.Math.Best2
public import proofs.«01_k».proof.Proof.Math.Spread

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic

variable (V : Valuation τ sig (Elt Ideal))

/-- The router's probabilities. -/
def probs : FVec Ideal S16x196x6 .f32 := res_main_v85 V

/-- The expert that is pick `q` of token `t`. -/
def pick (t : Fin 3136) (q : Fin 2) : Fin 6 := Cert.Best2.order (probs V) ⟨t.val / 196, by omega⟩ ⟨t.val % 196, by omega⟩ ⟨q.val, by omega⟩

/-- The gate of pick `q` of token `t`. -/
def gateOf : FVec Ideal S3136x2 .f32 := shapeCast _ ((Host.topK S16x196x2 2 (FloatOps.cmpfTotal .gt) (probs V) sliceFits_S16x196x6_S16x196x2).1) shapeCasts_S16x196x2_S3136x2

theorem pick_ne (t : Fin 3136) : pick V t 0 ≠ pick V t 1 := fun h =>
  absurd (Cert.Best2.order_injective _ _ _ h) (by decide)

theorem flat_apply (x : IVec S16x196x2 32) (t : Fin 3136) (q : Fin 2) :
    (shapeCast S3136x2 x shapeCasts_S16x196x2_S3136x2) (ix2 t q) = x (ix3 ⟨t.val / 196, by omega⟩ ⟨t.val % 196, by omega⟩ q) := by
  pointwise []

/-- The picks' words. -/
theorem v87_apply (t : Fin 3136) (q : Fin 2) : (res_main_v87 V : IVec S3136x2 32) (ix2 t q) = BitVec.ofNat 32 (pick V t q).val := by
  unfold res_main_v87
  exact (flat_apply _ t q).trans (Cert.Best2.index_eq (probs V) _ _ _ q)

theorem v91_apply (t : Fin 3136) : (res_main_v91 V : IVec S3136x1 32) (ix2 t 0) = BitVec.ofNat 32 t.val := by
  unfold res_main_v91
  pointwise []

/-- The pairs of words by which the gates are spread: the token's number. -/
theorem pair_token (y : IVec S3136x1 32) (k : IVec S3136x2 32) (hy : ∀ t, y (ix2 t 0) = BitVec.ofNat 32 t.val) (t : Fin 3136) (q : Fin 2) :
    concatenate S3136x2x2 2 [⟨S3136x2x1, (broadcastInDim S3136x2x1 ![0, 1] bcast_S3136x2_S3136x2x1_0_1 (broadcastInDim S3136x2 ![0, 1] bcast_S3136x1_S3136x2_0_1 (select (cmpi .slt y (broadcastInDim S3136x1 ![] bcast_S_S3136x1 (constantI S_ 32 0#32))) (addi y (broadcastInDim S3136x1 ![] bcast_S_S3136x1 (constantI S_ 32 3136#32))) y)))⟩, ⟨S3136x2x1, (broadcastInDim S3136x2x1 ![0, 1] bcast_S3136x2_S3136x2x1_0_1 (select (cmpi .slt k (broadcastInDim S3136x2 ![] bcast_S_S3136x2 (constantI S_ 32 0#32))) (addi k (broadcastInDim S3136x2 ![] bcast_S_S3136x2 (constantI S_ 32 6#32))) k))⟩] concatenates_S3136x2x1_S3136x2x1_S3136x2x2_d2 (ix3 t q 0)
      = BitVec.ofNat 32 t.val := by
  pointwise [hy]
  exact Routing.wrap_of_lt _ _ (by rw [BitVec.toNat_ofNat]; omega)

/-- The pairs of words by which the gates are spread: the pick's expert. -/
theorem pair_expert (y : IVec S3136x1 32) (k : IVec S3136x2 32) (f : Fin 3136 → Fin 2 → Fin 6) (hk : ∀ t q, k (ix2 t q) = BitVec.ofNat 32 (f t q).val)
    (t : Fin 3136) (q : Fin 2) :
    concatenate S3136x2x2 2 [⟨S3136x2x1, (broadcastInDim S3136x2x1 ![0, 1] bcast_S3136x2_S3136x2x1_0_1 (broadcastInDim S3136x2 ![0, 1] bcast_S3136x1_S3136x2_0_1 (select (cmpi .slt y (broadcastInDim S3136x1 ![] bcast_S_S3136x1 (constantI S_ 32 0#32))) (addi y (broadcastInDim S3136x1 ![] bcast_S_S3136x1 (constantI S_ 32 3136#32))) y)))⟩, ⟨S3136x2x1, (broadcastInDim S3136x2x1 ![0, 1] bcast_S3136x2_S3136x2x1_0_1 (select (cmpi .slt k (broadcastInDim S3136x2 ![] bcast_S_S3136x2 (constantI S_ 32 0#32))) (addi k (broadcastInDim S3136x2 ![] bcast_S_S3136x2 (constantI S_ 32 6#32))) k))⟩] concatenates_S3136x2x1_S3136x2x1_S3136x2x2_d2 (ix3 t q 1)
      = BitVec.ofNat 32 (f t q).val := by
  pointwise [hk]
  exact Routing.wrap_of_lt _ _ (by rw [BitVec.toNat_ofNat]; omega)

/-- The gates, a column per expert. -/
def gates : FVec Ideal S3136x6 .f32 := res_main_v106 V

theorem gates_sum (t : Fin 3136) (F : Fin 6 → EReal) :
    (∑ n, F n * gates V (ix2 t n)) = F (pick V t 0) * gateOf V (ix2 t 0) + F (pick V t 1) * gateOf V (ix2 t 1) := by
  unfold gates res_main_v106
  exact Cert.Spread.sum_entries scatter_S3136x6_S3136x2x2_S3136x2_n_01_01_2 rfl rfl rfl (by omega) _
    (fun i => Ideal.ofBits_zero .f32) _ _ (pick V) (pick_ne V) (pair_token _ _ (v91_apply V)) (pair_expert _ _ _ (v87_apply V)) t F

/-- A token's row after the attention. -/
def row (t : Fin 3136) (e : Fin 768) : EReal := (res_main_v86 V : FVec Ideal S3136x768 .f32) (ix2 t e)

/-- What expert `n` makes of token `t`. -/
def expert (n : Fin 6) (t : Fin 3136) (d : Fin 768) : EReal :=
  Cert.Moe.ffn (row V t) (fun k e => (V (Proc.devRef .tc main_arg12) : FVec Ideal S6x3072x768 .f32) (ix3 n k e))
    (fun k => (V (Proc.devRef .tc main_arg13) : FVec Ideal S6x3072 .f32) (ix2 n k))
    (fun d k => (V (Proc.devRef .tc main_arg14) : FVec Ideal S6x768x3072 .f32) (ix3 n d k))
    (fun d => (V (Proc.devRef .tc main_arg15) : FVec Ideal S6x768 .f32) (ix2 n d)) d

/-- Its hidden layer. -/
def hidden (n : Fin 6) (t : Fin 3136) (k : Fin 3072) : EReal :=
  Cert.Moe.hid (row V t) (fun k e => (V (Proc.devRef .tc main_arg12) : FVec Ideal S6x3072x768 .f32) (ix3 n k e))
    (fun k => (V (Proc.devRef .tc main_arg13) : FVec Ideal S6x3072 .f32) (ix2 n k)) k

theorem sum_apply (x0 x1 x2 x3 x4 x5 z : FVec Ideal S3136x768 .f32) (t : Fin 3136) (d : Fin 768) (E : Fin 6 → EReal) (hz : z (ix2 t d) = 0)
    (h0 : x0 (ix2 t d) = E 0) (h1 : x1 (ix2 t d) = E 1) (h2 : x2 (ix2 t d) = E 2) (h3 : x3 (ix2 t d) = E 3) (h4 : x4 (ix2 t d) = E 4) (h5 : x5 (ix2 t d) = E 5) :
    (addf (addf (addf (addf (addf (addf z x0) x1) x2) x3) x4) x5) (ix2 t d) = ∑ n, E n := by
  rw [Fin.sum_univ_six, ← h0, ← h1, ← h2, ← h3, ← h4, ← h5]
  pointwise []
  rw [hz, zero_add]

theorem h116 (t : Fin 3136) (k : Fin 3072) : (res_main_v116 V : FVec Ideal S3136x3072 .f32) (ix2 t k) = hidden V 0 t k := by
  unfold res_main_v116
  exact hid_apply 0 (res_main_v86 V) _ _ _ _ t k
theorem h145 (t : Fin 3136) (k : Fin 3072) : (res_main_v145 V : FVec Ideal S3136x3072 .f32) (ix2 t k) = hidden V 1 t k := by
  unfold res_main_v145
  exact hid_apply 1 (res_main_v86 V) _ _ _ _ t k
theorem h174 (t : Fin 3136) (k : Fin 3072) : (res_main_v174 V : FVec Ideal S3136x3072 .f32) (ix2 t k) = hidden V 2 t k := by
  unfold res_main_v174
  exact hid_apply 2 (res_main_v86 V) _ _ _ _ t k
theorem h203 (t : Fin 3136) (k : Fin 3072) : (res_main_v203 V : FVec Ideal S3136x3072 .f32) (ix2 t k) = hidden V 3 t k := by
  unfold res_main_v203
  exact hid_apply 3 (res_main_v86 V) _ _ _ _ t k
theorem h232 (t : Fin 3136) (k : Fin 3072) : (res_main_v232 V : FVec Ideal S3136x3072 .f32) (ix2 t k) = hidden V 4 t k := by
  unfold res_main_v232
  exact hid_apply 4 (res_main_v86 V) _ _ _ _ t k
theorem h261 (t : Fin 3136) (k : Fin 3072) : (res_main_v261 V : FVec Ideal S3136x3072 .f32) (ix2 t k) = hidden V 5 t k := by
  unfold res_main_v261
  exact hid_apply 5 (res_main_v86 V) _ _ _ _ t k

/-- The mixture's sum over the experts, before its rows are put back into images. -/
theorem flat_back (x : FVec Ideal S3136x768 .f32) (b : Fin 16) (r : Fin 196) (d : Fin 768) :
    (shapeCast S16x196x768 x shapeCasts_S3136x768_S16x196x768) (ix3 b r d) = x (ix2 ⟨b.val * 196 + r.val, by omega⟩ d) := by
  pointwise []

theorem v282_apply (b : Fin 16) (r : Fin 196) (d : Fin 768) :
    (res_main_v282 V : FVec Ideal S16x196x768 .f32) (ix3 b r d)
      = expert V (pick V ⟨b.val * 196 + r.val, by omega⟩ 0) ⟨b.val * 196 + r.val, by omega⟩ d * gateOf V (ix2 ⟨b.val * 196 + r.val, by omega⟩ 0)
        + expert V (pick V ⟨b.val * 196 + r.val, by omega⟩ 1) ⟨b.val * 196 + r.val, by omega⟩ d * gateOf V (ix2 ⟨b.val * 196 + r.val, by omega⟩ 1) := by
  unfold res_main_v282 res_main_v252
  refine (flat_back _ b r d).trans ?_
  generalize (⟨b.val * 196 + r.val, by omega⟩ : Fin 3136) = t
  refine (sum_apply _ _ _ _ _ _ _ t d (fun n => expert V n t d * gates V (ix2 t n)) (Ideal.ofBits_zero .f32) ?_ ?_ ?_ ?_ ?_ ?_).trans
    (gates_sum V t fun n => expert V n t d)
  · exact term_apply 0 _ _ _ (gates V) _ _ _ t d _ _ _ (h116 V t)
  · exact term_apply 1 _ _ _ (gates V) _ _ _ t d _ _ _ (h145 V t)
  · exact term_apply 2 _ _ _ (gates V) _ _ _ t d _ _ _ (h174 V t)
  · exact term_apply 3 _ _ _ (gates V) _ _ _ t d _ _ _ (h203 V t)
  · exact term_apply 4 _ _ _ (gates V) _ _ _ t d _ _ _ (h232 V t)
  · exact term_apply 5 _ _ _ (gates V) _ _ _ t d _ _ _ (h261 V t)

end Cert.ReferenceIdeal.Hand

end
-- ==== Proof.Ref.Tail.lean ====
/- The reference's last stretch: a normalisation of every row, the mean over an image's rows, and the classifier. -/
module

public import proofs.«01_k».proof.Proof.Ref.Moe

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic

variable (V : Valuation τ sig (Elt Ideal))

/-- The reference's result. -/
def result : FVec Ideal S16x1000 .f32 :=
  addf (Host.dotGeneral (φ₂ := .f32) dot_S16x768_S768x1000_S16x1000_1_0_0_1_n_n none (Host.divf (Host.reduceAdd (addf (mulf (Host.divf (subf (res_main_v282 V) (broadcastInDim S16x196x768 ![0, 1, 2] bcast_S16x196x1_S16x196x768_0_1_2 (res_main_v286 V))) (broadcastInDim S16x196x768 ![0, 1, 2] bcast_S16x196x1_S16x196x768_0_1_2 (Host.sqrt (addf (Host.divf (broadcastInDim S16x196x1 ![0, 1] bcast_S16x196_S16x196x1_0_1 (Host.reduceAdd (mulf (res_main_v288 V) (res_main_v288 V)) (constant S_ .f32 0x00000000#32) reducesTo_S16x196x768_S16x196_d2 h_S_)) (broadcastInDim S16x196x1 ![] bcast_S_S16x196x1 (constant S_ .f32 0x44400000#32))) (broadcastInDim S16x196x1 ![] bcast_S_S16x196x1 (constant S_ .f32 0x3727C5AC#32)))))) (broadcastInDim S16x196x768 ![0, 1, 2] bcast_S1x1x768_S16x196x768_0_1_2 (broadcastInDim S1x1x768 ![2] bcast_S768_S1x1x768_2 (V (Proc.devRef .tc main_arg16))))) (broadcastInDim S16x196x768 ![0, 1, 2] bcast_S1x1x768_S16x196x768_0_1_2 (broadcastInDim S1x1x768 ![2] bcast_S768_S1x1x768_2 (V (Proc.devRef .tc main_arg17))))) (constant S_ .f32 0x00000000#32) reducesTo_S16x196x768_S16x768_d1 h_S_) (broadcastInDim S16x768 ![] bcast_S_S16x768 (constant S_ .f32 0x43440000#32))) (transpose S768x1000 [1, 0] (V (Proc.devRef .tc main_arg18)) transposes_S1000x768_S768x1000_1_0)) (broadcastInDim S16x1000 ![0, 1] bcast_S1x1000_S16x1000_0_1 (broadcastInDim S1x1000 ![1] bcast_S1000_S1x1000_1 (V (Proc.devRef .tc main_arg19))))

end Cert.ReferenceIdeal.Hand

end
-- ==== Proof.RefRun.lean ====
/- The reference's run, its result named. -/
module

public import proofs.«01_k».proof.Proof.Ref.Tail

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo Idealize.SL.Sem

/-- The reference ends with `result` of its arguments, which it leaves as they were. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v314) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) := by
  unfold result
  exact Cert.ReferenceIdeal.Value.run (F := Ideal) m ρ

end Cert.ReferenceIdeal.Hand

end
-- ==== Proof.Ideal.AttnPay.lean ====
/- What the attention call's body computes, read at one row and one column. -/
module

public import proofs.«01_k».proof.Proof.Ideal.AttnRegion
public import proofs.«01_k».proof.Proof.Math.Softmax
public import Idealize.ShloMosaic.Lib.Pointwise
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic

theorem pay4_apply (v0 : FVec Ideal S1x224x768 .f32) (v20 v25 : FVec Ideal S1x768 .f32) (v31 : FVec Ideal S2304x768 .bf16)
    (v34 : FVec Ideal S1x2304 .f32) (r : Fin 224) (c : Fin 2304) :
    k0_pay4 (F := Ideal) v0 v20 v25 v31 v34 (ix2 r c) =
      Cert.Attn.proj (fun e => v0 (ix3 0 r e)) (fun e => v20 (ix2 0 e)) (fun e => v25 (ix2 0 e))
        (fun c e => v31 (ix2 c e)) (fun c => v34 (ix2 0 c)) c := by
  pointwise [k0_pay4, k0_pay3]
  rfl

/-- One head of the call, from its scores, its values and the mask. -/
theorem pay12_apply (k : IVec S224x224 1) (v : FVec Ideal S224x64 .f32) (s : FVec Ideal S224x224 .f32) (r : Fin 224) (d : Fin 64) :
    k0_pay12 (F := Ideal) k v s k0_pay11 (ix2 r d) =
      Cert.Attn.soft (fun j : Fin 224 => if k (ix2 r j) = 1#1 then ⊥ else s (ix2 r j) * Ideal.ofBits .f32 0x3E000000#32)
        (fun j => v (ix2 j d)) := by
  have hm : (Named.named (F := Ideal) κ "mask" (φ := .f32) 0xF149F2CA#32) = (⊥ : EReal) := rfl
  pointwise [k0_pay12, k0_pay11]
  simp only [hm, Cert.Attn.ofBits_neg_inf]
  rfl

theorem mask_apply (r j : Fin 224) :
    k0_pay6 (iota .tc S224x224 32 [1] iota_S224x224_d1_w32) k0_pay5 (ix2 r j) = if 196 ≤ j.val then 1#1 else 0#1 := by
  have hj := j.isLt
  pointwise [k0_pay6, k0_pay5]
  have e : IntOp.cmpi CmpIPredicate.sge (BitVec.ofNat 32 j.val) 196#32 =
      BitVec.ofBool ((196#32 : BitVec 32).sle (BitVec.ofNat 32 j.val)) := rfl
  rw [e, show ((196#32 : BitVec 32).sle (BitVec.ofNat 32 j.val)) = decide (196 ≤ j.val) by
    simp only [BitVec.sle, BitVec.toInt_eq_toNat_cond, BitVec.toNat_ofNat]
    rw [Nat.mod_eq_of_lt (a := j.val) (by omega)]
    simp
    split_ifs <;> omega]
  by_cases h : 196 ≤ j.val <;> simp [h]

/-- One head's result at a row and a column, from the projected rows. -/
def headAt (x : FVec Ideal S224x2304 .f32) (o : ℕ) (ho : o + 64 ≤ 768) (r : Fin 224) (d : Fin 64) : EReal :=
  Cert.Attn.soft (fun j : Fin 224 => if 196 ≤ j.val then ⊥ else
      (∑ e : Fin 64, x (ix2 r ⟨o + e.val, by omega⟩) * x (ix2 j ⟨768 + o + e.val, by omega⟩)) * Ideal.ofBits .f32 0x3E000000#32)
    (fun j => x (ix2 j ⟨1536 + o + d.val, by omega⟩))

theorem head_apply (x : FVec Ideal S224x2304 .f32) (o : ℕ) (ho : o + 64 ≤ 768) (h1 : S224x2304.Slices ![0, o] S224x64)
    (h2 : S224x2304.Slices ![0, 768 + o] S224x64) (h3 : S224x2304.Slices ![0, 1536 + o] S224x64)
    (r : Fin 224) (d : Fin 64) :
    k0_pay12 (k0_pay6 (iota .tc S224x224 32 [1] iota_S224x224_d1_w32) k0_pay5) (extractStridedSlice S224x64 ![0, 1536 + o] x h3)
      (matmul dot_S224x64_S224x64_S224x224_1_1_0_0_n_n none (extractStridedSlice S224x64 ![0, o] x h1)
        (extractStridedSlice S224x64 ![0, 768 + o] x h2) (constant S224x224 .f32 0x00000000#32)) k0_pay11 (ix2 r d) =
      headAt x o ho r d := by
  rw [pay12_apply]
  have hk := fun j => mask_apply r j
  generalize k0_pay6 (iota .tc S224x224 32 [1] iota_S224x224_d1_w32) k0_pay5 = k at hk ⊢
  simp only [hk]
  pointwise []
  unfold headAt
  congr 1
  funext j
  by_cases h : 196 ≤ j.val <;> simp [h]

theorem head0_apply (x : FVec Ideal S224x2304 .f32) (r : Fin 224) (d : Fin 64) :
    k0_pay7 x (iota .tc S224x224 32 [1] iota_S224x224_d1_w32) k0_pay5 (ix2 r d) = headAt x 0 (by omega) r d :=
  head_apply x 0 (by omega) slices_S224x2304_o0_0_S224x64 slices_S224x2304_o0_768_S224x64 slices_S224x2304_o0_1536_S224x64 r d

theorem head1_apply (x : FVec Ideal S224x2304 .f32) (r : Fin 224) (d : Fin 64) :
    k0_pay8 x (iota .tc S224x224 32 [1] iota_S224x224_d1_w32) k0_pay5 (ix2 r d) = headAt x 64 (by omega) r d :=
  head_apply x 64 (by omega) slices_S224x2304_o0_64_S224x64 slices_S224x2304_o0_832_S224x64 slices_S224x2304_o0_1600_S224x64 r d

theorem head2_apply (x : FVec Ideal S224x2304 .f32) (r : Fin 224) (d : Fin 64) :
    k0_pay12 (k0_pay6 (iota .tc S224x224 32 [1] iota_S224x224_d1_w32) k0_pay5) (k0_pay9 x) (k0_pay10 x) k0_pay11 (ix2 r d) = headAt x 128 (by omega) r d :=
  head_apply x 128 (by omega) slices_S224x2304_o0_128_S224x64 slices_S224x2304_o0_896_S224x64 slices_S224x2304_o0_1664_S224x64 r d

theorem head3_apply (x : FVec Ideal S224x2304 .f32) (r : Fin 224) (d : Fin 64) :
    k0_pay13 x (k0_pay6 (iota .tc S224x224 32 [1] iota_S224x224_d1_w32) k0_pay5) (ix2 r d) = headAt x 192 (by omega) r d :=
  head_apply x 192 (by omega) slices_S224x2304_o0_192_S224x64 slices_S224x2304_o0_960_S224x64 slices_S224x2304_o0_1728_S224x64 r d

theorem head4_apply (x : FVec Ideal S224x2304 .f32) (r : Fin 224) (d : Fin 64) :
    k0_pay17 (k0_pay14 x) (k0_pay15 x (k0_pay6 (iota .tc S224x224 32 [1] iota_S224x224_d1_w32) k0_pay5)) (k0_pay16 x (k0_pay6 (iota .tc S224x224 32 [1] iota_S224x224_d1_w32) k0_pay5)) (ix2 r d) = headAt x 256 (by omega) r d :=
  head_apply x 256 (by omega) slices_S224x2304_o0_256_S224x64 slices_S224x2304_o0_1024_S224x64 slices_S224x2304_o0_1792_S224x64 r d

theorem head5_apply (x : FVec Ideal S224x2304 .f32) (r : Fin 224) (d : Fin 64) :
    k0_pay18 x (k0_pay6 (iota .tc S224x224 32 [1] iota_S224x224_d1_w32) k0_pay5) (ix2 r d) = headAt x 320 (by omega) r d :=
  head_apply x 320 (by omega) slices_S224x2304_o0_320_S224x64 slices_S224x2304_o0_1088_S224x64 slices_S224x2304_o0_1856_S224x64 r d

theorem head6_apply (x : FVec Ideal S224x2304 .f32) (r : Fin 224) (d : Fin 64) :
    k0_pay21 (k0_pay19 x) (k0_pay20 x (k0_pay6 (iota .tc S224x224 32 [1] iota_S224x224_d1_w32) k0_pay5)) (ix2 r d) = headAt x 384 (by omega) r d :=
  head_apply x 384 (by omega) slices_S224x2304_o0_384_S224x64 slices_S224x2304_o0_1152_S224x64 slices_S224x2304_o0_1920_S224x64 r d

theorem head7_apply (x : FVec Ideal S224x2304 .f32) (r : Fin 224) (d : Fin 64) :
    k0_pay22 x (k0_pay6 (iota .tc S224x224 32 [1] iota_S224x224_d1_w32) k0_pay5) (ix2 r d) = headAt x 448 (by omega) r d :=
  head_apply x 448 (by omega) slices_S224x2304_o0_448_S224x64 slices_S224x2304_o0_1216_S224x64 slices_S224x2304_o0_1984_S224x64 r d

theorem head8_apply (x : FVec Ideal S224x2304 .f32) (r : Fin 224) (d : Fin 64) :
    k0_pay23 x (k0_pay6 (iota .tc S224x224 32 [1] iota_S224x224_d1_w32) k0_pay5) (ix2 r d) = headAt x 512 (by omega) r d :=
  head_apply x 512 (by omega) slices_S224x2304_o0_512_S224x64 slices_S224x2304_o0_1280_S224x64 slices_S224x2304_o0_2048_S224x64 r d

theorem head9_apply (x : FVec Ideal S224x2304 .f32) (r : Fin 224) (d : Fin 64) :
    k0_pay26 (k0_pay6 (iota .tc S224x224 32 [1] iota_S224x224_d1_w32) k0_pay5) (k0_pay24 x) (k0_pay25 x) (ix2 r d) = headAt x 576 (by omega) r d :=
  head_apply x 576 (by omega) slices_S224x2304_o0_576_S224x64 slices_S224x2304_o0_1344_S224x64 slices_S224x2304_o0_2112_S224x64 r d

theorem head10_apply (x : FVec Ideal S224x2304 .f32) (r : Fin 224) (d : Fin 64) :
    k0_pay27 x (k0_pay6 (iota .tc S224x224 32 [1] iota_S224x224_d1_w32) k0_pay5) (ix2 r d) = headAt x 640 (by omega) r d :=
  head_apply x 640 (by omega) slices_S224x2304_o0_640_S224x64 slices_S224x2304_o0_1408_S224x64 slices_S224x2304_o0_2176_S224x64 r d

theorem head11_apply (x : FVec Ideal S224x2304 .f32) (r : Fin 224) (d : Fin 64) :
    k0_pay1 (k0_pay28 x) (k0_pay29 x (k0_pay6 (iota .tc S224x224 32 [1] iota_S224x224_d1_w32) k0_pay5)) (k0_pay30 x (k0_pay6 (iota .tc S224x224 32 [1] iota_S224x224_d1_w32) k0_pay5)) (ix2 r d) = headAt x 704 (by omega) r d :=
  head_apply x 704 (by omega) slices_S224x2304_o0_704_S224x64 slices_S224x2304_o0_1472_S224x64 slices_S224x2304_o0_2240_S224x64 r d

set_option maxHeartbeats 2000000 in
/-- The last product and sums, from the twelve heads. -/
theorem pay2_apply (v1 : FVec Ideal S224x768 .f32) (a0 a1 a2 a3 a4 a5 a6 a7 a8 a9 a10 a11 : FVec Ideal S224x64 .f32)
    (w : FVec Ideal S768x768 .bf16) (b : FVec Ideal S1x768 .f32) (r : Fin 224) (e : Fin 768) (H : Fin 12 → Fin 64 → EReal)
    (h0 : ∀ d, a0 (ix2 r d) = H 0 d) (h1 : ∀ d, a1 (ix2 r d) = H 1 d) (h2 : ∀ d, a2 (ix2 r d) = H 2 d) (h3 : ∀ d, a3 (ix2 r d) = H 3 d) (h4 : ∀ d, a4 (ix2 r d) = H 4 d) (h5 : ∀ d, a5 (ix2 r d) = H 5 d) (h6 : ∀ d, a6 (ix2 r d) = H 6 d) (h7 : ∀ d, a7 (ix2 r d) = H 7 d) (h8 : ∀ d, a8 (ix2 r d) = H 8 d) (h9 : ∀ d, a9 (ix2 r d) = H 9 d) (h10 : ∀ d, a10 (ix2 r d) = H 10 d) (h11 : ∀ d, a11 (ix2 r d) = H 11 d) :
    k0_pay2 v1 a0 a1 a2 a3 a4 a5 a6 a7 a8 a9 a10 a11 w b (ix3 0 r e) =
      v1 (ix2 r e) + (∑ c : Fin 768, H ⟨c.val / 64, by omega⟩ ⟨c.val % 64, by omega⟩ * w (ix2 e c)) + b (ix2 0 e) := by
  have hc : ∀ (i i' : Fin 12) (d d' : Fin 64), i.val = i'.val → d.val = d'.val → H i d = H i' d' := by
    intro i i' d d' h h'; rw [Fin.ext h, Fin.ext h']
  pointwise [k0_pay2]
  congr 2
  refine Finset.sum_congr rfl fun c _ => ?_
  congr 1
  have hlt := c.isLt
  by_cases k0 : c.val < 64
  · refine (dif_pos k0).trans ((h0 _).trans (hc _ _ _ _ ?_ ?_))
    · show 0 = c.val / 64; omega
    · show c.val = c.val % 64; omega
  refine (dif_neg k0).trans ?_
  by_cases k1 : c.val - 64 < 64
  · refine (dif_pos k1).trans ((h1 _).trans (hc _ _ _ _ ?_ ?_))
    · show 1 = c.val / 64; omega
    · show c.val - 64 = c.val % 64; omega
  refine (dif_neg k1).trans ?_
  by_cases k2 : c.val - 64 - 64 < 64
  · refine (dif_pos k2).trans ((h2 _).trans (hc _ _ _ _ ?_ ?_))
    · show 2 = c.val / 64; omega
    · show c.val - 64 - 64 = c.val % 64; omega
  refine (dif_neg k2).trans ?_
  by_cases k3 : c.val - 64 - 64 - 64 < 64
  · refine (dif_pos k3).trans ((h3 _).trans (hc _ _ _ _ ?_ ?_))
    · show 3 = c.val / 64; omega
    · show c.val - 64 - 64 - 64 = c.val % 64; omega
  refine (dif_neg k3).trans ?_
  by_cases k4 : c.val - 64 - 64 - 64 - 64 < 64
  · refine (dif_pos k4).trans ((h4 _).trans (hc _ _ _ _ ?_ ?_))
    · show 4 = c.val / 64; omega
    · show c.val - 64 - 64 - 64 - 64 = c.val % 64; omega
  refine (dif_neg k4).trans ?_
  by_cases k5 : c.val - 64 - 64 - 64 - 64 - 64 < 64
  · refine (dif_pos k5).trans ((h5 _).trans (hc _ _ _ _ ?_ ?_))
    · show 5 = c.val / 64; omega
    · show c.val - 64 - 64 - 64 - 64 - 64 = c.val % 64; omega
  refine (dif_neg k5).trans ?_
  by_cases k6 : c.val - 64 - 64 - 64 - 64 - 64 - 64 < 64
  · refine (dif_pos k6).trans ((h6 _).trans (hc _ _ _ _ ?_ ?_))
    · show 6 = c.val / 64; omega
    · show c.val - 64 - 64 - 64 - 64 - 64 - 64 = c.val % 64; omega
  refine (dif_neg k6).trans ?_
  by_cases k7 : c.val - 64 - 64 - 64 - 64 - 64 - 64 - 64 < 64
  · refine (dif_pos k7).trans ((h7 _).trans (hc _ _ _ _ ?_ ?_))
    · show 7 = c.val / 64; omega
    · show c.val - 64 - 64 - 64 - 64 - 64 - 64 - 64 = c.val % 64; omega
  refine (dif_neg k7).trans ?_
  by_cases k8 : c.val - 64 - 64 - 64 - 64 - 64 - 64 - 64 - 64 < 64
  · refine (dif_pos k8).trans ((h8 _).trans (hc _ _ _ _ ?_ ?_))
    · show 8 = c.val / 64; omega
    · show c.val - 64 - 64 - 64 - 64 - 64 - 64 - 64 - 64 = c.val % 64; omega
  refine (dif_neg k8).trans ?_
  by_cases k9 : c.val - 64 - 64 - 64 - 64 - 64 - 64 - 64 - 64 - 64 < 64
  · refine (dif_pos k9).trans ((h9 _).trans (hc _ _ _ _ ?_ ?_))
    · show 9 = c.val / 64; omega
    · show c.val - 64 - 64 - 64 - 64 - 64 - 64 - 64 - 64 - 64 = c.val % 64; omega
  refine (dif_neg k9).trans ?_
  by_cases k10 : c.val - 64 - 64 - 64 - 64 - 64 - 64 - 64 - 64 - 64 - 64 < 64
  · refine (dif_pos k10).trans ((h10 _).trans (hc _ _ _ _ ?_ ?_))
    · show 10 = c.val / 64; omega
    · show c.val - 64 - 64 - 64 - 64 - 64 - 64 - 64 - 64 - 64 - 64 = c.val % 64; omega
  refine (dif_neg k10).trans ?_
  refine (h11 _).trans (hc _ _ _ _ ?_ ?_)
  · show 11 = c.val / 64; omega
  · show c.val - 64 - 64 - 64 - 64 - 64 - 64 - 64 - 64 - 64 - 64 - 64 = c.val % 64; omega

theorem canon_whole (p : Vec Ideal S1x224x768 .f32) :
    View.canon ([⟨acc0_0, p⟩] : List (View.Piece (Elt Ideal) S1x224x768 .f32)) = p :=
  View.canon_cons_unit_lit (S := S1x224x768) _ p [] (by decide)
theorem ld_0 (x : Vec Ideal S1x224x768 .f32) : View.ld x acc0_0 = x := View.ld_unit_lit (S := S1x224x768) _ x (by decide)
theorem ld_1 (x : Vec Ideal S1x768 .f32) : View.ld x acc0_1 = x := View.ld_unit_lit (S := S1x768) _ x (by decide)
theorem ld_2 (x : Vec Ideal S2304x768 .bf16) : View.ld x acc0_2 = x := View.ld_unit_lit (S := S2304x768) _ x (by decide)
theorem ld_3 (x : Vec Ideal S1x2304 .f32) : View.ld x acc0_3 = x := View.ld_unit_lit (S := S1x2304) _ x (by decide)
theorem ld_4 (x : Vec Ideal S768x768 .bf16) : View.ld x acc0_4 = x := View.ld_unit_lit (S := S768x768) _ x (by decide)

/-- What the body stores, at a row and a column of its block. -/
theorem attnOut_apply (x0 : Vec Ideal S1x224x768 .f32) (x1 : Vec Ideal S1x768 .f32) (x2 : Vec Ideal S1x768 .f32)
    (x3 : Vec Ideal S2304x768 .bf16) (x4 : Vec Ideal S1x2304 .f32) (x5 : Vec Ideal S768x768 .bf16) (x6 : Vec Ideal S1x768 .f32)
    (r : Fin 224) (e : Fin 768) :
    attnOut (F := Ideal) x0 x1 x2 x3 x4 x5 x6 (ix3 0 r e) =
      x0 (ix3 0 r e) + (∑ c : Fin 768, headAt (k0_pay4 (F := Ideal) x0 x1 x2 x3 x4) (64 * (c.val / 64)) (by omega) r ⟨c.val % 64, by omega⟩
        * x5 (ix2 e c)) + x6 (ix2 0 e) := by
  unfold attnOut attnMask attnIota attnCut attnQkv
  rw [canon_whole, ld_0, ld_1, ld_1, ld_2, ld_3, ld_4, ld_1]
  refine (pay2_apply _ _ _ _ _ _ _ _ _ _ _ _ _ _ _ r e
    (fun i d => headAt (k0_pay4 (F := Ideal) x0 x1 x2 x3 x4) (64 * i.val) (by omega) r d)
    (fun d => head0_apply _ r d) (fun d => head1_apply _ r d) (fun d => head2_apply _ r d) (fun d => head3_apply _ r d) (fun d => head4_apply _ r d) (fun d => head5_apply _ r d) (fun d => head6_apply _ r d) (fun d => head7_apply _ r d) (fun d => head8_apply _ r d) (fun d => head9_apply _ r d) (fun d => head10_apply _ r d) (fun d => head11_apply _ r d)).trans ?_
  congr 2
  pointwise [k0_pay3]

end Cert.KernelIdeal.Hand
-- ==== Proof.Ideal.AttnEnd.lean ====
/- What the attention call leaves in its result, from the contents of its operands; and, of the rows that are not padding,
the same without the mask. -/
module

public import proofs.«01_k».proof.Proof.Ideal.AttnPay

@[expose] public section

set_option maxRecDepth 16384

noncomputable section

namespace Cert.AttnEnd

open Cert.KernelIdeal hiding ix1
open Cert.KernelIdeal.Gen Cert.KernelIdeal.Hand
open Idealize.ShloMosaic Idealize.ShloMosaic.TcCoe Idealize.ShloMosaic.Tactic

/-- The projected rows of one image. -/
def rowsOf (X : S16x224x768.Idx → EReal) (G B : S1x768.Idx → EReal) (W : S2304x768.Idx → EReal) (w : S1x2304.Idx → EReal) (b : Fin 16) : S224x2304.Idx → EReal :=
  fun j => Cert.Attn.proj (fun e => X (ix3 b (j 0) e)) (fun e => G (ix2 0 e)) (fun e => B (ix2 0 e)) (fun c e => W (ix2 c e)) (fun c => w (ix2 0 c)) (j 1)

/-- The call's result. -/
def endVal (X : S16x224x768.Idx → EReal) (G B : S1x768.Idx → EReal) (W : S2304x768.Idx → EReal) (w : S1x2304.Idx → EReal) (U : S768x768.Idx → EReal) (u : S1x768.Idx → EReal) :
    S16x224x768.Idx → EReal := fun i =>
  X (ix3 (i 0) (i 1) (i 2)) + (∑ c : Fin 768, headAt (rowsOf X G B W w (i 0)) (64 * (c.val / 64)) (by omega) (i 1) ⟨c.val % 64, by omega⟩ * U (ix2 (i 2) c)) + u (ix2 0 (i 2))

theorem at0 (t : Fin grid0.N) : ((cfg0).win 0).index t = ![t.val, 0, 0] :=
  (by decide +kernel : ∀ t : Fin grid0.N, cc0_transform_0 (grid0.coords t) = ![t.val, 0, 0]) t
theorem at1 (t : Fin grid0.N) : ((cfg0).win 1).index t = ![0, 0] :=
  (by decide +kernel : ∀ t : Fin grid0.N, cc0_transform_1 (grid0.coords t) = ![0, 0]) t
theorem at2 (t : Fin grid0.N) : ((cfg0).win 2).index t = ![0, 0] :=
  (by decide +kernel : ∀ t : Fin grid0.N, cc0_transform_2 (grid0.coords t) = ![0, 0]) t
theorem at3 (t : Fin grid0.N) : ((cfg0).win 3).index t = ![0, 0] :=
  (by decide +kernel : ∀ t : Fin grid0.N, cc0_transform_3 (grid0.coords t) = ![0, 0]) t
theorem at4 (t : Fin grid0.N) : ((cfg0).win 4).index t = ![0, 0] :=
  (by decide +kernel : ∀ t : Fin grid0.N, cc0_transform_4 (grid0.coords t) = ![0, 0]) t
theorem at5 (t : Fin grid0.N) : ((cfg0).win 5).index t = ![0, 0] :=
  (by decide +kernel : ∀ t : Fin grid0.N, cc0_transform_5 (grid0.coords t) = ![0, 0]) t
theorem at6 (t : Fin grid0.N) : ((cfg0).win 6).index t = ![0, 0] :=
  (by decide +kernel : ∀ t : Fin grid0.N, cc0_transform_6 (grid0.coords t) = ![0, 0]) t
theorem at7 (t : Fin grid0.N) : ((cfg0).win 7).index t = ![t.val, 0, 0] :=
  (by decide +kernel : ∀ t : Fin grid0.N, cc0_transform_7 (grid0.coords t) = ![t.val, 0, 0]) t

theorem flush7 (t : Fin grid0.N) : ((cfg0).win 7).flush t = true :=
  (by decide +kernel : ∀ t : Fin grid0.N, Pipeline.Window.flushOf grid0 true cc0_transform_7 t = true) t

variable (V : (c : Dev nD) → (b : Ref sig .tc) → Buf (Elt Ideal) ((c : Thread nD τ).loc b))

theorem off0 {a b n : ℕ} (h : a = 0) : a * n + b = b := by subst h; omega

theorem lt16 (t : Fin grid0.N) : t.val < 16 := t.isLt

theorem blk0 (c : Dev nD) (t : Fin grid0.N) (r : Fin 224) (e : Fin 768) : (blkIn0 V c 0 t : S1x224x768.Idx → EReal) (ix3 0 r e) = (V c main_v8 : S16x224x768.Idx → EReal) (ix3 ⟨t.val, lt16 t⟩ r e) := by
  refine congrArg (V c main_v8 : S16x224x768.Idx → EReal) ?_
  blk_ext []
  · exact congrFun (at0 t) 0
  · exact off0 (congrFun (at0 t) 1)
  · exact off0 (congrFun (at0 t) 2)
theorem blk1 (c : Dev nD) (t : Fin grid0.N) : (blkIn0 V c 1 t : S1x768.Idx → EReal) = (V c main_v9 : S1x768.Idx → EReal) := by
  funext y
  refine congrArg (V c main_v9 : S1x768.Idx → EReal) ?_
  blk_ext []
  · exact congrFun (at1 t) 0
  · exact off0 (congrFun (at1 t) 1)
theorem blk2 (c : Dev nD) (t : Fin grid0.N) : (blkIn0 V c 2 t : S1x768.Idx → EReal) = (V c main_v10 : S1x768.Idx → EReal) := by
  funext y
  refine congrArg (V c main_v10 : S1x768.Idx → EReal) ?_
  blk_ext []
  · exact congrFun (at2 t) 0
  · exact off0 (congrFun (at2 t) 1)
theorem blk3 (c : Dev nD) (t : Fin grid0.N) : (blkIn0 V c 3 t : S2304x768.Idx → EReal) = (V c main_v11 : S2304x768.Idx → EReal) := by
  funext y
  refine congrArg (V c main_v11 : S2304x768.Idx → EReal) ?_
  blk_ext []
  · exact off0 (congrFun (at3 t) 0)
  · exact off0 (congrFun (at3 t) 1)
theorem blk4 (c : Dev nD) (t : Fin grid0.N) : (blkIn0 V c 4 t : S1x2304.Idx → EReal) = (V c main_v12 : S1x2304.Idx → EReal) := by
  funext y
  refine congrArg (V c main_v12 : S1x2304.Idx → EReal) ?_
  blk_ext []
  · exact congrFun (at4 t) 0
  · exact off0 (congrFun (at4 t) 1)
theorem blk5 (c : Dev nD) (t : Fin grid0.N) : (blkIn0 V c 5 t : S768x768.Idx → EReal) = (V c main_v13 : S768x768.Idx → EReal) := by
  funext y
  refine congrArg (V c main_v13 : S768x768.Idx → EReal) ?_
  blk_ext []
  · exact off0 (congrFun (at5 t) 0)
  · exact off0 (congrFun (at5 t) 1)
theorem blk6 (c : Dev nD) (t : Fin grid0.N) : (blkIn0 V c 6 t : S1x768.Idx → EReal) = (V c main_v14 : S1x768.Idx → EReal) := by
  funext y
  refine congrArg (V c main_v14 : S1x768.Idx → EReal) ?_
  blk_ext []
  · exact congrFun (at6 t) 0
  · exact off0 (congrFun (at6 t) 1)
theorem emb7 (t : Fin grid0.N) (r : Fin 224) (e : Fin 768) : ((((cfg0).win 7).blk t).view.emb (ix3 0 r e : S1x224x768.Idx) : S16x224x768.Idx) = ix3 ⟨t.val, lt16 t⟩ r e := by
  blk_ext []
  · exact congrFun (at7 t) 0
  · exact off0 (congrFun (at7 t) 1)
  · exact off0 (congrFun (at7 t) 2)

theorem out_apply (x0 : Vec Ideal S1x224x768 .f32) (x1 : Vec Ideal S1x768 .f32) (x2 : Vec Ideal S1x768 .f32)
    (x3 : Vec Ideal S2304x768 .bf16) (x4 : Vec Ideal S1x2304 .f32) (x5 : Vec Ideal S768x768 .bf16) (x6 : Vec Ideal S1x768 .f32)
    (X : S16x224x768.Idx → EReal) (b : Fin 16) (h : ∀ r e, x0 (ix3 0 r e) = X (ix3 b r e)) (r : Fin 224) (e : Fin 768) :
    attnOut (F := Ideal) x0 x1 x2 x3 x4 x5 x6 (ix3 0 r e) = endVal X x1 x2 x3 x4 x5 x6 (ix3 b r e) := by
  rw [attnOut_apply, h]
  have hp : k0_pay4 (F := Ideal) x0 x1 x2 x3 x4 = rowsOf X x1 x2 x3 x4 b := by
    funext j
    obtain ⟨r, c, rfl⟩ : ∃ (r : Fin 224) (c : Fin 2304), j = ix2 r c := ⟨j 0, j 1, by
      funext a
      match a with
      | ⟨0, _⟩ => rfl
      | ⟨1, _⟩ => rfl⟩
    rw [pay4_apply]
    simp only [h]
    rfl
  rw [hp]
  rfl

theorem end_apply (c : Dev nD) (X : S16x224x768.Idx → EReal) (G B : S1x768.Idx → EReal) (W : S2304x768.Idx → EReal) (w : S1x2304.Idx → EReal) (U : S768x768.Idx → EReal) (u : S1x768.Idx → EReal)
    (h0 : V c main_v8 = X) (h1 : V c main_v9 = G) (h2 : V c main_v10 = B) (h3 : V c main_v11 = W) (h4 : V c main_v12 = w) (h5 : V c main_v13 = U) (h6 : V c main_v14 = u) :
    (attnDat V c).arrAt 7 cfg0.N = endVal X G B W w U u := by
  subst h0 h1 h2 h3 h4 h5 h6
  refine (attnDat V c).arrAt_eq_of_emb 7 _ (fun t hf (y : S1x224x768.Idx) => ?_) (fun (i : S16x224x768.Idx) => ?_)
  · obtain ⟨z, hz⟩ : ∃ z : Fin 1, y 0 = z := ⟨_, rfl⟩
    obtain ⟨r, hr⟩ : ∃ r : Fin 224, y 1 = r := ⟨_, rfl⟩
    obtain ⟨e, he⟩ : ∃ d : Fin 768, y 2 = d := ⟨_, rfl⟩
    have hy : y = ix3 0 r e := by
      funext a
      match a with
      | ⟨0, _⟩ => exact Fin.ext (by have := (y 0).isLt; show (y 0).val = 0; have h : (y 0).val < 1 := this; omega)
      | ⟨1, _⟩ => exact hr
      | ⟨2, _⟩ => exact he
    subst hy
    show ((attnDat V c).after 7 t : S1x224x768.Idx → EReal) (ix3 0 r e) = _
    refine Eq.trans ?_ (congrArg (endVal (V c main_v8) (V c main_v9) (V c main_v10) (V c main_v11) (V c main_v12) (V c main_v13) (V c main_v14)) (emb7 t r e).symm)
    rw [leave0_7]
    refine (out_apply _ _ _ _ _ _ _ (V c main_v8) ⟨t.val, lt16 t⟩ (fun r e => blk0 V c t r e) r e).trans ?_
    rw [blk1, blk2, blk3, blk4, blk5, blk6]
  · have hi : (i 0).val < 16 := (i 0).isLt
    have hi1 : (i 1).val < 224 := (i 1).isLt
    have hi2 : (i 2).val < 768 := (i 2).isLt
    refine ⟨(⟨(i 0).val, hi⟩ : Fin 16), flush7 _, ?_⟩
    have hm := (((cfg0).win 7).blk (⟨(i 0).val, hi⟩ : Fin 16)).view.emb_mem_set (ix3 0 ⟨(i 1).val, hi1⟩ ⟨(i 2).val, hi2⟩ : S1x224x768.Idx)
    have hi' : i = ix3 ⟨(i 0).val, hi⟩ ⟨(i 1).val, hi1⟩ ⟨(i 2).val, hi2⟩ := by
      funext a
      match a with
      | ⟨0, _⟩ => rfl
      | ⟨1, _⟩ => rfl
      | ⟨2, _⟩ => rfl
    have e : _ = i := (emb7 (⟨(i 0).val, hi⟩ : Fin 16) ⟨(i 1).val, hi1⟩ ⟨(i 2).val, hi2⟩).trans hi'.symm
    exact (congrArg (· ∈ (((cfg0).win 7).blk (⟨(i 0).val, hi⟩ : Fin 16)).view.set) e).mp hm

/-- Of a row that is not padding, a head's result is the softmax over the rows that are not padding. -/
theorem head_mask (x : S224x2304.Idx → EReal) (k : Fin 196 → Fin 2304 → EReal) (hx : ∀ (r : Fin 196) c, x (ix2 ⟨r.val, by omega⟩ c) = k r c)
    (hk : ∀ r c, Cert.Attn.Fn (k r c)) (r : Fin 196) (c : Fin 768) :
    headAt x (64 * (c.val / 64)) (by omega) ⟨r.val, by omega⟩ ⟨c.val % 64, by omega⟩
      = Cert.Attn.soft (fun j : Fin 196 => Ideal.div (∑ e : Fin 64, k r ⟨c.val / 64 * 64 + e.val, by omega⟩ * k j ⟨768 + (c.val / 64 * 64 + e.val), by omega⟩) (Ideal.sqrt (Ideal.ofBits .f32 0x42800000#32)))
          (fun j => k j ⟨1536 + c.val, by omega⟩) := by
  unfold headAt
  refine Cert.Attn.soft_mask (n := 196) (p := 28) (by omega) (fun j => ?_) (fun j => ?_) (fun j => ?_) (fun j => ?_)
  · rw [← Cert.Attn.scale]
    refine (Cert.Attn.Fn.sum _ fun e => (hk _ _).mul (hk _ _)).mul ?_
    exact ⟨_, Cert.Attn.ofBits_normal _ 124 0 (by decide) (by decide) (by decide) (by decide) (by decide)⟩
  · refine (if_neg ?_).trans ?_
    · show ¬ 196 ≤ j.val
      omega
    · rw [← Cert.Attn.scale]
      refine congrArg (· * _) (Finset.sum_congr rfl fun e _ => ?_)
      rw [← hx r, ← hx j]
      refine congrArg₂ (fun a b => x (ix2 _ a) * x (ix2 _ b)) (Fin.ext ?_) (Fin.ext ?_)
      · show 64 * (c.val / 64) + e.val = c.val / 64 * 64 + e.val
        omega
      · show 768 + 64 * (c.val / 64) + e.val = 768 + (c.val / 64 * 64 + e.val)
        omega
  · exact if_pos (Nat.le_add_right _ _)
  · rw [← hx j]
    refine congrArg (fun a => x (ix2 _ a)) (Fin.ext ?_)
    show 1536 + 64 * (c.val / 64) + c.val % 64 = 1536 + c.val
    omega

end Cert.AttnEnd

end
-- ==== Proof.Ref.Attn.lean ====
/- What the reference's attention computes, read at one row and one column. -/
module

public import proofs.«01_k».proof.Proof.Gen.ReferenceIdeal.Run
public import proofs.«01_k».proof.Proof.Math.Softmax
public import Idealize.ShloMosaic.Lib.Pointwise

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic

variable (V : Valuation τ sig (Elt Ideal))

/-- The token embeddings. -/
def zAt (b : Fin 16) (r : Fin 196) (e : Fin 768) : EReal := res_main_v7 (F := Ideal) V (ix3 b r e)
def lnG (e : Fin 768) : EReal := V (Proc.devRef .tc main_arg4) (ix1 e)
def lnB (e : Fin 768) : EReal := V (Proc.devRef .tc main_arg5) (ix1 e)
def inW (c : Fin 2304) (e : Fin 768) : EReal := V (Proc.devRef .tc main_arg6) (ix2 c e)
def inB (c : Fin 2304) : EReal := V (Proc.devRef .tc main_arg7) (ix1 c)
def outW (e c : Fin 768) : EReal := V (Proc.devRef .tc main_arg8) (ix2 e c)
def outB (e : Fin 768) : EReal := V (Proc.devRef .tc main_arg9) (ix1 e)

/-- The queries, keys and values of a token. -/
def qkvAt (b : Fin 16) (r : Fin 196) (c : Fin 2304) : EReal :=
  Cert.Attn.proj (zAt V b r) (lnG V) (lnB V) (inW V) (inB V) c

theorem v36_apply (b : Fin 16) (r : Fin 196) (c : Fin 2304) :
    res_main_v36 (F := Ideal) V (ix3 b r c) = qkvAt V b r c := by
  pointwise [res_main_v36, res_main_v13, res_main_v11]
  rfl

/-- The scores of one query of one head against all keys. -/
def scores (b : Fin 16) (h : Fin 12) (r : Fin 196) (j : Fin 196) : EReal :=
  Ideal.div (∑ e : Fin 64, qkvAt V b r ⟨h.val * 64 + e.val, by omega⟩ * qkvAt V b j ⟨768 + (h.val * 64 + e.val), by omega⟩)
    (Ideal.sqrt (Ideal.ofBits .f32 0x42800000#32))

theorem v49_apply (b : Fin 16) (h : Fin 12) (r j : Fin 196) : res_main_v49 (F := Ideal) V (ix4 b h r j) = scores V b h r j := by
  pointwise [res_main_v49]
  simp only [v36_apply]
  rfl

/-- The tokens after attention. -/
def afterAttn (b : Fin 16) (r : Fin 196) (e : Fin 768) : EReal :=
  zAt V b r e + ((∑ c : Fin 768, Cert.Attn.soft (fun j : Fin 196 => scores V b ⟨c.val / 64, by omega⟩ r j)
          (fun j => qkvAt V b j ⟨1536 + c.val, by omega⟩) * outW V e c) + outB V e)

/-- The largest of a row of scores, as the reduction leaves it. -/
theorem row_top (y : FVec Ideal S16x12x196x196 .f32) (b : Fin 16) (h : Fin 12) (r : Fin 196) :
    Host.reduce FloatOps.maximumf y (constant S_ .f32 0xFF800000#32) reducesTo_S16x12x196x196_S16x12x196_d3 h_S_ (ix3 b h r)
      = Cert.Attn.top fun j => y (ix4 b h r j) := by
  refine (Host.reduce_eq_fold _ _ _ _ _ _).trans ?_
  refine (Shape.ReducesTo.fold_fiber_r4_a3 reducesTo_S16x12x196x196_S16x12x196_d3 (ix3 b h r) _ _ y).trans ?_
  unfold Cert.Attn.top
  rw [← Cert.Attn.ofBits_neg_inf]
  rfl

/-- The scores' softmax applied to the values, and the projection after it, of any token rows and scores. -/
theorem mix_apply (z : FVec Ideal S16x196x768 .f32) (x : FVec Ideal S16x196x2304 .f32) (y : FVec Ideal S16x12x196x196 .f32)
    (W : FVec Ideal S768x768 .f32) (w : FVec Ideal S768 .f32) (b : Fin 16) (r : Fin 196) (e : Fin 768)
    (f : FVec Ideal S16x12x196x196 .f32 → FVec Ideal S16x12x196x196 .f32)
    (hf : ∀ b h r j, f y (ix4 b h r j) = Ideal.div (Ideal.exp (y (ix4 b h r j) - Cert.Attn.top fun j => y (ix4 b h r j))) (Cert.Attn.expSum fun j => y (ix4 b h r j))) :
    addf z (addf (Host.dotGeneral dot_S16x196x768_S768x768_S16x196x768_2_0_01_1_n_n none (shapeCast _ (transpose S16x196x12x64 [0, 2, 1, 3] (Host.dotGeneral dot_S16x12x196x196_S16x12x196x64_S16x12x196x64_3_2_2_3_01_01 none (f y) (transpose S16x12x196x64 [0, 2, 1, 3] (shapeCast _ (extractStridedSlice S16x196x768 ![0, 0, 1536] x slices_S16x196x2304_S16x196x768_0_0_1536) shapeCasts_S16x196x768_S16x196x12x64) transposes_S16x196x12x64_S16x12x196x64_0_2_1_3)) transposes_S16x12x196x64_S16x196x12x64_0_2_1_3) shapeCasts_S16x196x12x64_S16x196x768) (transpose S768x768 [1, 0] W transposes_S768x768_S768x768_1_0)) (broadcastInDim S16x196x768 ![0, 1, 2] bcast_S1x1x768_S16x196x768_0_1_2 (broadcastInDim S1x1x768 ![2] bcast_S768_S1x1x768_2 w))) (ix3 b r e)
    = z (ix3 b r e) + ((∑ c : Fin 768, Cert.Attn.soft (fun j : Fin 196 => y (ix4 b ⟨c.val / 64, by omega⟩ r j))
          (fun j => x (ix3 b j ⟨1536 + c.val, by omega⟩)) * W (ix2 e c)) + w (ix1 e)) := by
  obtain ⟨u, eu⟩ : ∃ u : FVec Ideal S16x12x196x196 .f32, u = f y := ⟨_, rfl⟩
  rw [← eu] at hf ⊢
  clear eu
  pointwise []
  simp only [hf]
  rfl

theorem smax_apply (y : FVec Ideal S16x12x196x196 .f32) (b : Fin 16) (h : Fin 12) (r j : Fin 196) :
   Host.exp (subf y (broadcastInDim S16x12x196x196 ![0, 1, 2, 3] bcast_S16x12x196x1_S16x12x196x196_0_1_2_3 (broadcastInDim S16x12x196x1 ![0, 1, 2] bcast_S16x12x196_S16x12x196x1_0_1_2 (maximumf (broadcastInDim S16x12x196 ![] bcast_S_S16x12x196 (constant S_ .f32 0xFF800000#32)) (Host.reduce FloatOps.maximumf y (constant S_ .f32 0xFF800000#32) reducesTo_S16x12x196x196_S16x12x196_d3 h_S_))))) (ix4 b h r j)
    = Ideal.exp (y (ix4 b h r j) - Cert.Attn.top fun j => y (ix4 b h r j)) := by
  have hM := row_top y
  obtain ⟨M, eM⟩ : ∃ M : FVec Ideal S16x12x196 .f32, M = Host.reduce FloatOps.maximumf y (constant S_ .f32 0xFF800000#32) reducesTo_S16x12x196x196_S16x12x196_d3 h_S_ := ⟨_, rfl⟩
  rw [← eM] at hM ⊢
  clear eM
  pointwise []
  simp only [Cert.Attn.ofBits_neg_inf, hM, max_bot_left]

theorem sdiv_apply (y u : FVec Ideal S16x12x196x196 .f32)
   (hu : ∀ b h r j, u (ix4 b h r j) = Ideal.exp (y (ix4 b h r j) - Cert.Attn.top fun j => y (ix4 b h r j))) (b : Fin 16) (h : Fin 12) (r j : Fin 196) :
   Host.divf u (broadcastInDim S16x12x196x196 ![0, 1, 2, 3] bcast_S16x12x196x1_S16x12x196x196_0_1_2_3 (broadcastInDim S16x12x196x1 ![0, 1, 2] bcast_S16x12x196_S16x12x196x1_0_1_2 (Host.reduceAdd u (constant S_ .f32 0x00000000#32) reducesTo_S16x12x196x196_S16x12x196_d3 h_S_))) (ix4 b h r j)
    = Ideal.div (Ideal.exp (y (ix4 b h r j) - Cert.Attn.top fun j => y (ix4 b h r j))) (Cert.Attn.expSum fun j => y (ix4 b h r j)) := by
  pointwise []
  simp only [hu]
  rfl

/-- The exponentials, from the scores' array. -/
theorem v56_apply (y : FVec Ideal S16x12x196x196 .f32) (ey : y = res_main_v49 V) (b : Fin 16) (h : Fin 12) (r j : Fin 196) :
    res_main_v56 (F := Ideal) V (ix4 b h r j) = Ideal.exp (y (ix4 b h r j) - Cert.Attn.top fun j => y (ix4 b h r j)) := by
  unfold res_main_v56
  rw [← ey]
  exact smax_apply y b h r j

theorem v69_apply (b : Fin 16) (r : Fin 196) (e : Fin 768) :
    res_main_v69 (F := Ideal) V (ix3 b r e) = afterAttn V b r e := by
  have hx := v36_apply V
  have hy := v49_apply V
  unfold res_main_v69
  obtain ⟨x, ex⟩ : ∃ x : FVec Ideal S16x196x2304 .f32, x = res_main_v36 V := ⟨_, rfl⟩
  obtain ⟨y, ey⟩ : ∃ y : FVec Ideal S16x12x196x196 .f32, y = res_main_v49 V := ⟨_, rfl⟩
  obtain ⟨u, eu⟩ : ∃ u : FVec Ideal S16x12x196x196 .f32, u = res_main_v56 V := ⟨_, rfl⟩
  have hd := sdiv_apply y (res_main_v56 V) (v56_apply V y ey)
  rw [← ex] at hx ⊢
  rw [← ey] at hy
  rw [← eu] at hd ⊢
  clear ex ey eu
  refine (mix_apply (res_main_v7 V) x y _ _ b r e (fun _ => _) hd).trans ?_
  simp only [hx, hy]
  rfl

end Cert.ReferenceIdeal.Hand
-- ==== Proof.Join.Same.lean ====
/- The stretches of host operations that the two programs share: the embedding and the router. -/
module

public import proofs.«01_k».proof.Proof.Gen.KernelIdeal.Regions
public import proofs.«01_k».proof.Proof.Ref.Tail
public import proofs.«01_k».proof.Proof.Ref.Attn
public import Idealize.ShloMosaic.Lib.Pointwise
public import Idealize.ShloMosaic.Lib.StableHlo.Run
public import Idealize.ShloMosaic.Lib.StableHlo.ReadAt
public import Idealize.ShloMosaic.Lib.Tactic

@[expose] public section

set_option maxRecDepth 16384

noncomputable section

namespace Cert.Join

open Cert.KernelIdeal hiding ix1
open Cert.KernelIdeal.Gen
open Idealize.ShloMosaic Idealize.ShloMosaic.TcCoe Idealize.ShloMosaic.Tactic
open Idealize.ShloMosaic.StableHlo

variable (W : Valuation τ sig (Elt Ideal)) (V : Valuation Cert.ReferenceIdeal.τ Cert.ReferenceIdeal.sig (Elt Ideal))

/-- The token embeddings. -/
theorem embed (a0 : (W (Proc.devRef .tc main_arg0) : S16x3x224x224.Idx → EReal) = (V (Proc.devRef .tc Cert.ReferenceIdeal.main_arg0) : S16x3x224x224.Idx → EReal)) (a1 : (W (Proc.devRef .tc main_arg1) : S768x3x16x16.Idx → EReal) = (V (Proc.devRef .tc Cert.ReferenceIdeal.main_arg1) : S768x3x16x16.Idx → EReal)) (a2 : (W (Proc.devRef .tc main_arg2) : S768.Idx → EReal) = (V (Proc.devRef .tc Cert.ReferenceIdeal.main_arg2) : S768.Idx → EReal)) (a3 : (W (Proc.devRef .tc main_arg3) : S1x196x768.Idx → EReal) = (V (Proc.devRef .tc Cert.ReferenceIdeal.main_arg3) : S1x196x768.Idx → EReal)) : (after (hostOps0 (F := Ideal)) W (Proc.devRef .tc main_v7) : S16x196x768.Idx → EReal) = (Cert.ReferenceIdeal.Value.res_main_v7 (F := Ideal) V : S16x196x768.Idx → EReal) := by
  after_reads_simp
  try simp -implicitDefEqProofs only [StableHlo.TRef.toBuf, StableHlo.TRef.ofBuf, cast_cast, cast_eq]
  rw [a0, a1, a2, a3]
  unfold Cert.ReferenceIdeal.Value.res_main_v7
  rfl

/-- The router's probabilities. -/
theorem probs (a10 : (W (Proc.devRef .tc main_arg10) : S6x768.Idx → EReal) = (V (Proc.devRef .tc Cert.ReferenceIdeal.main_arg10) : S6x768.Idx → EReal)) (a11 : (W (Proc.devRef .tc main_arg11) : S6.Idx → EReal) = (V (Proc.devRef .tc Cert.ReferenceIdeal.main_arg11) : S6.Idx → EReal)) (hz : extractStridedSlice S16x196x768 ![0, 0, 0] (W (Proc.devRef .tc main_v15) : S16x224x768.Idx → EReal) slices_S16x224x768_S16x196x768_0_0_0 = (Cert.ReferenceIdeal.Value.res_main_v69 (F := Ideal) V : S16x196x768.Idx → EReal)) :
    (after (hostOps1 (F := Ideal)) W (Proc.devRef .tc main_v32) : S16x196x6.Idx → EReal) = Cert.ReferenceIdeal.Hand.probs V := by
  after_reads_simp
  try simp -implicitDefEqProofs only [StableHlo.TRef.toBuf, StableHlo.TRef.ofBuf, cast_cast, cast_eq]
  rw [a10, a11, hz]
  unfold Cert.ReferenceIdeal.Hand.probs Cert.ReferenceIdeal.Value.res_main_v85 Cert.ReferenceIdeal.Value.res_main_v81 Cert.ReferenceIdeal.Value.res_main_v74
  rfl

end Cert.Join

end
-- ==== Proof.Join.Attn.lean ====
/- The first call's rows are the reference's tokens after attention. -/
module

public import proofs.«01_k».proof.Proof.Ideal.Run
public import proofs.«01_k».proof.Proof.Ideal.AttnEnd
public import proofs.«01_k».proof.Proof.Join.Same

@[expose] public section

set_option maxRecDepth 16384

noncomputable section

namespace Cert.Join

open Cert.KernelIdeal hiding ix1
open Cert.KernelIdeal.Gen Cert.KernelIdeal.Hand
open Idealize.ShloMosaic Idealize.ShloMosaic.TcCoe Idealize.ShloMosaic.Tactic
open Idealize.ShloMosaic.StableHlo
open Cert.ReferenceIdeal.Hand (zAt lnG lnB inW inB outW outB qkvAt scores afterAttn)
open Cert.Attn (Fn)

section tokens

open Cert.ReferenceIdeal.Gen

/-- The embedding of finite arrays is finite. -/
theorem embed_fn (x : FVec Ideal S16x3x224x224 .f32) (w : FVec Ideal S768x3x16x16 .f32) (p : FVec Ideal S768 .f32) (q : FVec Ideal S1x196x768 .f32)
    (hx : ∀ i, Fn (x i)) (hw : ∀ i, Fn (w i)) (hp : ∀ i, Fn (p i)) (hq : ∀ i, Fn (q i)) (V : Valuation Cert.ReferenceIdeal.τ Cert.ReferenceIdeal.sig (Elt Ideal))
    (ex : V (Proc.devRef .tc Cert.ReferenceIdeal.main_arg0) = x) (ew : V (Proc.devRef .tc Cert.ReferenceIdeal.main_arg1) = w)
    (ep : V (Proc.devRef .tc Cert.ReferenceIdeal.main_arg2) = p) (eq : V (Proc.devRef .tc Cert.ReferenceIdeal.main_arg3) = q)
    (b : Fin 16) (r : Fin 196) (e : Fin 768) : Fn (zAt V b r e) := by
  unfold Cert.ReferenceIdeal.Hand.zAt Cert.ReferenceIdeal.Value.res_main_v7
  rw [ex, ew, ep, eq]
  refine Fn.add (Fn.add ?_ ?_) ?_
  · refine Fn.add ⟨0, ?_⟩ (Fn.sum _ fun k => Fn.mul (hx _) (hw _))
    exact EReal.coe_zero.symm
  · exact hp _
  · exact hq _

end tokens

variable (V : Valuation Cert.ReferenceIdeal.τ Cert.ReferenceIdeal.sig (Elt Ideal))

/-- The call's value at a token, of arrays that hold the reference's rows and weights. -/
theorem attn_at (X : S16x224x768.Idx → EReal) (G B : S1x768.Idx → EReal) (W : S2304x768.Idx → EReal) (w : S1x2304.Idx → EReal) (U : S768x768.Idx → EReal) (u : S1x768.Idx → EReal)
    (hX : ∀ (b : Fin 16) (r : Fin 196) (e : Fin 768), X (ix3 b ⟨r.val, by omega⟩ e) = zAt V b r e) (hG : ∀ e, G (ix2 0 e) = lnG V e) (hB : ∀ e, B (ix2 0 e) = lnB V e)
    (hW : ∀ c e, W (ix2 c e) = inW V c e) (hw : ∀ c, w (ix2 0 c) = inB V c) (hU : ∀ e c, U (ix2 e c) = outW V e c) (hu : ∀ e, u (ix2 0 e) = outB V e)
    (hF : ∀ b r c, Fn (qkvAt V b r c)) (b : Fin 16) (r : Fin 196) (e : Fin 768) :
    Cert.AttnEnd.endVal X G B W w U u (ix3 b ⟨r.val, by omega⟩ e) = afterAttn V b r e := by
  have hx : ∀ (r : Fin 196) c, Cert.AttnEnd.rowsOf X G B W w b (ix2 ⟨r.val, by omega⟩ c) = qkvAt V b r c := fun r c => by
    show Cert.Attn.proj (fun e => X (ix3 b ⟨r.val, by omega⟩ e)) (fun e => G (ix2 0 e)) (fun e => B (ix2 0 e)) (fun c e => W (ix2 c e)) (fun c => w (ix2 0 c)) c = Cert.Attn.proj _ _ _ _ _ _
    rw [funext (fun e => hX b r e), funext hG, funext hB, funext fun c => funext (hW c), funext hw]
  unfold Cert.ReferenceIdeal.Hand.afterAttn
  refine (add_assoc _ _ _).trans ?_
  refine congrArg₂ (· + ·) (hX b r e) (congrArg₂ (· + ·) (Finset.sum_congr rfl fun c _ => ?_) (hu e))
  refine congrArg₂ (· * ·) ?_ (hU e c)
  exact Cert.AttnEnd.head_mask (Cert.AttnEnd.rowsOf X G B W w b) (fun r c => qkvAt V b r c) hx (hF b) r c

variable (W : Valuation τ sig (Elt Ideal))

theorem pad_at (b : Fin 16) (r : Fin 196) (e : Fin 768) :
    (after (hostOps0_1 (F := Ideal)) W (Proc.devRef .tc main_v8) : S16x224x768.Idx → EReal) (ix3 b ⟨r.val, by omega⟩ e)
      = (W (Proc.devRef .tc main_v7) : S16x196x768.Idx → EReal) (ix3 b r e) := by
  after_reads_at
theorem gain_at (e : Fin 768) : (after (hostOps0_2 (F := Ideal)) W (Proc.devRef .tc main_v9) : S1x768.Idx → EReal) (ix2 0 e) = (W (Proc.devRef .tc main_arg4) : S768.Idx → EReal) (ix1 e) := by
  after_reads_at
theorem shift_at (e : Fin 768) : (after (hostOps0_2 (F := Ideal)) W (Proc.devRef .tc main_v10) : S1x768.Idx → EReal) (ix2 0 e) = (W (Proc.devRef .tc main_arg5) : S768.Idx → EReal) (ix1 e) := by
  after_reads_at
theorem inw_at (c : Fin 2304) (e : Fin 768) : (after (hostOps0_2 (F := Ideal)) W (Proc.devRef .tc main_v11) : S2304x768.Idx → EReal) (ix2 c e) = (W (Proc.devRef .tc main_arg6) : S2304x768.Idx → EReal) (ix2 c e) := by
  after_reads_at
theorem inb_at (c : Fin 2304) : (after (hostOps0_2 (F := Ideal)) W (Proc.devRef .tc main_v12) : S1x2304.Idx → EReal) (ix2 0 c) = (W (Proc.devRef .tc main_arg7) : S2304.Idx → EReal) (ix1 c) := by
  after_reads_at
theorem outw_at (e c : Fin 768) : (after (hostOps0_2 (F := Ideal)) W (Proc.devRef .tc main_v13) : S768x768.Idx → EReal) (ix2 e c) = (W (Proc.devRef .tc main_arg8) : S768x768.Idx → EReal) (ix2 e c) := by
  after_reads_at
theorem outb_at (e : Fin 768) : (after (hostOps0_2 (F := Ideal)) W (Proc.devRef .tc main_v14) : S1x768.Idx → EReal) (ix2 0 e) = (W (Proc.devRef .tc main_arg9) : S768.Idx → EReal) (ix1 e) := by
  after_reads_at

theorem slice_at (x : S16x224x768.Idx → EReal) (b : Fin 16) (r : Fin 196) (e : Fin 768) :
    extractStridedSlice S16x196x768 ![0, 0, 0] x slices_S16x224x768_S16x196x768_0_0_0 (ix3 b r e) = x (ix3 b ⟨r.val, by omega⟩ e) := by
  pointwise []

variable (m : (l : Loc nD τ sig) → Buf (Elt Ideal) l) (o : Outs (F := Ideal)) (c : Dev nD)

/-- The first call's result, its padding rows cut off, is the reference's tokens after attention. -/
theorem attn_value (ho : o 4 main_v15 c = attnEnd m c)
    (a0 : (V0 m c (Proc.devRef .tc main_arg0) : S16x3x224x224.Idx → EReal) = (V (Proc.devRef .tc Cert.ReferenceIdeal.main_arg0) : S16x3x224x224.Idx → EReal))
    (a1 : (V0 m c (Proc.devRef .tc main_arg1) : S768x3x16x16.Idx → EReal) = (V (Proc.devRef .tc Cert.ReferenceIdeal.main_arg1) : S768x3x16x16.Idx → EReal))
    (a2 : (V0 m c (Proc.devRef .tc main_arg2) : S768.Idx → EReal) = (V (Proc.devRef .tc Cert.ReferenceIdeal.main_arg2) : S768.Idx → EReal))
    (a3 : (V0 m c (Proc.devRef .tc main_arg3) : S1x196x768.Idx → EReal) = (V (Proc.devRef .tc Cert.ReferenceIdeal.main_arg3) : S1x196x768.Idx → EReal))
    (a4 : (V0 m c (Proc.devRef .tc main_arg4) : S768.Idx → EReal) = (V (Proc.devRef .tc Cert.ReferenceIdeal.main_arg4) : S768.Idx → EReal))
    (a5 : (V0 m c (Proc.devRef .tc main_arg5) : S768.Idx → EReal) = (V (Proc.devRef .tc Cert.ReferenceIdeal.main_arg5) : S768.Idx → EReal))
    (a6 : (V0 m c (Proc.devRef .tc main_arg6) : S2304x768.Idx → EReal) = (V (Proc.devRef .tc Cert.ReferenceIdeal.main_arg6) : S2304x768.Idx → EReal))
    (a7 : (V0 m c (Proc.devRef .tc main_arg7) : S2304.Idx → EReal) = (V (Proc.devRef .tc Cert.ReferenceIdeal.main_arg7) : S2304.Idx → EReal))
    (a8 : (V0 m c (Proc.devRef .tc main_arg8) : S768x768.Idx → EReal) = (V (Proc.devRef .tc Cert.ReferenceIdeal.main_arg8) : S768x768.Idx → EReal))
    (a9 : (V0 m c (Proc.devRef .tc main_arg9) : S768.Idx → EReal) = (V (Proc.devRef .tc Cert.ReferenceIdeal.main_arg9) : S768.Idx → EReal))
    (f0 : ∀ i, Fn ((V (Proc.devRef .tc Cert.ReferenceIdeal.main_arg0) : S16x3x224x224.Idx → EReal) i)) (f1 : ∀ i, Fn ((V (Proc.devRef .tc Cert.ReferenceIdeal.main_arg1) : S768x3x16x16.Idx → EReal) i))
    (f2 : ∀ i, Fn ((V (Proc.devRef .tc Cert.ReferenceIdeal.main_arg2) : S768.Idx → EReal) i)) (f3 : ∀ i, Fn ((V (Proc.devRef .tc Cert.ReferenceIdeal.main_arg3) : S1x196x768.Idx → EReal) i))
    (f4 : ∀ i, Fn ((V (Proc.devRef .tc Cert.ReferenceIdeal.main_arg4) : S768.Idx → EReal) i)) (f5 : ∀ i, Fn ((V (Proc.devRef .tc Cert.ReferenceIdeal.main_arg5) : S768.Idx → EReal) i))
    (f6 : ∀ i, Fn ((V (Proc.devRef .tc Cert.ReferenceIdeal.main_arg6) : S2304x768.Idx → EReal) i)) (f7 : ∀ i, Fn ((V (Proc.devRef .tc Cert.ReferenceIdeal.main_arg7) : S2304.Idx → EReal) i)) :
    extractStridedSlice S16x196x768 ![0, 0, 0] (V4 m o c (Proc.devRef .tc main_v15) : S16x224x768.Idx → EReal) slices_S16x224x768_S16x196x768_0_0_0 = (Cert.ReferenceIdeal.Value.res_main_v69 (F := Ideal) V : S16x196x768.Idx → EReal) := by
  have hq : ∀ b r c, Fn (qkvAt V b r c) := fun b r c =>
    Cert.Attn.proj_fn (embed_fn _ _ _ _ f0 f1 f2 f3 V rfl rfl rfl rfl b r) (fun e => f4 _) (fun e => f5 _) (fun c e => f6 _) (fun c => f7 _) c
  have hv : (V4 m o c (Proc.devRef .tc main_v15) : S16x224x768.Idx → EReal) = attnEnd m c := by
    show Function.update (V3 m c) (Proc.devRef .tc main_v15) (o 4 main_v15 c) (Proc.devRef .tc main_v15) = _
    rw [Function.update_self]
    exact ho
  have he : (attnEnd m c : S16x224x768.Idx → EReal) = Cert.AttnEnd.endVal _ _ _ _ _ _ _ :=
    Cert.AttnEnd.end_apply (fun c b => V3 m c b) c _ _ _ _ _ _ _ rfl rfl rfl rfl rfl rfl rfl
  rw [hv, he]
  funext i
  obtain ⟨b, r, e, rfl⟩ : ∃ b r e, i = ix3 b r e := ⟨i 0, i 1, i 2, eq_ix3 i⟩
  refine Eq.trans ?_ (Cert.ReferenceIdeal.Hand.v69_apply V b r e).symm
  refine (slice_at _ b r e).trans ?_
  refine attn_at V _ _ _ _ _ _ _ (fun b r e => ?_) (fun e => ?_) (fun e => ?_) (fun c e => ?_) (fun c => ?_) (fun e c => ?_) (fun e => ?_) hq b r e
  · show (V3 m c (Proc.devRef .tc main_v8) : S16x224x768.Idx → EReal) _ = _
    rw [V3_of m c main_v8 (by decide)]
    refine (pad_at (V1 m c) b r e).trans ?_
    exact congrFun (embed (V0 m c) V a0 a1 a2 a3) _
  · refine (gain_at (V2 m c) e).trans ?_
    rw [V2_of m c main_arg4 (by decide), V1_of m c main_arg4 (by decide), a4]
    rfl
  · refine (shift_at (V2 m c) e).trans ?_
    rw [V2_of m c main_arg5 (by decide), V1_of m c main_arg5 (by decide), a5]
    rfl
  · refine (inw_at (V2 m _) c e).trans ?_
    rw [V2_of m _ main_arg6 (by decide), V1_of m _ main_arg6 (by decide), a6]
    rfl
  · refine (inb_at (V2 m _) c).trans ?_
    rw [V2_of m _ main_arg7 (by decide), V1_of m _ main_arg7 (by decide), a7]
    rfl
  · refine (outw_at (V2 m _) e c).trans ?_
    rw [V2_of m _ main_arg8 (by decide), V1_of m _ main_arg8 (by decide), a8]
    rfl
  · refine (outb_at (V2 m c) e).trans ?_
    rw [V2_of m c main_arg9 (by decide), V1_of m c main_arg9 (by decide), a9]
    rfl

end Cert.Join

end
-- ==== Proof.Join.Router.lean ====
/- What the router hands on: the picks, their gates, the rows. -/
module

public import proofs.«01_k».proof.Proof.Join.Same

@[expose] public section

set_option maxRecDepth 16384

noncomputable section

namespace Cert.Join

open Cert.KernelIdeal hiding ix1
open Cert.KernelIdeal.Gen
open Idealize.ShloMosaic Idealize.ShloMosaic.TcCoe Idealize.ShloMosaic.Tactic
open Idealize.ShloMosaic.StableHlo

variable (W : Valuation τ sig (Elt Ideal)) (V : Valuation Cert.ReferenceIdeal.τ Cert.ReferenceIdeal.sig (Elt Ideal))

theorem ids_read : (after (hostOps1 (F := Ideal)) W (Proc.devRef .tc main_v36) : S6272.Idx → BitVec 32)
    = shapeCast S6272 (shapeCast S3136x2 ((Host.topK S16x196x2 2 (FloatOps.cmpfTotal (F := Ideal) (φ := .f32) .gt) (after (hostOps1 (F := Ideal)) W (Proc.devRef .tc main_v32) : S16x196x6.Idx → EReal) sliceFits_S16x196x6_S16x196x2).2) shapeCasts_S16x196x2_S3136x2) shapeCasts_S3136x2_S6272 := by
  after_reads_simp
  rfl
theorem gates_read : (after (hostOps1 (F := Ideal)) W (Proc.devRef .tc main_v35) : S3136x2.Idx → EReal)
    = shapeCast S3136x2 ((Host.topK S16x196x2 2 (FloatOps.cmpfTotal (F := Ideal) (φ := .f32) .gt) (after (hostOps1 (F := Ideal)) W (Proc.devRef .tc main_v32) : S16x196x6.Idx → EReal) sliceFits_S16x196x6_S16x196x2).1) shapeCasts_S16x196x2_S3136x2 := by
  after_reads_simp
  rfl
theorem rows_read : (after (hostOps1 (F := Ideal)) W (Proc.devRef .tc main_v33) : S3136x768.Idx → EReal)
    = shapeCast S3136x768 (extractStridedSlice S16x196x768 ![0, 0, 0] (W (Proc.devRef .tc main_v15) : S16x224x768.Idx → EReal) slices_S16x224x768_S16x196x768_0_0_0) shapeCasts_S16x196x768_S3136x768 := by
  after_reads_simp
  rfl

theorem flat_ids (x : IVec S16x196x2 32) (i : Fin 6272) :
    (shapeCast S6272 (shapeCast S3136x2 x shapeCasts_S16x196x2_S3136x2) shapeCasts_S3136x2_S6272) (ix1 i) = x (ix3 ⟨i.val / 2 / 196, by omega⟩ ⟨i.val / 2 % 196, by omega⟩ ⟨i.val % 2, by omega⟩) := by
  pointwise []
  exact congrArg x (congrArg (fun a : Fin 16 => ix3 a (⟨i.val / 2 % 196, by omega⟩ : Fin 196) (⟨i.val % 2, by omega⟩ : Fin 2)) (Fin.ext (Nat.div_div_eq_div_mul i.val 2 196).symm))

/-- Pick `i` of the flat list. -/
def idOf (i : ℕ) : ℕ := if h : i < 6272 then (Cert.ReferenceIdeal.Hand.pick V ⟨i / 2, by omega⟩ ⟨i % 2, by omega⟩).val else 0

theorem idOf_lt (i : Fin 6272) : idOf V i.val < 6 := by
  unfold idOf
  rw [dif_pos i.isLt]
  exact Fin.isLt _

theorem ids_apply (hp : (after (hostOps1 (F := Ideal)) W (Proc.devRef .tc main_v32) : S16x196x6.Idx → EReal) = Cert.ReferenceIdeal.Hand.probs V) (i : Fin 6272) :
    (after (hostOps1 (F := Ideal)) W (Proc.devRef .tc main_v36) : S6272.Idx → BitVec 32) (ix1 i) = BitVec.ofNat 32 (idOf V i.val) := by
  rw [ids_read, hp]
  refine (flat_ids _ i).trans ((Cert.Best2.index_eq (Cert.ReferenceIdeal.Hand.probs V) _ _ _ _).trans ?_)
  unfold idOf
  rw [dif_pos i.isLt]
  rfl

theorem gates_apply (hp : (after (hostOps1 (F := Ideal)) W (Proc.devRef .tc main_v32) : S16x196x6.Idx → EReal) = Cert.ReferenceIdeal.Hand.probs V) :
    (after (hostOps1 (F := Ideal)) W (Proc.devRef .tc main_v35) : S3136x2.Idx → EReal) = Cert.ReferenceIdeal.Hand.gateOf V := by
  rw [gates_read, hp]
  rfl

theorem rows_apply (hz : extractStridedSlice S16x196x768 ![0, 0, 0] (W (Proc.devRef .tc main_v15) : S16x224x768.Idx → EReal) slices_S16x224x768_S16x196x768_0_0_0 = (Cert.ReferenceIdeal.Value.res_main_v69 (F := Ideal) V : S16x196x768.Idx → EReal)) (t : Fin 3136) (e : Fin 768) :
    (after (hostOps1 (F := Ideal)) W (Proc.devRef .tc main_v33) : S3136x768.Idx → EReal) (ix2 t e) = Cert.ReferenceIdeal.Hand.row V t e := by
  rw [rows_read, hz]
  unfold Cert.ReferenceIdeal.Hand.row Cert.ReferenceIdeal.Value.res_main_v86
  rfl

end Cert.Join

end
-- ==== Proof.Math.Lines.lean ====
/- Running sums down the columns of a table of words, and picking one entry of each row. -/
module

public import Idealize.ShloMosaic.Lib.Routing.Ops
public import Idealize.ShloMosaic.Lib.Routing.OpsPair

@[expose] public section

noncomputable section

namespace Cert.Lines

open Idealize.ShloMosaic Idealize.ShloMosaic.Routing Idealize.ShloMosaic.ValueIdx

/-- A table of one column has as many places as rows. -/
theorem numel_col (N : ℕ) : (shape2 N 1).numel = N := by
  show ∏ a : Fin 2, (![N, 1] : Fin 2 → ℕ) a = N
  rw [Fin.prod_univ_two]
  exact Nat.mul_one N

theorem symm_col {N : ℕ} (n : Fin (shape2 N 1).numel) : (shape2 N 1).rowMajor.symm n = ix2 (n.cast (numel_col N)) (0 : Fin 1) :=
  ((shape2 N 1).rowMajor.symm_apply_eq).2 (Fin.ext (by
    rw [Shape.rowMajor_val_two]
    show n.val = n.val * 1 + 0
    omega))

/-- A window sum that reaches from the first row to the current one is the running sum of its column. -/
theorem running_sum {N P M : ℕ} (hN : P + 1 = N) (x : IVec (shape2 N M) 32) (f : ℕ → ℕ) (q : Fin M)
    (hx : ∀ i : Fin N, x (ix2 i q) = BitVec.ofNat 32 (f i.val)) (init : IVec shape0 32) (hinit : init ix0 = 0#32)
    (h : (shape2 N M).ReduceWindows (![N, 1] : Fin 2 → ℕ) ![1, 1] ![P, 0] ![0, 0] (shape2 N M)) (hu : 0 < shape0.numel) (j : Fin N) :
    Host.reduceWindow IntOp.addi ![N, 1] ![1, 1] ![P, 0] ![0, 0] x init h hu (ix2 j q)
      = BitVec.ofNat 32 ((List.range (j.val + 1)).map f).sum := by
  subst hN
  have hv : init (Shape.Idx.first hu) = BitVec.ofNat 32 0 := (congrArg init (eq_ix0 _)).trans hinit
  have hj := j.isLt
  unfold Host.reduceWindow
  refine (foldl_addi_ofNat _ _ (fun n => if P ≤ j.val + n.val then f (j.val + n.val - P) else 0) (fun n _ => ?_) _ 0 hv).trans ?_
  · have c0 : ((shape2 (P + 1) 1).rowMajor.symm n 0).val = n.val := by rw [symm_col]; rfl
    have c1 : ((shape2 (P + 1) 1).rowMajor.symm n 1).val = 0 := by rw [symm_col]; rfl
    have hn : n.val < P + 1 := (n.cast (numel_col _)).isLt
    dsimp only
    split
    · next hin =>
      have h0 : P ≤ j.val * 1 + ((shape2 (P + 1) 1).rowMajor.symm n 0).val := (hin 0).1
      rw [c0] at h0
      rw [if_pos (by omega)]
      refine (congrArg x (funext fun a => Fin.ext ?_)).trans (hx ⟨j.val + n.val - P, by omega⟩)
      match a with
      | ⟨0, _⟩ => exact (congrArg (fun k => j.val * 1 + k - P) c0).trans (by rw [Nat.mul_one])
      | ⟨1, _⟩ => exact (congrArg (fun k => q.val * 1 + k - 0) c1).trans (by show q.val * 1 + 0 - 0 = q.val; omega)
    · next hin =>
      rw [if_neg fun hle => hin fun a => by
        match a with
        | ⟨0, _⟩ =>
          show P ≤ j.val * 1 + ((shape2 (P + 1) 1).rowMajor.symm n 0).val
            ∧ j.val * 1 + ((shape2 (P + 1) 1).rowMajor.symm n 0).val - P < P + 1
          rw [c0]; omega
        | ⟨1, _⟩ =>
          show 0 ≤ q.val * 1 + ((shape2 (P + 1) 1).rowMajor.symm n 1).val
            ∧ q.val * 1 + ((shape2 (P + 1) 1).rowMajor.symm n 1).val - 0 < M
          rw [c1]
          have := q.isLt
          omega]
      exact hv
  · rw [Nat.zero_add, map_finRange_val _ (fun w => if P ≤ j.val + w then f (j.val + w - P) else 0)]
    exact congrArg (BitVec.ofNat 32) ((congrArg (fun K => ((List.range K).map fun w => if P ≤ j.val + w then f (j.val + w - P) else 0).sum)
      (numel_col (P + 1))).trans (sum_window f P j.val (by omega)))

/-- A sum of zeros and ones is a count. -/
theorem sum_ones (Q : ℕ → Prop) [DecidablePred Q] (n : ℕ) : ((List.range n).map fun i => if Q i then 1 else 0).sum = Nat.count Q n := by
  induction n with
  | zero => rfl
  | succ n ih => rw [List.range_succ, List.map_append, List.sum_append, ih, Nat.count_succ]; simp

end Cert.Lines

end
-- ==== Proof.Math.Sorted.lean ====
/- Sorting the picks by expert, on natural numbers: where each pick's row goes, that no two picks share a
row, that every row is in the padded table, and which expert a block of 256 rows belongs to. -/
module

public import Mathlib.Data.Nat.Count
public import Idealize.ShloMosaic.Lib.Routing.Count

@[expose] public section

namespace Cert.Sorted

open Idealize.ShloMosaic.Routing

variable (ids : ℕ → ℕ) (N : ℕ)

/-- How many of the `N` picks chose expert `e`. -/
def cnt (e : ℕ) : ℕ := Nat.count (fun j => ids j = e) N

/-- That number rounded up to whole blocks of 256 rows. -/
def padded (e : ℕ) : ℕ := (cnt ids N e + 255) / 256 * 256

/-- The first row of expert `e`. -/
def off (e : ℕ) : ℕ := ((List.range e).map (padded ids N)).sum

/-- How many earlier picks chose the expert of pick `i`. -/
def rank (i : ℕ) : ℕ := Nat.count (fun j => ids j = ids i) i

/-- The row of pick `i`. -/
def pos (i : ℕ) : ℕ := off ids N (ids i) + rank ids i

theorem off_succ (e : ℕ) : off ids N (e + 1) = off ids N e + padded ids N e := by
  simp [off, List.range_succ]

theorem off_mono {a b : ℕ} (h : a ≤ b) : off ids N a ≤ off ids N b := by
  induction b, h using Nat.le_induction with
  | base => exact le_rfl
  | succ b _ ih => rw [off_succ]; omega

theorem off_dvd (e : ℕ) : 256 ∣ off ids N e := by
  induction e with
  | zero => simp [off]
  | succ e ih => rw [off_succ]; exact (Nat.dvd_add ih (by unfold padded; exact Nat.dvd_mul_left _ _))

theorem cnt_le_padded (e : ℕ) : cnt ids N e ≤ padded ids N e := by
  unfold padded; omega

theorem padded_le (e : ℕ) : padded ids N e ≤ cnt ids N e + 255 := by
  unfold padded; omega

theorem rank_lt {i : ℕ} (hi : i < N) : rank ids i < cnt ids N (ids i) :=
  Nat.count_strict_mono (p := fun j => ids j = ids i) rfl hi

theorem pos_lt_off {i : ℕ} (hi : i < N) : pos ids N i < off ids N (ids i + 1) := by
  rw [off_succ, pos]
  have := rank_lt ids N hi
  have := cnt_le_padded ids N (ids i)
  omega

theorem off_le_pos (i : ℕ) : off ids N (ids i) ≤ pos ids N i := Nat.le_add_right _ _

theorem off_le_sum (e : ℕ) : off ids N e ≤ ((List.range e).map (cnt ids N)).sum + 255 * e := by
  induction e with
  | zero => simp [off]
  | succ e ih =>
    rw [off_succ, List.range_succ, List.map_append, List.sum_append]
    have := padded_le ids N e
    simp only [List.map_cons, List.map_nil, List.sum_cons, List.sum_nil]
    omega

theorem off_le (e : ℕ) : off ids N (e + 1) ≤ N + 255 * (e + 1) := by
  refine (off_le_sum ids N (e + 1)).trans (Nat.add_le_add_right ?_ _)
  have h := sum_count_eq ids e N
  unfold cnt
  rw [h]
  exact Nat.count_le _

/-- Every row is below the table's length. -/
theorem pos_lt {i E : ℕ} (hi : i < N) (hE : ids i < E) : pos ids N i < N + 255 * E := by
  refine (pos_lt_off ids N hi).trans_le ((off_mono ids N (show ids i + 1 ≤ (E - 1) + 1 by omega)).trans ?_)
  have := off_le ids N (E - 1)
  rw [show E - 1 + 1 = E by omega] at *
  exact this

/-- No two picks share a row. -/
theorem pos_inj {i j : ℕ} (hi : i < N) (hj : j < N) (h : pos ids N i = pos ids N j) : i = j := by
  have key : ∀ {a b : ℕ}, a < N → ids a < ids b → pos ids N a < pos ids N b := fun {a b} ha hab =>
    (pos_lt_off ids N ha).trans_le ((off_mono ids N hab).trans (off_le_pos ids N b))
  rcases lt_trichotomy (ids i) (ids j) with hl | he | hg
  · exact absurd h (key hi hl).ne
  · unfold pos at h
    rw [he] at h
    have hr : rank ids i = rank ids j := by omega
    unfold rank at hr
    rw [he] at hr
    exact Nat.count_injective (p := fun k => ids k = ids j) he rfl hr
  · exact absurd h (key hj hg).ne'

/-- Of the experts below `E`, the number whose rows end at or before the start of the pick's block is the pick's expert. -/
theorem block {i E : ℕ} (hi : i < N) (hE : ids i < E) :
    Nat.count (fun e => off ids N (e + 1) ≤ pos ids N i / 256 * 256) E = ids i := by
  have h1 := pos_lt_off ids N hi
  have h0 := off_le_pos ids N i
  obtain ⟨a, ha⟩ := off_dvd ids N (ids i)
  have hP : ∀ e, e < E → (off ids N (e + 1) ≤ pos ids N i / 256 * 256 ↔ e < ids i) := fun e _ => by
    constructor
    · intro h
      by_contra hc
      have := off_mono ids N (show ids i + 1 ≤ e + 1 by omega)
      omega
    · intro h
      have := off_mono ids N (show e + 1 ≤ ids i by omega)
      omega
  rw [count_congr_of_lt E hP]
  have hlt : ∀ n k : ℕ, Nat.count (fun e => e < k) n = min n k := fun n k => by
    induction n with
    | zero => simp
    | succ n ih => rw [Nat.count_succ, ih]; split <;> omega
  rw [hlt]
  omega

end Cert.Sorted
-- ==== Proof.Ideal.Route.lean ====
/- What the host operations between the two calls compute: for every pick (a token and one of its two experts)
   the row of the sorted table it goes to, the token and the gate each such row gets, and each block's expert.
   Every stretch of operations is read by itself, from any contents of the buffers before it. -/
module

public import proofs.«01_k».proof.Proof.Gen.KernelIdeal.Regions
public import proofs.«01_k».proof.Proof.Math.Words
public import proofs.«01_k».proof.Proof.Math.Lines
public import proofs.«01_k».proof.Proof.Math.Sorted
public import Idealize.ShloMosaic.Lib.Pointwise
public import Idealize.ShloMosaic.Lib.Routing.OpsSet
public import Idealize.ShloMosaic.Lib.StableHlo.Run
public import Idealize.ShloMosaic.Lib.StableHlo.ReadAt
public import Idealize.ShloMosaic.Lib.Tactic

@[expose] public section

set_option maxRecDepth 16384

noncomputable section

namespace Cert.Route

open Cert.KernelIdeal hiding ix1
open Cert.KernelIdeal.Gen
open Idealize.ShloMosaic Idealize.ShloMosaic.TcCoe Idealize.ShloMosaic.Tactic
open Idealize.ShloMosaic.StableHlo

variable (W : Valuation τ sig (Elt Ideal)) (ids : ℕ → ℕ)

theorem one_hot (h : ∀ i : Fin 6272, (after (hostOps1 (F := Ideal)) W (Proc.devRef .tc main_v36) : S6272.Idx → BitVec 32) (ix1 i) = BitVec.ofNat 32 (ids i.val))
    (h6 : ∀ i : Fin 6272, ids i.val < 6) (i : Fin 6272) (e : Fin 6) :
    (after (hostOps1 (F := Ideal)) W (Proc.devRef .tc main_v43) : S6272x6.Idx → BitVec 32) (ix2 i e) = BitVec.ofNat 32 (if ids i.val = e.val then 1 else 0) := by
  have hi := h i
  have e1 : (after (hostOps1 (F := Ideal)) W (Proc.devRef .tc main_v43) : S6272x6.Idx → BitVec 32) (ix2 i e)
      = (IntOp.cmpi .eq ((after (hostOps1 (F := Ideal)) W (Proc.devRef .tc main_v36) : S6272.Idx → BitVec 32) (ix1 i)) (BitVec.ofNat 32 e.val)).setWidth 32 := by
    after_reads_at
  rw [e1, hi, Cert.Words.eq_word _ _ (by have := h6 i; omega) (by omega)]
  by_cases hc : ids i.val = e.val <;> simp [hc]

theorem running (h : ∀ (i : Fin 6272) (e : Fin 6), (W (Proc.devRef .tc main_v43) : S6272x6.Idx → BitVec 32) (ix2 i e) = BitVec.ofNat 32 (if ids i.val = e.val then 1 else 0))
    (i : Fin 6272) (e : Fin 6) :
    (after (hostOps1_1 (F := Ideal)) W (Proc.devRef .tc main_v44) : S6272x6.Idx → BitVec 32) (ix2 i e) = BitVec.ofNat 32 (Nat.count (fun j => ids j = e.val) (i.val + 1)) := by
  after_reads_simp
  simp -implicitDefEqProofs only [StableHlo.TRef.toBuf, StableHlo.TRef.ofBuf, cast_cast, cast_eq]
  rw [ix2_eq_valueIdx]
  refine (Cert.Lines.running_sum (P := 6271) rfl _ (fun j => if ids j = e.val then 1 else 0) e (fun i => ?_) _ ?_ _ _ i).trans ?_
  · rw [← ix2_eq_valueIdx]; exact h i e
  · rfl
  · rw [Cert.Lines.sum_ones]

theorem column (i : Fin 6272) :
    (after (hostOps1_2 (F := Ideal)) W (Proc.devRef .tc main_v45) : S6272x1.Idx → BitVec 32) (ix2 i 0) = (W (Proc.devRef .tc main_v36) : S6272.Idx → BitVec 32) (ix1 i) := by
  after_reads_at

/-- Picking, in each row, the entry its index names. -/
theorem take_along (x : S6272x6.Idx → BitVec 32) (idx : IVec S6272x1x1 32) (i : Fin 6272) (e : Fin 6) (h : idx (ix3 i 0 0) = BitVec.ofNat 32 e.val) :
    Host.gather gather_S6272x6_S6272x1x1_S6272x1_n_1_0_0_1_2_11 x idx (ix2 i 0) = x (ix2 i e) := by
  unfold Host.gather
  refine congrArg x (funext fun a => Fin.ext ?_)
  have hsi : gather_S6272x6_S6272x1x1_S6272x1_n_1_0_0_1_2_11.siIdx (ix2 i 0) ⟨0, by decide⟩ = ix3 i 0 0 := by
    funext b
    match b with
    | ⟨0, _⟩ => rfl
    | ⟨1, _⟩ => rfl
    | ⟨2, _⟩ => rfl
  match a with
  | ⟨0, _⟩ =>
    show 0 + i.val + 0 = i.val
    omega
  | ⟨1, _⟩ =>
    show min (idx (gather_S6272x6_S6272x1x1_S6272x1_n_1_0_0_1_2_11.siIdx (ix2 i 0) ⟨0, by decide⟩)).toInt.toNat (6 - 1) + 0 + 0 = e.val
    rw [hsi, h, Cert.Words.toInt_small _ (by omega)]
    have := e.isLt
    simp
    omega

theorem picked (h : ∀ i : Fin 6272, (W (Proc.devRef .tc main_v45) : S6272x1.Idx → BitVec 32) (ix2 i 0) = BitVec.ofNat 32 (ids i.val))
    (h6 : ∀ i : Fin 6272, ids i.val < 6) (i : Fin 6272) :
    (after (hostOps1_3 (F := Ideal)) W (Proc.devRef .tc main_v46) : S6272x1.Idx → BitVec 32) (ix2 i 0) = (W (Proc.devRef .tc main_v44) : S6272x6.Idx → BitVec 32) (ix2 i ⟨ids i.val, h6 i⟩) := by
  after_reads_at
  have hi := h6 i
  rw [take_along _ _ i ⟨ids i.val, h6 i⟩ (by
    show Scalar.select (IntOp.cmpi .slt ((W (Proc.devRef .tc main_v45) : S6272x1.Idx → BitVec 32) (ix2 i 0)) 0#32) _ ((W (Proc.devRef .tc main_v45) : S6272x1.Idx → BitVec 32) (ix2 i 0)) = _
    rw [h, Cert.Words.keep _ (by omega)])]
  simp only [h, Cert.Words.keep (ids i.val) (by omega)]
  rw [show (5#32) = BitVec.ofNat 32 5 from rfl, Cert.Words.in_range _ 5 (by omega) (by omega)]
  rfl

theorem ranks (h : ∀ i : Fin 6272, (W (Proc.devRef .tc main_v46) : S6272x1.Idx → BitVec 32) (ix2 i 0) = BitVec.ofNat 32 (Nat.count (fun j => ids j = ids i.val) (i.val + 1)))
    (i : Fin 6272) :
    (after (hostOps1_4 (F := Ideal)) W (Proc.devRef .tc main_v49) : S6272.Idx → BitVec 32) (ix1 i) = BitVec.ofNat 32 (Cert.Sorted.rank ids i.val) := by
  after_reads_at
  rw [h, Nat.count_succ, if_pos rfl, show (1#32) = BitVec.ofNat 32 1 from rfl, Cert.Words.sub_word _ _ (by omega), Nat.add_sub_cancel]
  rfl

theorem counts (h : ∀ e : Fin 6, (W (Proc.devRef .tc main_v44) : S6272x6.Idx → BitVec 32) (ix2 6271 e) = BitVec.ofNat 32 (Cert.Sorted.cnt ids 6272 e.val)) (e : Fin 6) :
    (after (hostOps1_4 (F := Ideal)) W (Proc.devRef .tc main_v55) : S6.Idx → BitVec 32) (ix1 e) = BitVec.ofNat 32 (Cert.Sorted.cnt ids 6272 e.val + 255) := by
  after_reads_at
  rw [show (1#32) = BitVec.ofNat 32 1 from rfl, show (256#32) = BitVec.ofNat 32 256 from rfl]
  refine (congrArg (fun x => IntOp.subi (IntOp.addi x (BitVec.ofNat 32 256)) (BitVec.ofNat 32 1)) (h e)).trans ?_
  rw [Cert.Words.add_word, Cert.Words.sub_word _ _ (by omega)]
  rfl

theorem block_size : (after (hostOps1_4 (F := Ideal)) W (Proc.devRef .tc main_c_5) : S_.Idx → BitVec 32) = fun _ => 256#32 := by
  after_reads_simp
  rfl

theorem blocks (h : ∀ e : Fin 6, (W (Proc.devRef .tc main_v55) : S6.Idx → BitVec 32) (ix1 e) = BitVec.ofNat 32 (Cert.Sorted.cnt ids 6272 e.val + 255))
    (hc : (W (Proc.devRef .tc main_c_5) : S_.Idx → BitVec 32) = fun _ => 256#32) (e : Fin 6) :
    (after (hostOps1_5 (F := Ideal)) W (Proc.devRef .tc main_v56) : S6.Idx → BitVec 32) (ix1 e) = BitVec.ofNat 32 ((Cert.Sorted.cnt ids 6272 e.val + 255) / 256) := by
  after_reads_at
  simp only [h, hc, id]
  have : Nat.count (fun j => ids j = e.val) 6272 ≤ 6272 := Nat.count_le _
  exact Cert.Words.floor_div _ 256 (by unfold Cert.Sorted.cnt; omega) (by omega) (by omega)

theorem rounded (h : ∀ e : Fin 6, (W (Proc.devRef .tc main_v56) : S6.Idx → BitVec 32) (ix1 e) = BitVec.ofNat 32 ((Cert.Sorted.cnt ids 6272 e.val + 255) / 256)) (e : Fin 6) :
    (after (hostOps1_6 (F := Ideal)) W (Proc.devRef .tc main_v58) : S6.Idx → BitVec 32) (ix1 e) = BitVec.ofNat 32 (Cert.Sorted.padded ids 6272 e.val) := by
  after_reads_at
  rw [h, show (256#32) = BitVec.ofNat 32 256 from rfl, Cert.Words.mul_word]
  rfl

theorem zero_first : (after (hostOps1_6 (F := Ideal)) W (Proc.devRef .tc main_v59) : S1.Idx → BitVec 32) (ix1 0) = BitVec.ofNat 32 0 := by
  after_reads_at

theorem ends (h : ∀ e : Fin 6, (W (Proc.devRef .tc main_v58) : S6.Idx → BitVec 32) (ix1 e) = BitVec.ofNat 32 (Cert.Sorted.padded ids 6272 e.val)) (e : Fin 6) :
    (after (hostOps1_7 (F := Ideal)) W (Proc.devRef .tc main_v60) : S6.Idx → BitVec 32) (ix1 e) = BitVec.ofNat 32 (Cert.Sorted.off ids 6272 (e.val + 1)) := by
  after_reads_simp
  simp -implicitDefEqProofs only [StableHlo.TRef.toBuf, StableHlo.TRef.ofBuf, cast_cast, cast_eq]
  rw [ix1_eq_valueIdx]
  refine (Idealize.ShloMosaic.Routing.cumsum1 (Nm1 := 5) rfl _ (Cert.Sorted.padded ids 6272) (fun i => ?_) _ ?_ _ _ e).trans ?_
  · rw [← ix1_eq_valueIdx]; exact h i
  · rfl
  · rfl

end Cert.Route

end
-- ==== Proof.Ideal.Route2.lean ====
/- The sorted table between the two calls, from the counts: rows' tokens, gates and experts. -/
module

public import proofs.«01_k».proof.Proof.Ideal.Route
public import proofs.«01_k».proof.Proof.Math.Words
public import proofs.«01_k».proof.Proof.Math.Lines
public import proofs.«01_k».proof.Proof.Math.Sorted
public import Idealize.ShloMosaic.Lib.Pointwise
public import Idealize.ShloMosaic.Lib.Routing.OpsSet
public import Idealize.ShloMosaic.Lib.StableHlo.Run
public import Idealize.ShloMosaic.Lib.StableHlo.ReadAt
public import Idealize.ShloMosaic.Lib.Tactic

@[expose] public section

set_option maxRecDepth 16384

noncomputable section

namespace Cert.Route

open Cert.KernelIdeal hiding ix1
open Cert.KernelIdeal.Gen
open Idealize.ShloMosaic Idealize.ShloMosaic.TcCoe Idealize.ShloMosaic.Tactic
open Idealize.ShloMosaic.StableHlo

variable (W : Valuation τ sig (Elt Ideal)) (ids : ℕ → ℕ)

/-- The start of expert `e`'s rows, `e` from 0 to 6. -/
theorem starts (h0 : (W (Proc.devRef .tc main_v59) : S1.Idx → BitVec 32) (ix1 0) = BitVec.ofNat 32 0)
    (h : ∀ e : Fin 6, (W (Proc.devRef .tc main_v60) : S6.Idx → BitVec 32) (ix1 e) = BitVec.ofNat 32 (Cert.Sorted.off ids 6272 (e.val + 1))) (e : Fin 7) :
    (after (hostOps1_8 (F := Ideal)) W (Proc.devRef .tc main_v61) : S7.Idx → BitVec 32) (ix1 e) = BitVec.ofNat 32 (Cert.Sorted.off ids 6272 e.val) := by
  after_reads_at
  by_cases he : e.val < 1
  · rw [dif_pos he]
    obtain rfl : e = 0 := Fin.ext (by omega)
    exact h0
  · rw [dif_neg he, h ⟨e.val - 1, by omega⟩]
    congr 2
    show e.val - 1 + 1 = e.val
    omega

theorem positions (h : ∀ i : Fin 6272, (W (Proc.devRef .tc main_v36) : S6272.Idx → BitVec 32) (ix1 i) = BitVec.ofNat 32 (ids i.val))
    (h6 : ∀ i : Fin 6272, ids i.val < 6)
    (hr : ∀ i : Fin 6272, (W (Proc.devRef .tc main_v49) : S6272.Idx → BitVec 32) (ix1 i) = BitVec.ofNat 32 (Cert.Sorted.rank ids i.val))
    (hs : ∀ e : Fin 7, (after (hostOps1_8 (F := Ideal)) W (Proc.devRef .tc main_v61) : S7.Idx → BitVec 32) (ix1 e) = BitVec.ofNat 32 (Cert.Sorted.off ids 6272 e.val))
    (i : Fin 6272) :
    (after (hostOps1_8 (F := Ideal)) W (Proc.devRef .tc main_v69) : S6272.Idx → BitVec 32) (ix1 i) = BitVec.ofNat 32 (Cert.Sorted.pos ids 6272 i.val) := by
  have hi := h6 i
  have e1 : (after (hostOps1_8 (F := Ideal)) W (Proc.devRef .tc main_v69) : S6272.Idx → BitVec 32) (ix1 i)
      = IntOp.addi (Host.gather gather_S7_S6272x1_S6272_n_0_n_n_0_1_1 (after (hostOps1_8 (F := Ideal)) W (Proc.devRef .tc main_v61) : S7.Idx → BitVec 32)
          (broadcastInDim S6272x1 ![0] bcast_S6272_S6272x1_0
          (select
            (cmpi CmpIPredicate.slt (W (Proc.devRef .tc main_v36))
              (broadcastInDim S6272 ![] bcast_S_S6272 (constantI S_ 32 0#32)))
            (addi (W (Proc.devRef .tc main_v36)) (broadcastInDim S6272 ![] bcast_S_S6272 (constantI S_ 32 7#32)))
            (W (Proc.devRef .tc main_v36)))) (ix1 i)) ((W (Proc.devRef .tc main_v49) : S6272.Idx → BitVec 32) (ix1 i)) := by
    after_reads_simp
    rfl
  rw [e1, hr]
  rw [ix1_eq_valueIdx]
  rw [Idealize.ShloMosaic.Routing.gather_take1 gather_S7_S6272x1_S6272_n_0_n_n_0_1_1 rfl rfl rfl rfl _ _ i ⟨ids i.val, by omega⟩ ?_ (by omega)]
  · rw [← ix1_eq_valueIdx, hs, Cert.Words.add_word]
    rfl
  · rw [← ix2_eq_valueIdx]
    pointwise []
    rw [h, Cert.Words.keep _ (by omega)]

theorem pick_number (i : Fin 6272) : (after (hostOps1_8 (F := Ideal)) W (Proc.devRef .tc main_v70) : S6272.Idx → BitVec 32) (ix1 i) = BitVec.ofNat 32 i.val := by
  after_reads_at
theorem picks_per_token : (after (hostOps1_8 (F := Ideal)) W (Proc.devRef .tc main_c_10) : S_.Idx → BitVec 32) = fun _ => 2#32 := by
  after_reads_simp
  rfl

theorem tokens (h : ∀ i : Fin 6272, (W (Proc.devRef .tc main_v70) : S6272.Idx → BitVec 32) (ix1 i) = BitVec.ofNat 32 i.val)
    (hc : (W (Proc.devRef .tc main_c_10) : S_.Idx → BitVec 32) = fun _ => 2#32) (i : Fin 6272) :
    (after (hostOps1_9 (F := Ideal)) W (Proc.devRef .tc main_v71) : S6272.Idx → BitVec 32) (ix1 i) = BitVec.ofNat 32 (i.val / 2) := by
  after_reads_at
  simp only [h, hc, id]
  exact Cert.Words.floor_div _ 2 (by omega) (by omega) (by omega)

/-- An entry that one update lands on, and no other, is that update. -/
theorem set_at {α : Type} (x : S7936.Idx → α) (idx : IVec S6272x1 32) (u : S6272.Idx → α) (p : ℕ → ℕ)
    (hp : ∀ i : Fin 6272, idx (ix2 i 0) = BitVec.ofNat 32 (p i.val)) (hl : ∀ i : Fin 6272, p i.val < 7936)
    (hinj : ∀ i j : Fin 6272, p i.val = p j.val → i = j) (i : Fin 6272) :
    Host.scatter scatter_S7936_S6272x1_S6272_n_0_0_1 (fun _ b => b) x idx u (ix1 ⟨p i.val, hl i⟩) = u (ix1 i) := by
  have hk : ∀ j : Fin 6272, scatter_S7936_S6272x1_S6272_n_0_0_1.resultIdx? (ix1 j) idx = some (ix1 ⟨p i.val, hl i⟩) ↔ p j.val = p i.val := fun j => by
    rw [ix1_eq_valueIdx ⟨p i.val, hl i⟩, Idealize.ShloMosaic.Routing.resultIdx?_ix1]
    have hsi : scatter_S7936_S6272x1_S6272_n_0_0_1.siIdx (ix1 j) ⟨0, by decide⟩ = ix2 j 0 := by
      funext b
      match b with
      | ⟨0, _⟩ => rfl
      | ⟨1, _⟩ => rfl
    show (idx (scatter_S7936_S6272x1_S6272_n_0_0_1.siIdx (ix1 j) ⟨0, by decide⟩)).toInt + ((0 : ℕ) : Int) = ((p i.val : ℕ) : Int) ↔ _
    have := hl j
    rw [hsi, hp, Cert.Words.toInt_small _ (by omega)]
    omega
  have hx : ∀ k : S6272.Idx, k = ix1 (k 0) := fun k => by
    funext a
    match a with
    | ⟨0, _⟩ => rfl
  refine Idealize.ShloMosaic.Routing.scatter_set_hit _ x idx u _ _ (fun k hj => ?_) (ix1 i) ((hk i).mpr rfl)
  rw [hx k] at hj ⊢
  exact congrArg (fun q : Fin 6272 => u (ix1 q)) (hinj _ _ ((hk _).mp hj))

section tables

variable (p : ℕ → ℕ) (hp : ∀ i : Fin 6272, (W (Proc.devRef .tc main_v69) : S6272.Idx → BitVec 32) (ix1 i) = BitVec.ofNat 32 (p i.val))
  (hl : ∀ i : Fin 6272, p i.val < 7936) (hinj : ∀ i j : Fin 6272, p i.val = p j.val → i = j)

include hp hinj in
theorem row_token (ht : ∀ i : Fin 6272, (W (Proc.devRef .tc main_v71) : S6272.Idx → BitVec 32) (ix1 i) = BitVec.ofNat 32 (i.val / 2)) (i : Fin 6272) :
    (after (hostOps1_10 (F := Ideal)) W (Proc.devRef .tc main_v79) : S7936.Idx → BitVec 32) (ix1 ⟨p i.val, hl i⟩) = BitVec.ofNat 32 (i.val / 2) := by
  after_reads_simp
  refine (set_at _ _ _ p (fun i => ?_) hl hinj i).trans (ht i)
  have := hl i
  pointwise []
  rw [hp, Cert.Words.keep _ (by omega)]

include hp hinj in
theorem row_gate (i : Fin 6272) :
    (after (hostOps1_10 (F := Ideal)) W (Proc.devRef .tc main_v88) : S7936.Idx → EReal) (ix1 ⟨p i.val, hl i⟩)
      = (W (Proc.devRef .tc main_v35) : S3136x2.Idx → EReal) (ix2 ⟨i.val / 2, by omega⟩ ⟨i.val % 2, by omega⟩) := by
  after_reads_simp
  refine (set_at _ _ _ p (fun i => ?_) hl hinj i).trans ?_
  · have := hl i
    pointwise []
    rw [hp, Cert.Words.keep _ (by omega)]
  · pointwise []

end tables

theorem block_expert (h : ∀ e : Fin 7, (W (Proc.devRef .tc main_v61) : S7.Idx → BitVec 32) (ix1 e) = BitVec.ofNat 32 (Cert.Sorted.off ids 6272 e.val))
    (hs : Cert.Sorted.off ids 6272 6 < 2 ^ 31) (t : Fin 31) :
    (after (hostOps1_10 (F := Ideal)) W (Proc.devRef .tc main_v101) : S31.Idx → BitVec 32) (ix1 t)
      = BitVec.ofNat 32 (min (Nat.count (fun e => Cert.Sorted.off ids 6272 (e + 1) ≤ t.val * 256) 6) 5) := by
  after_reads_simp
  have hr : ∀ x : IVec S31x6 1, (∀ e : Fin 6, x (ValueIdx.ix2 t e) = 1#1 ↔ Cert.Sorted.off ids 6272 (e.val + 1) ≤ t.val * 256) →
      minsi (Host.reduce IntOp.addi (extui 32 x natLt_1_32) (constantI S_ 32 0#32) reducesTo_S31x6_S31_d1 h_S_)
        (broadcastInDim S31 ![] bcast_S_S31 (constantI S_ 32 5#32)) (ix1 t)
      = BitVec.ofNat 32 (min (Nat.count (fun e => Cert.Sorted.off ids 6272 (e + 1) ≤ t.val * 256) 6) 5) := fun x hx => by
    have hc := Nat.count_le (p := fun e => Cert.Sorted.off ids 6272 (e + 1) ≤ t.val * 256) (n := 6)
    rw [← Cert.Words.min_word _ _ (by omega) (by omega), ← Idealize.ShloMosaic.Routing.reduce_count (by omega) x natLt_1_32 reducesTo_S31x6_S31_d1 h_S_ t _ hx, ix1_eq_valueIdx]
    rfl
  refine hr _ fun e => ?_
  rw [← ix2_eq_valueIdx]
  pointwise []
  have hm := Cert.Sorted.off_mono ids 6272 (show 1 + e.val ≤ 6 by omega)
  have := t.isLt
  rw [h, show (256#32) = BitVec.ofNat 32 256 from rfl, Cert.Words.mul_word, Cert.Words.le_word _ _ (by show Cert.Sorted.off ids 6272 (1 + e.val) < _; omega) (by omega)]
  show BitVec.ofBool (decide (Cert.Sorted.off ids 6272 (1 + e.val) ≤ _)) = 1#1 ↔ _
  rw [Nat.add_comm 1 e.val]
  by_cases hc : Cert.Sorted.off ids 6272 (e.val + 1) ≤ t.val * 256 <;> simp [hc]

/-- The tokens with eight zero rows after them. -/
theorem table_row (k : Fin 3136) (d : Fin 768) :
    (after (hostOps1_10 (F := Ideal)) W (Proc.devRef .tc main_v103) : S3144x768.Idx → EReal) (ix2 ⟨k.val, by omega⟩ d)
      = (W (Proc.devRef .tc main_v33) : S3136x768.Idx → EReal) (ix2 k d) := by
  after_reads_at

/-- A row taken from the table by its number. -/
theorem take_row (x : S3144x768.Idx → EReal) (idx : IVec S7936x1 32) (p : Fin 7936) (k : Fin 3144) (d : Fin 768) (h : idx (ix2 p 0) = BitVec.ofNat 32 k.val) :
    Host.gather gather_S3144x768_S7936x1_S7936x768_1_0_n_n_0_1_1768 x idx (ix2 p d) = x (ix2 k d) := by
  rw [ix2_eq_valueIdx p d, ix2_eq_valueIdx k d]
  exact Idealize.ShloMosaic.Routing.gather_row gather_S3144x768_S7936x1_S7936x768_1_0_n_n_0_1_1768 rfl rfl rfl rfl rfl x idx p d k
    (by rw [← ix2_eq_valueIdx]; exact h) (by omega)

theorem taken (p : Fin 7936) (k : Fin 3136) (d : Fin 768) (h : (W (Proc.devRef .tc main_v79) : S7936.Idx → BitVec 32) (ix1 p) = BitVec.ofNat 32 k.val) :
    (after (hostOps1_11 (F := Ideal)) W (Proc.devRef .tc main_v104) : S7936x768.Idx → EReal) (ix2 p d)
      = (W (Proc.devRef .tc main_v103) : S3144x768.Idx → EReal) (ix2 ⟨k.val, by omega⟩ d) := by
  after_reads_at
  have hk := k.isLt
  rw [take_row _ _ p ⟨k.val, by omega⟩ d (by
    pointwise []
    rw [h, Cert.Words.keep _ (by omega)])]
  simp only [h, Cert.Words.keep k.val (by omega)]
  rw [show (3143#32) = BitVec.ofNat 32 3143 from rfl, Cert.Words.in_range _ 3143 (by omega) (by omega)]
  rfl

end Cert.Route

end
-- ==== Proof.Ideal.Route3.lean ====
/- What the second call is handed, and what its rows are picked back as. -/
module

public import proofs.«01_k».proof.Proof.Ideal.Route2
public import proofs.«01_k».proof.Proof.Math.Words
public import proofs.«01_k».proof.Proof.Math.Lines
public import proofs.«01_k».proof.Proof.Math.Sorted
public import Idealize.ShloMosaic.Lib.Pointwise
public import Idealize.ShloMosaic.Lib.Routing.OpsSet
public import Idealize.ShloMosaic.Lib.StableHlo.Run
public import Idealize.ShloMosaic.Lib.StableHlo.ReadAt
public import Idealize.ShloMosaic.Lib.Tactic

@[expose] public section

set_option maxRecDepth 16384

noncomputable section

namespace Cert.Route

open Cert.KernelIdeal hiding ix1
open Cert.KernelIdeal.Gen
open Idealize.ShloMosaic Idealize.ShloMosaic.TcCoe Idealize.ShloMosaic.Tactic
open Idealize.ShloMosaic.StableHlo

variable (W : Valuation τ sig (Elt Ideal))

theorem rows_in : (after (hostOps1_12 (F := Ideal)) W (Proc.devRef .tc main_v105) : S7936x768.Idx → EReal) = (W (Proc.devRef .tc main_v104) : S7936x768.Idx → EReal) := by
  after_reads_simp
  rfl
theorem w1_in : (after (hostOps1_12 (F := Ideal)) W (Proc.devRef .tc main_v106) : S6x3072x768.Idx → EReal) = (W (Proc.devRef .tc main_arg12) : S6x3072x768.Idx → EReal) := by
  after_reads_simp
  rfl
theorem b1_in (e : Fin 6) (k : Fin 3072) : (after (hostOps1_12 (F := Ideal)) W (Proc.devRef .tc main_v107) : S6x1x3072.Idx → EReal) (ix3 e 0 k) = (W (Proc.devRef .tc main_arg13) : S6x3072.Idx → EReal) (ix2 e k) := by
  after_reads_at
theorem w2_in : (after (hostOps1_12 (F := Ideal)) W (Proc.devRef .tc main_v108) : S6x768x3072.Idx → EReal) = (W (Proc.devRef .tc main_arg14) : S6x768x3072.Idx → EReal) := by
  after_reads_simp
  rfl
theorem b2_in (e : Fin 6) (k : Fin 768) : (after (hostOps1_12 (F := Ideal)) W (Proc.devRef .tc main_v109) : S6x1x768.Idx → EReal) (ix3 e 0 k) = (W (Proc.devRef .tc main_arg15) : S6x768.Idx → EReal) (ix2 e k) := by
  after_reads_at
theorem gates_in (p : Fin 7936) : (after (hostOps1_12 (F := Ideal)) W (Proc.devRef .tc main_v110) : S7936x1.Idx → EReal) (ix2 p 0) = (W (Proc.devRef .tc main_v88) : S7936.Idx → EReal) (ix1 p) := by
  after_reads_at

theorem pairs (t : Fin 3136) (q : Fin 2) : (after (hostOps2 (F := Ideal)) W (Proc.devRef .tc main_v112) : S3136x2.Idx → BitVec 32) (ix2 t q) = (W (Proc.devRef .tc main_v69) : S6272.Idx → BitVec 32) (ix1 ⟨t.val * 2 + q.val, by omega⟩) := by
  after_reads_at
theorem first_of (t : Fin 3136) : (after (hostOps2 (F := Ideal)) W (Proc.devRef .tc main_v114) : S3136.Idx → BitVec 32) (ix1 t) = (W (Proc.devRef .tc main_v69) : S6272.Idx → BitVec 32) (ix1 ⟨t.val * 2, by omega⟩) := by
  after_reads_at
theorem second_of (t : Fin 3136) : (after (hostOps2_2 (F := Ideal)) W (Proc.devRef .tc main_v117) : S3136.Idx → BitVec 32) (ix1 t) = (W (Proc.devRef .tc main_v112) : S3136x2.Idx → BitVec 32) (ix2 t 1) := by
  after_reads_at

/-- A row taken back from the table by its number. -/
theorem take_back (x : S7936x768.Idx → EReal) (idx : IVec S3136x1 32) (t : Fin 3136) (p : Fin 7936) (d : Fin 768) (h : idx (ix2 t 0) = BitVec.ofNat 32 p.val) :
    Host.gather gather_S7936x768_S3136x1_S3136x768_1_0_n_n_0_1_1768 x idx (ix2 t d) = x (ix2 p d) := by
  rw [ix2_eq_valueIdx t d, ix2_eq_valueIdx p d]
  exact Idealize.ShloMosaic.Routing.gather_row gather_S7936x768_S3136x1_S3136x768_1_0_n_n_0_1_1768 rfl rfl rfl rfl rfl x idx t d p
    (by rw [← ix2_eq_valueIdx]; exact h) (by omega)

theorem back_first (t : Fin 3136) (p : Fin 7936) (d : Fin 768) (h : (W (Proc.devRef .tc main_v114) : S3136.Idx → BitVec 32) (ix1 t) = BitVec.ofNat 32 p.val) :
    (after (hostOps2_1 (F := Ideal)) W (Proc.devRef .tc main_v115) : S3136x768.Idx → EReal) (ix2 t d) = (W (Proc.devRef .tc main_v111) : S7936x768.Idx → EReal) (ix2 p d) := by
  after_reads_at
  have hk := p.isLt
  rw [take_back _ _ t p d (by
    pointwise []
    rw [h, Cert.Words.keep _ (by omega)])]
  simp only [h, Cert.Words.keep p.val (by omega)]
  rw [show (7935#32) = BitVec.ofNat 32 7935 from rfl, Cert.Words.in_range _ 7935 (by omega) (by omega)]
  rfl

theorem back_second (t : Fin 3136) (p : Fin 7936) (d : Fin 768) (h : (W (Proc.devRef .tc main_v117) : S3136.Idx → BitVec 32) (ix1 t) = BitVec.ofNat 32 p.val) :
    (after (hostOps2_3 (F := Ideal)) W (Proc.devRef .tc main_v118) : S3136x768.Idx → EReal) (ix2 t d) = (W (Proc.devRef .tc main_v111) : S7936x768.Idx → EReal) (ix2 p d) := by
  after_reads_at
  have hk := p.isLt
  rw [take_back _ _ t p d (by
    pointwise []
    rw [h, Cert.Words.keep _ (by omega)])]
  simp only [h, Cert.Words.keep p.val (by omega)]
  rw [show (7935#32) = BitVec.ofNat 32 7935 from rfl, Cert.Words.in_range _ 7935 (by omega) (by omega)]
  rfl

end Cert.Route

end
-- ==== Proof.Join.Chain.lean ====
/- The routing's buffers through the run: where each pick's row lies, whose row it is, which expert serves it. -/
module

public import proofs.«01_k».proof.Proof.Ideal.Run
public import proofs.«01_k».proof.Proof.Ideal.Route3

@[expose] public section

set_option maxRecDepth 16384

noncomputable section

namespace Cert.Join

open Cert.KernelIdeal hiding ix1
open Cert.KernelIdeal.Gen Cert.KernelIdeal.Hand
open Idealize.ShloMosaic Idealize.ShloMosaic.TcCoe Idealize.ShloMosaic.Tactic
open Idealize.ShloMosaic.StableHlo

variable (m : (l : Loc nD τ sig) → Buf (Elt Ideal) l) (o : Outs (F := Ideal)) (c : Dev nD) (ids : ℕ → ℕ)

/-- The picks' words are the numbers `ids`. -/
def Picks : Prop := ∀ i : Fin 6272, (V5 m o c (Proc.devRef .tc main_v36) : S6272.Idx → BitVec 32) (ix1 i) = BitVec.ofNat 32 (ids i.val)

variable {m o c ids} (h : Picks m o c ids) (h6 : ∀ i : Fin 6272, ids i.val < 6)
include h h6

theorem v44_at (i : Fin 6272) (e : Fin 6) : (V6 m o c (Proc.devRef .tc main_v44) : S6272x6.Idx → BitVec 32) (ix2 i e) = BitVec.ofNat 32 (Nat.count (fun j => ids j = e.val) (i.val + 1)) :=
  Cert.Route.running (V5 m o c) ids (Cert.Route.one_hot (V4 m o c) ids h h6) i e

theorem v45_at (i : Fin 6272) : (V7 m o c (Proc.devRef .tc main_v45) : S6272x1.Idx → BitVec 32) (ix2 i 0) = BitVec.ofNat 32 (ids i.val) := by
  refine (Cert.Route.column (V6 m o c) i).trans ?_
  rw [V6_of m o c main_v36 (by decide)]
  exact h i

theorem v46_at (i : Fin 6272) : (V8 m o c (Proc.devRef .tc main_v46) : S6272x1.Idx → BitVec 32) (ix2 i 0) = BitVec.ofNat 32 (Nat.count (fun j => ids j = ids i.val) (i.val + 1)) := by
  refine (Cert.Route.picked (V7 m o c) ids (v45_at h h6) h6 i).trans ?_
  rw [V7_of m o c main_v44 (by decide)]
  exact v44_at h h6 i ⟨ids i.val, h6 i⟩

theorem v49_at (i : Fin 6272) : (V9 m o c (Proc.devRef .tc main_v49) : S6272.Idx → BitVec 32) (ix1 i) = BitVec.ofNat 32 (Cert.Sorted.rank ids i.val) :=
  Cert.Route.ranks (V8 m o c) ids (v46_at h h6) i

theorem v55_at (e : Fin 6) : (V9 m o c (Proc.devRef .tc main_v55) : S6.Idx → BitVec 32) (ix1 e) = BitVec.ofNat 32 (Cert.Sorted.cnt ids 6272 e.val + 255) := by
  refine Cert.Route.counts (V8 m o c) ids (fun e => ?_) e
  rw [V8_of m o c main_v44 (by decide), V7_of m o c main_v44 (by decide)]
  exact v44_at h h6 6271 e

theorem v58_at (e : Fin 6) : (V11 m o c (Proc.devRef .tc main_v58) : S6.Idx → BitVec 32) (ix1 e) = BitVec.ofNat 32 (Cert.Sorted.padded ids 6272 e.val) :=
  Cert.Route.rounded (V10 m o c) ids (Cert.Route.blocks (V9 m o c) ids (v55_at h h6) (Cert.Route.block_size (V8 m o c))) e

theorem v60_at (e : Fin 6) : (V12 m o c (Proc.devRef .tc main_v60) : S6.Idx → BitVec 32) (ix1 e) = BitVec.ofNat 32 (Cert.Sorted.off ids 6272 (e.val + 1)) :=
  Cert.Route.ends (V11 m o c) ids (v58_at h h6) e

theorem v61_at (e : Fin 7) : (V13 m o c (Proc.devRef .tc main_v61) : S7.Idx → BitVec 32) (ix1 e) = BitVec.ofNat 32 (Cert.Sorted.off ids 6272 e.val) := by
  refine Cert.Route.starts (V12 m o c) ids ?_ (v60_at h h6) e
  rw [V12_of m o c main_v59 (by decide)]
  exact Cert.Route.zero_first (V10 m o c)

theorem v69_at (i : Fin 6272) : (V13 m o c (Proc.devRef .tc main_v69) : S6272.Idx → BitVec 32) (ix1 i) = BitVec.ofNat 32 (Cert.Sorted.pos ids 6272 i.val) := by
  refine Cert.Route.positions (V12 m o c) ids (fun i => ?_) h6 (fun i => ?_) (v61_at h h6) i
  · rw [V12_of m o c main_v36 (by decide), V11_of m o c main_v36 (by decide), V10_of m o c main_v36 (by decide), V9_of m o c main_v36 (by decide), V8_of m o c main_v36 (by decide), V7_of m o c main_v36 (by decide), V6_of m o c main_v36 (by decide)]
    exact h i
  · rw [V12_of m o c main_v49 (by decide), V11_of m o c main_v49 (by decide), V10_of m o c main_v49 (by decide)]
    exact v49_at h h6 i

theorem pos_small (i : Fin 6272) : Cert.Sorted.pos ids 6272 i.val < 7936 :=
  (Cert.Sorted.pos_lt ids 6272 i.isLt (h6 i)).trans (by omega)

omit h h6 in
theorem v71_at (i : Fin 6272) : (V14 m o c (Proc.devRef .tc main_v71) : S6272.Idx → BitVec 32) (ix1 i) = BitVec.ofNat 32 (i.val / 2) :=
  Cert.Route.tokens (V13 m o c) (Cert.Route.pick_number (V12 m o c)) (Cert.Route.picks_per_token (V12 m o c)) i

theorem v69_at14 (i : Fin 6272) : (V14 m o c (Proc.devRef .tc main_v69) : S6272.Idx → BitVec 32) (ix1 i) = BitVec.ofNat 32 (Cert.Sorted.pos ids 6272 i.val) := by
  rw [V14_of m o c main_v69 (by decide)]
  exact v69_at h h6 i

theorem v79_at (i : Fin 6272) : (V15 m o c (Proc.devRef .tc main_v79) : S7936.Idx → BitVec 32) (ix1 ⟨Cert.Sorted.pos ids 6272 i.val, pos_small h h6 i⟩) = BitVec.ofNat 32 (i.val / 2) :=
  Cert.Route.row_token (V14 m o c) (Cert.Sorted.pos ids 6272) (v69_at14 h h6) (pos_small h h6)
    (fun i j e => Fin.ext (Cert.Sorted.pos_inj ids 6272 i.isLt j.isLt e)) v71_at i

theorem v88_at (i : Fin 6272) : (V17 m o c (Proc.devRef .tc main_v110) : S7936x1.Idx → EReal) (ix2 ⟨Cert.Sorted.pos ids 6272 i.val, pos_small h h6 i⟩ 0)
    = (V5 m o c (Proc.devRef .tc main_v35) : S3136x2.Idx → EReal) (ix2 ⟨i.val / 2, by omega⟩ ⟨i.val % 2, by omega⟩) := by
  refine (Cert.Route.gates_in (V16 m o c) _).trans ?_
  rw [V16_of m o c main_v88 (by decide)]
  refine (Cert.Route.row_gate (V14 m o c) (Cert.Sorted.pos ids 6272) (v69_at14 h h6) (pos_small h h6)
    (fun i j e => Fin.ext (Cert.Sorted.pos_inj ids 6272 i.isLt j.isLt e)) i).trans ?_
  rw [V14_of m o c main_v35 (by decide), V13_of m o c main_v35 (by decide), V12_of m o c main_v35 (by decide), V11_of m o c main_v35 (by decide), V10_of m o c main_v35 (by decide), V9_of m o c main_v35 (by decide), V8_of m o c main_v35 (by decide), V7_of m o c main_v35 (by decide), V6_of m o c main_v35 (by decide)]

theorem v101_at (t : Fin 31) : (V17 m o c (Proc.devRef .tc main_v101) : S31.Idx → BitVec 32) (ix1 t)
    = BitVec.ofNat 32 (min (Nat.count (fun e => Cert.Sorted.off ids 6272 (e + 1) ≤ t.val * 256) 6) 5) := by
  rw [V17_of m o c main_v101 (by decide), V16_of m o c main_v101 (by decide)]
  refine Cert.Route.block_expert (V14 m o c) ids (fun e => ?_) ?_ t
  · rw [V14_of m o c main_v61 (by decide)]
    exact v61_at h h6 e
  · have h5 : Cert.Sorted.off ids 6272 6 ≤ 6272 + 255 * (5 + 1) := Cert.Sorted.off_le ids 6272 5
    show Cert.Sorted.off ids 6272 6 < 2147483648
    omega

theorem v105_at (i : Fin 6272) (d : Fin 768) : (V17 m o c (Proc.devRef .tc main_v105) : S7936x768.Idx → EReal) (ix2 ⟨Cert.Sorted.pos ids 6272 i.val, pos_small h h6 i⟩ d)
    = (V5 m o c (Proc.devRef .tc main_v33) : S3136x768.Idx → EReal) (ix2 ⟨i.val / 2, by omega⟩ d) := by
  refine (congrFun (Cert.Route.rows_in (V16 m o c)) _).trans ?_
  refine (Cert.Route.taken (V15 m o c) _ ⟨i.val / 2, by omega⟩ d (v79_at h h6 i)).trans ?_
  refine (Cert.Route.table_row (V14 m o c) ⟨i.val / 2, by omega⟩ d).trans ?_
  rw [V14_of m o c main_v33 (by decide), V13_of m o c main_v33 (by decide), V12_of m o c main_v33 (by decide), V11_of m o c main_v33 (by decide), V10_of m o c main_v33 (by decide), V9_of m o c main_v33 (by decide), V8_of m o c main_v33 (by decide), V7_of m o c main_v33 (by decide), V6_of m o c main_v33 (by decide)]

theorem v69_at17 (i : Fin 6272) : (V17 m o c (Proc.devRef .tc main_v69) : S6272.Idx → BitVec 32) (ix1 i) = BitVec.ofNat 32 (Cert.Sorted.pos ids 6272 i.val) := by
  rw [V17_of m o c main_v69 (by decide), V16_of m o c main_v69 (by decide), V15_of m o c main_v69 (by decide)]
  exact v69_at14 h h6 i

end Cert.Join

end
-- ==== Proof.Ideal.MoePay.lean ====
/- What the experts' call computes: the network of the block's expert at each row, times the row's gate. -/
module

public import proofs.«01_k».proof.Proof.Ideal.MoeRegion
public import proofs.«01_k».proof.Proof.Math.Ffn
public import Idealize.ShloMosaic.Lib.Pointwise
public import Idealize.ShloMosaic.Lib.Pipeline.ValueKit

@[expose] public section

set_option maxRecDepth 16384

noncomputable section

namespace Cert.Moe

open Cert.KernelIdeal hiding ix1
open Cert.KernelIdeal.Gen Cert.KernelIdeal.Hand
open Idealize.ShloMosaic Idealize.ShloMosaic.TcCoe Idealize.ShloMosaic.Tactic

theorem pay_apply (x : FVec Ideal S256x768 .bf16) (w : FVec Ideal S1x3072x768 .bf16) (b : FVec Ideal S1x1x3072 .f32)
    (u : FVec Ideal S1x768x3072 .bf16) (a : FVec Ideal S1x1x768 .f32) (g : FVec Ideal S256x1 .f32) (r : Fin 256) (d : Fin 768) :
    k1_pay1 (F := Ideal) x w b u a g (ix2 r d) =
      ffn (fun e => x (ix2 r e)) (fun k e => w (ix3 0 k e)) (fun k => b (ix3 0 0 k)) (fun d k => u (ix3 0 d k)) (fun d => a (ix3 0 0 d)) d * g (ix2 r 0) := by
  have hs : (Named.named (F := Ideal) κ "sqrt2" (φ := .f32) 0x3FB504F3#32) = ((16777216 / 11863283 : ℝ) : EReal) := rfl
  pointwise [k1_pay1]
  simp only [hs, div_named]
  rfl

theorem word_toNat (n : Fin 6) : (BitVec.ofNat 32 n.val).toNat = n.val := by
  have := n.isLt
  rw [BitVec.toNat_ofNat]; omega

theorem out_apply (n : Fin 6) (hv : k1_chk1 (BitVec.ofNat 32 n.val)) (x0 : Vec Ideal S256x768 .bf16) (x1 : Vec Ideal S6x3072x768 .bf16) (x2 : Vec Ideal S6x1x3072 .f32)
    (x3 : Vec Ideal S6x768x3072 .bf16) (x4 : Vec Ideal S6x1x768 .f32) (x5 : Vec Ideal S256x1 .f32) (r : Fin 256) (d : Fin 768) :
    moeOut (F := Ideal) (BitVec.ofNat 32 n.val) hv x0 x1 x2 x3 x4 x5 (ix2 r d) =
      ffn (fun e => x0 (ix2 r e)) (fun k e => x1 (ix3 n k e)) (fun k => x2 (ix3 n 0 k)) (fun d k => x3 (ix3 n d k)) (fun d => x4 (ix3 n 0 d)) d * x5 (ix2 r 0) := by
  unfold moeOut
  rw [View.canon_cons_unit_lit (S := S256x768) _ _ [] (by decide), View.ld_unit_lit (S := S256x768) _ x0 (by decide), View.ld_unit_lit (S := S256x1) _ x5 (by decide)]
  refine (pay_apply _ _ _ _ _ _ r d).trans ?_
  have h := word_toNat n
  have e1 : ∀ k e, View.ld x1 (Rect.unit (s := S6x3072x768) (k1_off2 (BitVec.ofNat 32 n.val)) S1x3072x768.size (k1_off2_inb _ hv)) (ix3 0 k e) = x1 (ix3 n k e) := fun k e => by
    refine congrArg x1 (funext fun a => Fin.ext ?_)
    match a with
    | ⟨0, _⟩ => exact (congrArg (· + 1 * 0) h)
    | ⟨1, _⟩ => exact (Nat.zero_add _).trans (Nat.one_mul _)
    | ⟨2, _⟩ => exact (Nat.zero_add _).trans (Nat.one_mul _)
  have e2 : ∀ k, View.ld x2 (Rect.unit (s := S6x1x3072) (k1_off3 (BitVec.ofNat 32 n.val)) S1x1x3072.size (k1_off3_inb _ hv)) (ix3 0 0 k) = x2 (ix3 n 0 k) := fun k => by
    refine congrArg x2 (funext fun a => Fin.ext ?_)
    match a with
    | ⟨0, _⟩ => exact (congrArg (· + 1 * 0) h)
    | ⟨1, _⟩ => rfl
    | ⟨2, _⟩ => exact (Nat.zero_add _).trans (Nat.one_mul _)
  have e3 : ∀ k e, View.ld x3 (Rect.unit (s := S6x768x3072) (k1_off4 (BitVec.ofNat 32 n.val)) S1x768x3072.size (k1_off4_inb _ hv)) (ix3 0 k e) = x3 (ix3 n k e) := fun k e => by
    refine congrArg x3 (funext fun a => Fin.ext ?_)
    match a with
    | ⟨0, _⟩ => exact (congrArg (· + 1 * 0) h)
    | ⟨1, _⟩ => exact (Nat.zero_add _).trans (Nat.one_mul _)
    | ⟨2, _⟩ => exact (Nat.zero_add _).trans (Nat.one_mul _)
  have e4 : ∀ k, View.ld x4 (Rect.unit (s := S6x1x768) (k1_off5 (BitVec.ofNat 32 n.val)) S1x1x768.size (k1_off5_inb _ hv)) (ix3 0 0 k) = x4 (ix3 n 0 k) := fun k => by
    refine congrArg x4 (funext fun a => Fin.ext ?_)
    match a with
    | ⟨0, _⟩ => exact (congrArg (· + 1 * 0) h)
    | ⟨1, _⟩ => rfl
    | ⟨2, _⟩ => exact (Nat.zero_add _).trans (Nat.one_mul _)
  simp only [e1, e2, e3, e4]

theorem word_at (T : S31.Idx → BitVec 32) (t : Fin 31) : wordAt T (grid1.coords t) = T (Idealize.ShloMosaic.ix1 t) := by
  unfold wordAt
  refine congrArg T (funext fun a => ?_)
  match a with
  | ⟨0, _⟩ => exact Fin.ext ((by decide +kernel : ∀ t : Fin 31, k1_off1 (grid1.coords t) 0 + 1 * 0 = t.val) t)

theorem at0 (T : S31.Idx → BitVec 32) (t : Fin grid1.N) : ((pcfg1 (F := Ideal)).win (tblA T) 0).index t = ![t.val, 0] :=
  (by decide +kernel : ∀ t : Fin grid1.N, cc1_transform_0 (grid1.coords t) = ![t.val, 0]) t
theorem at1 (T : S31.Idx → BitVec 32) (t : Fin grid1.N) : ((pcfg1 (F := Ideal)).win (tblA T) 1).index t = ![0, 0, 0] :=
  (by decide +kernel : ∀ t : Fin grid1.N, cc1_transform_1 (grid1.coords t) = ![0, 0, 0]) t
theorem at2 (T : S31.Idx → BitVec 32) (t : Fin grid1.N) : ((pcfg1 (F := Ideal)).win (tblA T) 2).index t = ![0, 0, 0] :=
  (by decide +kernel : ∀ t : Fin grid1.N, cc1_transform_2 (grid1.coords t) = ![0, 0, 0]) t
theorem at3 (T : S31.Idx → BitVec 32) (t : Fin grid1.N) : ((pcfg1 (F := Ideal)).win (tblA T) 3).index t = ![0, 0, 0] :=
  (by decide +kernel : ∀ t : Fin grid1.N, cc1_transform_3 (grid1.coords t) = ![0, 0, 0]) t
theorem at4 (T : S31.Idx → BitVec 32) (t : Fin grid1.N) : ((pcfg1 (F := Ideal)).win (tblA T) 4).index t = ![0, 0, 0] :=
  (by decide +kernel : ∀ t : Fin grid1.N, cc1_transform_4 (grid1.coords t) = ![0, 0, 0]) t
theorem at5 (T : S31.Idx → BitVec 32) (t : Fin grid1.N) : ((pcfg1 (F := Ideal)).win (tblA T) 5).index t = ![t.val, 0] :=
  (by decide +kernel : ∀ t : Fin grid1.N, cc1_transform_5 (grid1.coords t) = ![t.val, 0]) t
theorem at6 (T : S31.Idx → BitVec 32) (t : Fin grid1.N) : ((pcfg1 (F := Ideal)).win (tblA T) 6).index t = ![t.val, 0] :=
  (by decide +kernel : ∀ t : Fin grid1.N, cc1_transform_6 (grid1.coords t) = ![t.val, 0]) t

theorem flush6 (T : S31.Idx → BitVec 32) (t : Fin grid1.N) : ((cfgT (F := Ideal) T).win 6).flush t = true :=
  (by decide +kernel : ∀ t : Fin grid1.N, Pipeline.Window.flushOf grid1 true cc1_transform_6 t = true) t

variable (V : (c : Dev nD) → (b : Ref sig .tc) → Buf (Elt Ideal) ((c : Thread nD τ).loc b)) (T : S31.Idx → BitVec 32) (hT : TblOk T)

/-- The network of the expert of each row's block, times the row's gate. -/
def endVal (ex : Fin 31 → Fin 6) (X : S7936x768.Idx → EReal) (W1 : S6x3072x768.Idx → EReal) (B1 : S6x1x3072.Idx → EReal) (W2 : S6x768x3072.Idx → EReal) (B2 : S6x1x768.Idx → EReal) (G : S7936x1.Idx → EReal) : S7936x768.Idx → EReal :=
  fun i : S7936x768.Idx =>
      ffn (fun e => X (ix2 (i 0) e)) (fun k e => W1 (ix3 (ex ⟨(i 0).val / 256, by have : (i 0).val < 7936 := (i 0).isLt; omega⟩) k e))
        (fun k => B1 (ix3 (ex ⟨(i 0).val / 256, by have : (i 0).val < 7936 := (i 0).isLt; omega⟩) 0 k)) (fun d k => W2 (ix3 (ex ⟨(i 0).val / 256, by have : (i 0).val < 7936 := (i 0).isLt; omega⟩) d k))
        (fun d => B2 (ix3 (ex ⟨(i 0).val / 256, by have : (i 0).val < 7936 := (i 0).isLt; omega⟩) 0 d)) (i 1) * G (ix2 (i 0) 0)

theorem lt_rows (t : Fin grid1.N) (r : Fin 256) : t.val * 256 + r.val < 7936 := by
  have ht : t.val < 31 := t.isLt
  omega

theorem off0 {a b n : ℕ} (h : a = 0) : a * n + b = b := by subst h; omega
theorem off1 {a b c n : ℕ} (h : a = b) : a * n + c = b * n + c := by rw [h]

theorem blk0 (c : Dev nD) (t : Fin grid1.N) (r : Fin 256) (e : Fin 768) : (blkIn1 V T c 0 t : S256x768.Idx → EReal) (ix2 r e) = (V c main_v105 : S7936x768.Idx → EReal) (ix2 ⟨t.val * 256 + r.val, lt_rows t r⟩ e) := by
  refine congrArg (V c main_v105 : S7936x768.Idx → EReal) ?_
  blk_ext []
  · exact off1 (congrFun (at0 T t) 0)
  · exact off0 (congrFun (at0 T t) 1)
theorem blk1 (c : Dev nD) (t : Fin grid1.N) : (blkIn1 V T c 1 t : S6x3072x768.Idx → EReal) = (V c main_v106 : S6x3072x768.Idx → EReal) := by
  funext y
  refine congrArg (V c main_v106 : S6x3072x768.Idx → EReal) ?_
  blk_ext []
  · exact off0 (congrFun (at1 T t) 0)
  · exact off0 (congrFun (at1 T t) 1)
  · exact off0 (congrFun (at1 T t) 2)
theorem blk2 (c : Dev nD) (t : Fin grid1.N) : (blkIn1 V T c 2 t : S6x1x3072.Idx → EReal) = (V c main_v107 : S6x1x3072.Idx → EReal) := by
  funext y
  refine congrArg (V c main_v107 : S6x1x3072.Idx → EReal) ?_
  blk_ext []
  · exact off0 (congrFun (at2 T t) 0)
  · exact congrFun (at2 T t) 1
  · exact off0 (congrFun (at2 T t) 2)
theorem blk3 (c : Dev nD) (t : Fin grid1.N) : (blkIn1 V T c 3 t : S6x768x3072.Idx → EReal) = (V c main_v108 : S6x768x3072.Idx → EReal) := by
  funext y
  refine congrArg (V c main_v108 : S6x768x3072.Idx → EReal) ?_
  blk_ext []
  · exact off0 (congrFun (at3 T t) 0)
  · exact off0 (congrFun (at3 T t) 1)
  · exact off0 (congrFun (at3 T t) 2)
theorem blk4 (c : Dev nD) (t : Fin grid1.N) : (blkIn1 V T c 4 t : S6x1x768.Idx → EReal) = (V c main_v109 : S6x1x768.Idx → EReal) := by
  funext y
  refine congrArg (V c main_v109 : S6x1x768.Idx → EReal) ?_
  blk_ext []
  · exact off0 (congrFun (at4 T t) 0)
  · exact congrFun (at4 T t) 1
  · exact off0 (congrFun (at4 T t) 2)
theorem blk5 (c : Dev nD) (t : Fin grid1.N) (r : Fin 256) (e : Fin 1) : (blkIn1 V T c 5 t : S256x1.Idx → EReal) (ix2 r e) = (V c main_v110 : S7936x1.Idx → EReal) (ix2 ⟨t.val * 256 + r.val, lt_rows t r⟩ e) := by
  refine congrArg (V c main_v110 : S7936x1.Idx → EReal) ?_
  blk_ext []
  · exact off1 (congrFun (at5 T t) 0)
  · exact congrFun (at5 T t) 1
theorem emb6 (t : Fin grid1.N) (r : Fin 256) (e : Fin 768) : ((((cfgT (F := Ideal) T).win 6).blk t).view.emb (ix2 r e : S256x768.Idx) : S7936x768.Idx) = ix2 ⟨t.val * 256 + r.val, lt_rows t r⟩ e := by
  blk_ext []
  · exact off1 (congrFun (at6 T t) 0)
  · exact off0 (congrFun (at6 T t) 1)

/-- The call's result at a row: the network of the expert its block's word names, times the gate. -/
theorem end_apply (c : Dev nD) (ex : Fin 31 → Fin 6) (hex : ∀ t, T (Idealize.ShloMosaic.ix1 t) = BitVec.ofNat 32 (ex t).val)
    (X : S7936x768.Idx → EReal) (W1 : S6x3072x768.Idx → EReal) (B1 : S6x1x3072.Idx → EReal) (W2 : S6x768x3072.Idx → EReal) (B2 : S6x1x768.Idx → EReal) (G : S7936x1.Idx → EReal)
    (h0 : V c main_v105 = X) (h1 : V c main_v106 = W1) (h2 : V c main_v107 = B1) (h3 : V c main_v108 = W2) (h4 : V c main_v109 = B2) (h5 : V c main_v110 = G) :
    (moeDat V T hT c).arrAt 6 (cfgT (F := Ideal) T).N = endVal ex X W1 B1 W2 B2 G := by
  subst h0 h1 h2 h3 h4 h5
  refine (moeDat V T hT c).arrAt_eq_of_emb 6 _ (fun t hf (y : S256x768.Idx) => ?_) (fun (i : S7936x768.Idx) => ?_)
  · have ht : t.val < 31 := t.isLt
    have hw : wordAt T (grid1.coords t) = BitVec.ofNat 32 (ex ⟨t.val, ht⟩).val := (word_at T ⟨t.val, ht⟩).trans (hex _)
    have key : ∀ (v : BitVec 32) (hv : k1_chk1 v), v = BitVec.ofNat 32 (ex ⟨t.val, ht⟩).val → ∀ x0 x1 x2 x3 x4 x5 r d,
        moeOut (F := Ideal) v hv x0 x1 x2 x3 x4 x5 (ix2 r d) = ffn (fun e => x0 (ix2 r e)) (fun k e => x1 (ix3 (ex ⟨t.val, ht⟩) k e)) (fun k => x2 (ix3 (ex ⟨t.val, ht⟩) 0 k))
          (fun d k => x3 (ix3 (ex ⟨t.val, ht⟩) d k)) (fun d => x4 (ix3 (ex ⟨t.val, ht⟩) 0 d)) d * x5 (ix2 r 0) := fun v hv h x0 x1 x2 x3 x4 x5 r d => by
      subst h
      exact out_apply _ hv x0 x1 x2 x3 x4 x5 r d
    have hy : y = ix2 (y 0) (y 1) := by
      funext a
      match a with
      | ⟨0, _⟩ => rfl
      | ⟨1, _⟩ => rfl
    obtain ⟨r, hr⟩ : ∃ r : Fin 256, y 0 = r := ⟨_, rfl⟩
    obtain ⟨d, hd⟩ : ∃ d : Fin 768, y 1 = d := ⟨_, rfl⟩
    rw [hr, hd] at hy
    subst hy
    show ((moeDat V T hT c).after 6 t : S256x768.Idx → EReal) (ix2 r d) = _
    refine Eq.trans ?_ (congrArg (endVal ex (V c main_v105) (V c main_v106) (V c main_v107) (V c main_v108) (V c main_v109) (V c main_v110)) (emb6 T t r d).symm)
    rw [leave1_6]
    refine (key _ _ hw _ _ _ _ _ _ r d).trans ?_
    rw [blk1, blk2, blk3, blk4, blk5]
    have hx : (⟨(t.val * 256 + r.val) / 256, by have := r.isLt; omega⟩ : Fin 31) = ⟨t.val, ht⟩ := Fin.ext (by
      show (_ * 256 + _) / 256 = t.val
      have : r.val < 256 := r.isLt
      omega)
    simp only [blk0]
    show _ = ffn _ (fun k e => (V c main_v106 : S6x3072x768.Idx → EReal) (ix3 (ex ⟨(t.val * 256 + r.val) / 256, _⟩) k e)) (fun k => (V c main_v107 : S6x1x3072.Idx → EReal) (ix3 (ex ⟨(t.val * 256 + r.val) / 256, _⟩) 0 k)) (fun d k => (V c main_v108 : S6x768x3072.Idx → EReal) (ix3 (ex ⟨(t.val * 256 + r.val) / 256, _⟩) d k)) (fun d => (V c main_v109 : S6x1x768.Idx → EReal) (ix3 (ex ⟨(t.val * 256 + r.val) / 256, _⟩) 0 d)) _ * _
    rw [hx]
    rfl
  · have hi : (i 0).val < 7936 := (i 0).isLt
    have ht : (i 0).val / 256 < 31 := by omega
    refine ⟨(⟨(i 0).val / 256, ht⟩ : Fin 31), flush6 T _, ?_⟩
    have hi1 : (i 1).val < 768 := (i 1).isLt
    have hm := (((cfgT (F := Ideal) T).win 6).blk (⟨(i 0).val / 256, ht⟩ : Fin 31)).view.emb_mem_set (ix2 ⟨(i 0).val % 256, Nat.mod_lt _ (by omega)⟩ ⟨(i 1).val, hi1⟩ : S256x768.Idx)
    have hi' : i = ix2 ⟨(i 0).val / 256 * 256 + (i 0).val % 256, by omega⟩ ⟨(i 1).val, hi1⟩ := by
      funext a
      match a with
      | ⟨0, _⟩ => exact Fin.ext (by show (i 0).val = (i 0).val / 256 * 256 + (i 0).val % 256; omega)
      | ⟨1, _⟩ => rfl
    have e : _ = i := (emb6 T (⟨(i 0).val / 256, ht⟩ : Fin 31) ⟨(i 0).val % 256, Nat.mod_lt _ (by omega)⟩ ⟨(i 1).val, hi1⟩).trans hi'.symm
    exact (congrArg (· ∈ (((cfgT (F := Ideal) T).win 6).blk (⟨(i 0).val / 256, ht⟩ : Fin 31)).view.set) e).mp hm

end Cert.Moe

end
-- ==== Proof.Join.Moe.lean ====
/- The second call's rows, taken back to their tokens and added, are the reference's mixture. -/
module

public import proofs.«01_k».proof.Proof.Join.Router
public import proofs.«01_k».proof.Proof.Join.Chain
public import proofs.«01_k».proof.Proof.Ideal.MoePay
public import proofs.«01_k».proof.Proof.Ref.Moe

@[expose] public section

set_option maxRecDepth 16384

noncomputable section

namespace Cert.Join

open Cert.KernelIdeal hiding ix1
open Cert.KernelIdeal.Gen Cert.KernelIdeal.Hand
open Idealize.ShloMosaic Idealize.ShloMosaic.TcCoe Idealize.ShloMosaic.Tactic
open Idealize.ShloMosaic.StableHlo
open Cert.ReferenceIdeal.Hand (pick gateOf row expert)

variable (m : (l : Loc nD τ sig) → Buf (Elt Ideal) l) (ids : ℕ → ℕ)

/-- The expert a block's rows are served by. -/
def exOf (t : Fin 31) : Fin 6 := ⟨min (Nat.count (fun e => Cert.Sorted.off ids 6272 (e + 1) ≤ t.val * 256) 6) 5, by omega⟩

theorem exOf_pos (h6 : ∀ i : Fin 6272, ids i.val < 6) (i : Fin 6272) (hb : Cert.Sorted.pos ids 6272 i.val / 256 < 31) :
    exOf ids ⟨Cert.Sorted.pos ids 6272 i.val / 256, hb⟩ = ⟨ids i.val, h6 i⟩ := by
  refine Fin.ext ?_
  show min (Nat.count (fun e => Cert.Sorted.off ids 6272 (e + 1) ≤ Cert.Sorted.pos ids 6272 i.val / 256 * 256) 6) 5 = ids i.val
  rw [Cert.Sorted.block ids 6272 i.isLt (h6 i)]
  have := h6 i
  omega

section args

variable (o : Outs (F := Ideal)) (c : Dev nD)

theorem arg12_at : (V16 m o c (Proc.devRef .tc main_arg12) : S6x3072x768.Idx → EReal) = V0 m c (Proc.devRef .tc main_arg12) := by
  rw [V16_of m o c main_arg12 (by decide), V15_of m o c main_arg12 (by decide), V14_of m o c main_arg12 (by decide), V13_of m o c main_arg12 (by decide), V12_of m o c main_arg12 (by decide), V11_of m o c main_arg12 (by decide), V10_of m o c main_arg12 (by decide), V9_of m o c main_arg12 (by decide), V8_of m o c main_arg12 (by decide), V7_of m o c main_arg12 (by decide), V6_of m o c main_arg12 (by decide), V5_of m o c main_arg12 (by decide), V4_of m o c main_arg12 (by decide), V3_of m c main_arg12 (by decide), V2_of m c main_arg12 (by decide), V1_of m c main_arg12 (by decide)]
theorem arg13_at : (V16 m o c (Proc.devRef .tc main_arg13) : S6x3072.Idx → EReal) = V0 m c (Proc.devRef .tc main_arg13) := by
  rw [V16_of m o c main_arg13 (by decide), V15_of m o c main_arg13 (by decide), V14_of m o c main_arg13 (by decide), V13_of m o c main_arg13 (by decide), V12_of m o c main_arg13 (by decide), V11_of m o c main_arg13 (by decide), V10_of m o c main_arg13 (by decide), V9_of m o c main_arg13 (by decide), V8_of m o c main_arg13 (by decide), V7_of m o c main_arg13 (by decide), V6_of m o c main_arg13 (by decide), V5_of m o c main_arg13 (by decide), V4_of m o c main_arg13 (by decide), V3_of m c main_arg13 (by decide), V2_of m c main_arg13 (by decide), V1_of m c main_arg13 (by decide)]
theorem arg14_at : (V16 m o c (Proc.devRef .tc main_arg14) : S6x768x3072.Idx → EReal) = V0 m c (Proc.devRef .tc main_arg14) := by
  rw [V16_of m o c main_arg14 (by decide), V15_of m o c main_arg14 (by decide), V14_of m o c main_arg14 (by decide), V13_of m o c main_arg14 (by decide), V12_of m o c main_arg14 (by decide), V11_of m o c main_arg14 (by decide), V10_of m o c main_arg14 (by decide), V9_of m o c main_arg14 (by decide), V8_of m o c main_arg14 (by decide), V7_of m o c main_arg14 (by decide), V6_of m o c main_arg14 (by decide), V5_of m o c main_arg14 (by decide), V4_of m o c main_arg14 (by decide), V3_of m c main_arg14 (by decide), V2_of m c main_arg14 (by decide), V1_of m c main_arg14 (by decide)]
theorem arg15_at : (V16 m o c (Proc.devRef .tc main_arg15) : S6x768.Idx → EReal) = V0 m c (Proc.devRef .tc main_arg15) := by
  rw [V16_of m o c main_arg15 (by decide), V15_of m o c main_arg15 (by decide), V14_of m o c main_arg15 (by decide), V13_of m o c main_arg15 (by decide), V12_of m o c main_arg15 (by decide), V11_of m o c main_arg15 (by decide), V10_of m o c main_arg15 (by decide), V9_of m o c main_arg15 (by decide), V8_of m o c main_arg15 (by decide), V7_of m o c main_arg15 (by decide), V6_of m o c main_arg15 (by decide), V5_of m o c main_arg15 (by decide), V4_of m o c main_arg15 (by decide), V3_of m c main_arg15 (by decide), V2_of m c main_arg15 (by decide), V1_of m c main_arg15 (by decide)]

end args

variable {m ids}

/-- The row of pick `i`, the pick `q` of token `t`, after the second call. -/
theorem moe_row (h : Picks m (outs0 m) 0 ids) (h6 : ∀ i : Fin 6272, ids i.val < 6) (i : Fin 6272) (d : Fin 768)
    (t : Fin 3136) (q : Fin 2) (n : Fin 6) (ht : i.val / 2 = t.val) (hq : i.val % 2 = q.val) (hn : ids i.val = n.val) :
    (moeEnd m 0 : S7936x768.Idx → EReal) (ix2 ⟨Cert.Sorted.pos ids 6272 i.val, pos_small h h6 i⟩ d)
      = Cert.Moe.ffn (fun e => (V5 m (outs0 m) 0 (Proc.devRef .tc main_v33) : S3136x768.Idx → EReal) (ix2 t e))
          (fun k e => (V0 m 0 (Proc.devRef .tc main_arg12) : S6x3072x768.Idx → EReal) (ix3 n k e))
          (fun k => (V0 m 0 (Proc.devRef .tc main_arg13) : S6x3072.Idx → EReal) (ix2 n k))
          (fun d k => (V0 m 0 (Proc.devRef .tc main_arg14) : S6x768x3072.Idx → EReal) (ix3 n d k))
          (fun d => (V0 m 0 (Proc.devRef .tc main_arg15) : S6x768.Idx → EReal) (ix2 n d)) d
        * (V5 m (outs0 m) 0 (Proc.devRef .tc main_v35) : S3136x2.Idx → EReal) (ix2 t q) := by
  obtain rfl : t = ⟨i.val / 2, by clear ht hq hn; omega⟩ := Fin.ext ht.symm
  obtain rfl : q = ⟨i.val % 2, by clear hq hn; omega⟩ := Fin.ext hq.symm
  obtain rfl : n = ⟨ids i.val, h6 i⟩ := Fin.ext hn.symm
  have he : (moeEnd m 0 : S7936x768.Idx → EReal) = Cert.Moe.endVal (exOf ids) _ _ _ _ _ _ :=
    Cert.Moe.end_apply (fun c b => V17 m (outs0 m) c b) (tbl m) (tbl_ok m) 0 (exOf ids) (fun t => v101_at h h6 t) _ _ _ _ _ _ rfl rfl rfl rfl rfl rfl
  have hb : Cert.Sorted.pos ids 6272 i.val / 256 < 31 := by have := pos_small h h6 i; omega
  have e12 : ∀ n k e, (V17 m (outs0 m) 0 (Proc.devRef .tc main_v106) : S6x3072x768.Idx → EReal) (ix3 n k e) = (V0 m 0 (Proc.devRef .tc main_arg12) : S6x3072x768.Idx → EReal) (ix3 n k e) := fun n k e =>
    (congrFun (Cert.Route.w1_in (V16 m (outs0 m) 0)) _).trans (congrFun (arg12_at m (outs0 m) 0) _)
  have e13 : ∀ n k, (V17 m (outs0 m) 0 (Proc.devRef .tc main_v107) : S6x1x3072.Idx → EReal) (ix3 n 0 k) = (V0 m 0 (Proc.devRef .tc main_arg13) : S6x3072.Idx → EReal) (ix2 n k) := fun n k =>
    (Cert.Route.b1_in (V16 m (outs0 m) 0) n k).trans (congrFun (arg13_at m (outs0 m) 0) _)
  have e14 : ∀ n d k, (V17 m (outs0 m) 0 (Proc.devRef .tc main_v108) : S6x768x3072.Idx → EReal) (ix3 n d k) = (V0 m 0 (Proc.devRef .tc main_arg14) : S6x768x3072.Idx → EReal) (ix3 n d k) := fun n d k =>
    (congrFun (Cert.Route.w2_in (V16 m (outs0 m) 0)) _).trans (congrFun (arg14_at m (outs0 m) 0) _)
  have e15 : ∀ n d, (V17 m (outs0 m) 0 (Proc.devRef .tc main_v109) : S6x1x768.Idx → EReal) (ix3 n 0 d) = (V0 m 0 (Proc.devRef .tc main_arg15) : S6x768.Idx → EReal) (ix2 n d) := fun n d =>
    (Cert.Route.b2_in (V16 m (outs0 m) 0) n d).trans (congrFun (arg15_at m (outs0 m) 0) _)
  rw [he]
  refine Eq.trans (b := Cert.Moe.ffn (fun e => (V17 m (outs0 m) 0 (Proc.devRef .tc main_v105) : S7936x768.Idx → EReal) (ix2 ⟨Cert.Sorted.pos ids 6272 i.val, pos_small h h6 i⟩ e))
      (fun k e => (V17 m (outs0 m) 0 (Proc.devRef .tc main_v106) : S6x3072x768.Idx → EReal) (ix3 (exOf ids ⟨Cert.Sorted.pos ids 6272 i.val / 256, hb⟩) k e))
      (fun k => (V17 m (outs0 m) 0 (Proc.devRef .tc main_v107) : S6x1x3072.Idx → EReal) (ix3 (exOf ids ⟨Cert.Sorted.pos ids 6272 i.val / 256, hb⟩) 0 k))
      (fun d k => (V17 m (outs0 m) 0 (Proc.devRef .tc main_v108) : S6x768x3072.Idx → EReal) (ix3 (exOf ids ⟨Cert.Sorted.pos ids 6272 i.val / 256, hb⟩) d k))
      (fun d => (V17 m (outs0 m) 0 (Proc.devRef .tc main_v109) : S6x1x768.Idx → EReal) (ix3 (exOf ids ⟨Cert.Sorted.pos ids 6272 i.val / 256, hb⟩) 0 d)) d
      * (V17 m (outs0 m) 0 (Proc.devRef .tc main_v110) : S7936x1.Idx → EReal) (ix2 ⟨Cert.Sorted.pos ids 6272 i.val, pos_small h h6 i⟩ 0)) rfl ?_
  rw [exOf_pos ids h6 i hb]
  simp only [e12, e13, e14, e15]
  rw [v88_at h h6 i]
  refine congrArg (fun f : Fin 768 → EReal => Cert.Moe.ffn f _ _ _ _ d * _) (funext fun e => ?_)
  exact v105_at h h6 i e

variable {V : Valuation Cert.ReferenceIdeal.τ Cert.ReferenceIdeal.sig (Elt Ideal)}

section token

variable (h : Picks m (outs0 m) 0 (idOf V)) (t : Fin 3136) (d : Fin 768)
  (hr : ∀ t e, (V5 m (outs0 m) 0 (Proc.devRef .tc main_v33) : S3136x768.Idx → EReal) (ix2 t e) = row V t e)
  (hg : (V5 m (outs0 m) 0 (Proc.devRef .tc main_v35) : S3136x2.Idx → EReal) = gateOf V)
  (a12 : (V0 m 0 (Proc.devRef .tc main_arg12) : S6x3072x768.Idx → EReal) = (V (Proc.devRef .tc Cert.ReferenceIdeal.main_arg12) : S6x3072x768.Idx → EReal))
  (a13 : (V0 m 0 (Proc.devRef .tc main_arg13) : S6x3072.Idx → EReal) = (V (Proc.devRef .tc Cert.ReferenceIdeal.main_arg13) : S6x3072.Idx → EReal))
  (a14 : (V0 m 0 (Proc.devRef .tc main_arg14) : S6x768x3072.Idx → EReal) = (V (Proc.devRef .tc Cert.ReferenceIdeal.main_arg14) : S6x768x3072.Idx → EReal))
  (a15 : (V0 m 0 (Proc.devRef .tc main_arg15) : S6x768.Idx → EReal) = (V (Proc.devRef .tc Cert.ReferenceIdeal.main_arg15) : S6x768.Idx → EReal))

theorem idOf_pick (q : Fin 2) : idOf V (t.val * 2 + q.val) = (pick V t q).val := by
  unfold idOf
  rw [dif_pos (by omega : t.val * 2 + q.val < 6272)]
  have h1 : (⟨(t.val * 2 + q.val) / 2, by omega⟩ : Fin 3136) = t := Fin.ext (by show (t.val * 2 + q.val) / 2 = t.val; omega)
  have h2 : (⟨(t.val * 2 + q.val) % 2, by omega⟩ : Fin 2) = q := Fin.ext (by show (t.val * 2 + q.val) % 2 = q.val; omega)
  rw [h1, h2]

include h hr hg a12 a13 a14 a15 in
/-- The row of pick `q` of token `t` is the picked expert's output on the token, times its gate. -/
theorem moe_pick (q : Fin 2) :
    (moeEnd m 0 : S7936x768.Idx → EReal) (ix2 ⟨Cert.Sorted.pos (idOf V) 6272 (t.val * 2 + q.val), pos_small h (idOf_lt V) ⟨t.val * 2 + q.val, by omega⟩⟩ d)
      = expert V (pick V t q) t d * gateOf V (ix2 t q) := by
  refine (moe_row h (idOf_lt V) ⟨t.val * 2 + q.val, by omega⟩ d t q (pick V t q) (by show (t.val * 2 + q.val) / 2 = t.val; omega) (by show (t.val * 2 + q.val) % 2 = q.val; omega) (idOf_pick t q)).trans ?_
  rw [a12, a13, a14, a15, hg, funext (hr t)]
  rfl

include h in
theorem v69_at18 (i : Fin 6272) : (V18 m (outs m) 0 (Proc.devRef .tc main_v69) : S6272.Idx → BitVec 32) (ix1 i) = BitVec.ofNat 32 (Cert.Sorted.pos (idOf V) 6272 i.val) := by
  rw [V18_of m (outs m) 0 main_v69 (by decide), V17_outs]
  exact v69_at17 h (idOf_lt V) i

theorem v111_at18 : (V18 m (outs m) 0 (Proc.devRef .tc main_v111) : S7936x768.Idx → EReal) = moeEnd m 0 := by
  show Function.update (V17 m (outs m) 0) (Proc.devRef .tc main_v111) (outs m 18 main_v111 0) (Proc.devRef .tc main_v111) = _
  rw [Function.update_self]
  exact outs_v111 m 0

include h hr hg a12 a13 a14 a15 in
theorem v115_at : (V22 m (outs m) 0 (Proc.devRef .tc main_v115) : S3136x768.Idx → EReal) (ix2 t d) = expert V (pick V t 0) t d * gateOf V (ix2 t 0) := by
  rw [V22_of m (outs m) 0 main_v115 (by decide), V21_of m (outs m) 0 main_v115 (by decide)]
  refine (Cert.Route.back_first (V19 m (outs m) 0) t ⟨Cert.Sorted.pos (idOf V) 6272 (t.val * 2 + (0 : Fin 2).val), pos_small h (idOf_lt V) ⟨t.val * 2 + (0 : Fin 2).val, by omega⟩⟩ d ?_).trans ?_
  · refine (Cert.Route.first_of (V18 m (outs m) 0) t).trans ?_
    exact v69_at18 h ⟨t.val * 2, by omega⟩
  · rw [V19_of m (outs m) 0 main_v111 (by decide), v111_at18]
    exact moe_pick h t d hr hg a12 a13 a14 a15 0

include h hr hg a12 a13 a14 a15 in
theorem v118_at : (V22 m (outs m) 0 (Proc.devRef .tc main_v118) : S3136x768.Idx → EReal) (ix2 t d) = expert V (pick V t 1) t d * gateOf V (ix2 t 1) := by
  refine (Cert.Route.back_second (V21 m (outs m) 0) t ⟨Cert.Sorted.pos (idOf V) 6272 (t.val * 2 + (1 : Fin 2).val), pos_small h (idOf_lt V) ⟨t.val * 2 + (1 : Fin 2).val, by omega⟩⟩ d ?_).trans ?_
  · refine (Cert.Route.second_of (V20 m (outs m) 0) t).trans ?_
    rw [V20_of m (outs m) 0 main_v112 (by decide)]
    refine (Cert.Route.pairs (V18 m (outs m) 0) t 1).trans ?_
    exact v69_at18 h ⟨t.val * 2 + (1 : Fin 2).val, by omega⟩
  · rw [V21_of m (outs m) 0 main_v111 (by decide), V20_of m (outs m) 0 main_v111 (by decide), V19_of m (outs m) 0 main_v111 (by decide), v111_at18]
    exact moe_pick h t d hr hg a12 a13 a14 a15 1

end token

/-- A flat array of token rows, read at a token's place in its image. -/
theorem flat_rows (x : FVec Ideal S3136x768 .f32) (b : Fin 16) (r : Fin 196) (d : Fin 768) :
    (shapeCast S16x196x768 x shapeCasts_S3136x768_S16x196x768) (ix3 b r d) = x (ix2 ⟨b.val * 196 + r.val, by omega⟩ d) := by
  pointwise []

/-- The sum of each token's two rows is the reference's mixture. -/
theorem moe_value (h : Picks m (outs0 m) 0 (idOf V))
    (hr : ∀ t e, (V5 m (outs0 m) 0 (Proc.devRef .tc main_v33) : S3136x768.Idx → EReal) (ix2 t e) = row V t e)
    (hg : (V5 m (outs0 m) 0 (Proc.devRef .tc main_v35) : S3136x2.Idx → EReal) = gateOf V)
    (a12 : (V0 m 0 (Proc.devRef .tc main_arg12) : S6x3072x768.Idx → EReal) = (V (Proc.devRef .tc Cert.ReferenceIdeal.main_arg12) : S6x3072x768.Idx → EReal))
    (a13 : (V0 m 0 (Proc.devRef .tc main_arg13) : S6x3072.Idx → EReal) = (V (Proc.devRef .tc Cert.ReferenceIdeal.main_arg13) : S6x3072.Idx → EReal))
    (a14 : (V0 m 0 (Proc.devRef .tc main_arg14) : S6x768x3072.Idx → EReal) = (V (Proc.devRef .tc Cert.ReferenceIdeal.main_arg14) : S6x768x3072.Idx → EReal))
    (a15 : (V0 m 0 (Proc.devRef .tc main_arg15) : S6x768.Idx → EReal) = (V (Proc.devRef .tc Cert.ReferenceIdeal.main_arg15) : S6x768.Idx → EReal)) :
    (shapeCast S16x196x768 (addf (F := Ideal) (φ := .f32) (V22 m (outs m) 0 (Proc.devRef .tc main_v115) : FVec Ideal S3136x768 .f32) (V22 m (outs m) 0 (Proc.devRef .tc main_v118) : FVec Ideal S3136x768 .f32)) shapeCasts_S3136x768_S16x196x768 : FVec Ideal S16x196x768 .f32)
      = (Cert.ReferenceIdeal.Value.res_main_v282 (F := Ideal) V : FVec Ideal S16x196x768 .f32) := by
  funext i
  obtain ⟨b, r, d, rfl⟩ : ∃ b r d, i = ix3 b r d := ⟨i 0, i 1, i 2, eq_ix3 i⟩
  refine (flat_rows _ b r d).trans (Eq.trans ?_ (Cert.ReferenceIdeal.Hand.v282_apply V b r d).symm)
  exact congrArg₂ (· + ·) (v115_at h _ d hr hg a12 a13 a14 a15) (v118_at h _ d hr hg a12 a13 a14 a15)

end Cert.Join

end
-- ==== Proof.Join.Tail.lean ====
/- The last stretch of host operations, which the two programs share. -/
module

public import proofs.«01_k».proof.Proof.Gen.KernelIdeal.Regions
public import proofs.«01_k».proof.Proof.Ref.Tail
public import Idealize.ShloMosaic.Lib.Pointwise
public import Idealize.ShloMosaic.Lib.StableHlo.Run
public import Idealize.ShloMosaic.Lib.StableHlo.ReadAt
public import Idealize.ShloMosaic.Lib.Tactic

@[expose] public section

set_option maxRecDepth 16384

noncomputable section

namespace Cert.Join

open Cert.KernelIdeal hiding ix1
open Cert.KernelIdeal.Gen
open Idealize.ShloMosaic Idealize.ShloMosaic.TcCoe Idealize.ShloMosaic.Tactic
open Idealize.ShloMosaic.StableHlo

variable (W : Valuation τ sig (Elt Ideal)) (V : Valuation Cert.ReferenceIdeal.τ Cert.ReferenceIdeal.sig (Elt Ideal))

/-- The result. -/
theorem tail (a16 : (W (Proc.devRef .tc main_arg16) : S768.Idx → EReal) = (V (Proc.devRef .tc Cert.ReferenceIdeal.main_arg16) : S768.Idx → EReal)) (a17 : (W (Proc.devRef .tc main_arg17) : S768.Idx → EReal) = (V (Proc.devRef .tc Cert.ReferenceIdeal.main_arg17) : S768.Idx → EReal)) (a18 : (W (Proc.devRef .tc main_arg18) : S1000x768.Idx → EReal) = (V (Proc.devRef .tc Cert.ReferenceIdeal.main_arg18) : S1000x768.Idx → EReal)) (a19 : (W (Proc.devRef .tc main_arg19) : S1000.Idx → EReal) = (V (Proc.devRef .tc Cert.ReferenceIdeal.main_arg19) : S1000.Idx → EReal)) (hz : (shapeCast S16x196x768 (addf (F := Ideal) (φ := .f32) (W (Proc.devRef .tc main_v115) : FVec Ideal S3136x768 .f32) (W (Proc.devRef .tc main_v118) : FVec Ideal S3136x768 .f32)) shapeCasts_S3136x768_S16x196x768 : FVec Ideal S16x196x768 .f32) = (Cert.ReferenceIdeal.Value.res_main_v282 (F := Ideal) V : FVec Ideal S16x196x768 .f32)) :
    (after (hostOps2_4 (F := Ideal)) W (Proc.devRef .tc main_v152) : S16x1000.Idx → EReal) = Cert.ReferenceIdeal.Hand.result V := by
  after_reads_simp
  try simp -implicitDefEqProofs only [StableHlo.TRef.toBuf, StableHlo.TRef.ofBuf, cast_cast, cast_eq]
  rw [a16, a17, a18, a19]
  have hz' : (fun i => shapeCast main_v120.ty.shape (addf (F := Ideal) (φ := .f32) (W (Proc.devRef .tc main_v115)) (W (Proc.devRef .tc main_v118))) shapeCasts_S3136x768_S16x196x768 i)
      = (Cert.ReferenceIdeal.Value.res_main_v282 (F := Ideal) V : FVec Ideal S16x196x768 .f32) := hz
  first
  | rw [hz']
  | erw [hz']
  unfold Cert.ReferenceIdeal.Hand.result Cert.ReferenceIdeal.Value.res_main_v288 Cert.ReferenceIdeal.Value.res_main_v286
  rfl

end Cert.Join

end
-- ==== Proof.Join.Value.lean ====
/- The whole program's result is the reference's. -/
module

public import proofs.«01_k».proof.Proof.Join.Attn
public import proofs.«01_k».proof.Proof.Join.Moe
public import proofs.«01_k».proof.Proof.Join.Tail

@[expose] public section

set_option maxRecDepth 16384

noncomputable section

namespace Cert.Join

open Cert.KernelIdeal hiding ix1
open Cert.KernelIdeal.Gen Cert.KernelIdeal.Hand
open Idealize.ShloMosaic Idealize.ShloMosaic.TcCoe Idealize.ShloMosaic.Tactic
open Idealize.ShloMosaic.StableHlo

/-- Of the same arguments, those of the attention finite, the kernel's last buffer holds the reference's result. -/
theorem value (m : (l : Loc nD τ sig) → Buf (Elt Ideal) l) (V : Valuation Cert.ReferenceIdeal.τ Cert.ReferenceIdeal.sig (Elt Ideal))
    (a0 : (V0 m 0 (Proc.devRef .tc main_arg0) : S16x3x224x224.Idx → EReal) = (V (Proc.devRef .tc Cert.ReferenceIdeal.main_arg0) : S16x3x224x224.Idx → EReal))
    (a1 : (V0 m 0 (Proc.devRef .tc main_arg1) : S768x3x16x16.Idx → EReal) = (V (Proc.devRef .tc Cert.ReferenceIdeal.main_arg1) : S768x3x16x16.Idx → EReal))
    (a2 : (V0 m 0 (Proc.devRef .tc main_arg2) : S768.Idx → EReal) = (V (Proc.devRef .tc Cert.ReferenceIdeal.main_arg2) : S768.Idx → EReal))
    (a3 : (V0 m 0 (Proc.devRef .tc main_arg3) : S1x196x768.Idx → EReal) = (V (Proc.devRef .tc Cert.ReferenceIdeal.main_arg3) : S1x196x768.Idx → EReal))
    (a4 : (V0 m 0 (Proc.devRef .tc main_arg4) : S768.Idx → EReal) = (V (Proc.devRef .tc Cert.ReferenceIdeal.main_arg4) : S768.Idx → EReal))
    (a5 : (V0 m 0 (Proc.devRef .tc main_arg5) : S768.Idx → EReal) = (V (Proc.devRef .tc Cert.ReferenceIdeal.main_arg5) : S768.Idx → EReal))
    (a6 : (V0 m 0 (Proc.devRef .tc main_arg6) : S2304x768.Idx → EReal) = (V (Proc.devRef .tc Cert.ReferenceIdeal.main_arg6) : S2304x768.Idx → EReal))
    (a7 : (V0 m 0 (Proc.devRef .tc main_arg7) : S2304.Idx → EReal) = (V (Proc.devRef .tc Cert.ReferenceIdeal.main_arg7) : S2304.Idx → EReal))
    (a8 : (V0 m 0 (Proc.devRef .tc main_arg8) : S768x768.Idx → EReal) = (V (Proc.devRef .tc Cert.ReferenceIdeal.main_arg8) : S768x768.Idx → EReal))
    (a9 : (V0 m 0 (Proc.devRef .tc main_arg9) : S768.Idx → EReal) = (V (Proc.devRef .tc Cert.ReferenceIdeal.main_arg9) : S768.Idx → EReal))
    (a10 : (V0 m 0 (Proc.devRef .tc main_arg10) : S6x768.Idx → EReal) = (V (Proc.devRef .tc Cert.ReferenceIdeal.main_arg10) : S6x768.Idx → EReal))
    (a11 : (V0 m 0 (Proc.devRef .tc main_arg11) : S6.Idx → EReal) = (V (Proc.devRef .tc Cert.ReferenceIdeal.main_arg11) : S6.Idx → EReal))
    (a12 : (V0 m 0 (Proc.devRef .tc main_arg12) : S6x3072x768.Idx → EReal) = (V (Proc.devRef .tc Cert.ReferenceIdeal.main_arg12) : S6x3072x768.Idx → EReal))
    (a13 : (V0 m 0 (Proc.devRef .tc main_arg13) : S6x3072.Idx → EReal) = (V (Proc.devRef .tc Cert.ReferenceIdeal.main_arg13) : S6x3072.Idx → EReal))
    (a14 : (V0 m 0 (Proc.devRef .tc main_arg14) : S6x768x3072.Idx → EReal) = (V (Proc.devRef .tc Cert.ReferenceIdeal.main_arg14) : S6x768x3072.Idx → EReal))
    (a15 : (V0 m 0 (Proc.devRef .tc main_arg15) : S6x768.Idx → EReal) = (V (Proc.devRef .tc Cert.ReferenceIdeal.main_arg15) : S6x768.Idx → EReal))
    (a16 : (V0 m 0 (Proc.devRef .tc main_arg16) : S768.Idx → EReal) = (V (Proc.devRef .tc Cert.ReferenceIdeal.main_arg16) : S768.Idx → EReal))
    (a17 : (V0 m 0 (Proc.devRef .tc main_arg17) : S768.Idx → EReal) = (V (Proc.devRef .tc Cert.ReferenceIdeal.main_arg17) : S768.Idx → EReal))
    (a18 : (V0 m 0 (Proc.devRef .tc main_arg18) : S1000x768.Idx → EReal) = (V (Proc.devRef .tc Cert.ReferenceIdeal.main_arg18) : S1000x768.Idx → EReal))
    (a19 : (V0 m 0 (Proc.devRef .tc main_arg19) : S1000.Idx → EReal) = (V (Proc.devRef .tc Cert.ReferenceIdeal.main_arg19) : S1000.Idx → EReal))
    (f0 : ∀ i, Cert.Attn.Fn ((V (Proc.devRef .tc Cert.ReferenceIdeal.main_arg0) : S16x3x224x224.Idx → EReal) i))
    (f1 : ∀ i, Cert.Attn.Fn ((V (Proc.devRef .tc Cert.ReferenceIdeal.main_arg1) : S768x3x16x16.Idx → EReal) i))
    (f2 : ∀ i, Cert.Attn.Fn ((V (Proc.devRef .tc Cert.ReferenceIdeal.main_arg2) : S768.Idx → EReal) i))
    (f3 : ∀ i, Cert.Attn.Fn ((V (Proc.devRef .tc Cert.ReferenceIdeal.main_arg3) : S1x196x768.Idx → EReal) i))
    (f4 : ∀ i, Cert.Attn.Fn ((V (Proc.devRef .tc Cert.ReferenceIdeal.main_arg4) : S768.Idx → EReal) i))
    (f5 : ∀ i, Cert.Attn.Fn ((V (Proc.devRef .tc Cert.ReferenceIdeal.main_arg5) : S768.Idx → EReal) i))
    (f6 : ∀ i, Cert.Attn.Fn ((V (Proc.devRef .tc Cert.ReferenceIdeal.main_arg6) : S2304x768.Idx → EReal) i))
    (f7 : ∀ i, Cert.Attn.Fn ((V (Proc.devRef .tc Cert.ReferenceIdeal.main_arg7) : S2304.Idx → EReal) i)) :
    (V23 m (outs m) 0 (Proc.devRef .tc main_v152) : S16x1000.Idx → EReal) = Cert.ReferenceIdeal.Hand.result V := by
  have hz := attn_value V m (outs0 m) 0 (outs0_v15 m 0) a0 a1 a2 a3 a4 a5 a6 a7 a8 a9 f0 f1 f2 f3 f4 f5 f6 f7
  have b10 : (V4 m (outs0 m) 0 (Proc.devRef .tc main_arg10) : S6x768.Idx → EReal) = (V (Proc.devRef .tc Cert.ReferenceIdeal.main_arg10) : S6x768.Idx → EReal) :=
    by rw [V4_of m (outs0 m) 0 main_arg10 (by decide), V3_of m 0 main_arg10 (by decide), V2_of m 0 main_arg10 (by decide), V1_of m 0 main_arg10 (by decide)]; exact a10
  have b11 : (V4 m (outs0 m) 0 (Proc.devRef .tc main_arg11) : S6.Idx → EReal) = (V (Proc.devRef .tc Cert.ReferenceIdeal.main_arg11) : S6.Idx → EReal) :=
    by rw [V4_of m (outs0 m) 0 main_arg11 (by decide), V3_of m 0 main_arg11 (by decide), V2_of m 0 main_arg11 (by decide), V1_of m 0 main_arg11 (by decide)]; exact a11
  have hp := probs (V4 m (outs0 m) 0) V b10 b11 hz
  have hm := moe_value (m := m) (V := V) (fun i => ids_apply (V4 m (outs0 m) 0) V hp i) (fun t e => rows_apply (V4 m (outs0 m) 0) V hz t e)
    (gates_apply (V4 m (outs0 m) 0) V hp) a12 a13 a14 a15
  have b16 : (V22 m (outs m) 0 (Proc.devRef .tc main_arg16) : S768.Idx → EReal) = (V (Proc.devRef .tc Cert.ReferenceIdeal.main_arg16) : S768.Idx → EReal) :=
    by rw [V22_of m (outs m) 0 main_arg16 (by decide), V21_of m (outs m) 0 main_arg16 (by decide), V20_of m (outs m) 0 main_arg16 (by decide), V19_of m (outs m) 0 main_arg16 (by decide), V18_of m (outs m) 0 main_arg16 (by decide), V17_of m (outs m) 0 main_arg16 (by decide), V16_of m (outs m) 0 main_arg16 (by decide), V15_of m (outs m) 0 main_arg16 (by decide), V14_of m (outs m) 0 main_arg16 (by decide), V13_of m (outs m) 0 main_arg16 (by decide), V12_of m (outs m) 0 main_arg16 (by decide), V11_of m (outs m) 0 main_arg16 (by decide), V10_of m (outs m) 0 main_arg16 (by decide), V9_of m (outs m) 0 main_arg16 (by decide), V8_of m (outs m) 0 main_arg16 (by decide), V7_of m (outs m) 0 main_arg16 (by decide), V6_of m (outs m) 0 main_arg16 (by decide), V5_of m (outs m) 0 main_arg16 (by decide), V4_of m (outs m) 0 main_arg16 (by decide), V3_of m 0 main_arg16 (by decide), V2_of m 0 main_arg16 (by decide), V1_of m 0 main_arg16 (by decide)]; exact a16
  have b17 : (V22 m (outs m) 0 (Proc.devRef .tc main_arg17) : S768.Idx → EReal) = (V (Proc.devRef .tc Cert.ReferenceIdeal.main_arg17) : S768.Idx → EReal) :=
    by rw [V22_of m (outs m) 0 main_arg17 (by decide), V21_of m (outs m) 0 main_arg17 (by decide), V20_of m (outs m) 0 main_arg17 (by decide), V19_of m (outs m) 0 main_arg17 (by decide), V18_of m (outs m) 0 main_arg17 (by decide), V17_of m (outs m) 0 main_arg17 (by decide), V16_of m (outs m) 0 main_arg17 (by decide), V15_of m (outs m) 0 main_arg17 (by decide), V14_of m (outs m) 0 main_arg17 (by decide), V13_of m (outs m) 0 main_arg17 (by decide), V12_of m (outs m) 0 main_arg17 (by decide), V11_of m (outs m) 0 main_arg17 (by decide), V10_of m (outs m) 0 main_arg17 (by decide), V9_of m (outs m) 0 main_arg17 (by decide), V8_of m (outs m) 0 main_arg17 (by decide), V7_of m (outs m) 0 main_arg17 (by decide), V6_of m (outs m) 0 main_arg17 (by decide), V5_of m (outs m) 0 main_arg17 (by decide), V4_of m (outs m) 0 main_arg17 (by decide), V3_of m 0 main_arg17 (by decide), V2_of m 0 main_arg17 (by decide), V1_of m 0 main_arg17 (by decide)]; exact a17
  have b18 : (V22 m (outs m) 0 (Proc.devRef .tc main_arg18) : S1000x768.Idx → EReal) = (V (Proc.devRef .tc Cert.ReferenceIdeal.main_arg18) : S1000x768.Idx → EReal) :=
    by rw [V22_of m (outs m) 0 main_arg18 (by decide), V21_of m (outs m) 0 main_arg18 (by decide), V20_of m (outs m) 0 main_arg18 (by decide), V19_of m (outs m) 0 main_arg18 (by decide), V18_of m (outs m) 0 main_arg18 (by decide), V17_of m (outs m) 0 main_arg18 (by decide), V16_of m (outs m) 0 main_arg18 (by decide), V15_of m (outs m) 0 main_arg18 (by decide), V14_of m (outs m) 0 main_arg18 (by decide), V13_of m (outs m) 0 main_arg18 (by decide), V12_of m (outs m) 0 main_arg18 (by decide), V11_of m (outs m) 0 main_arg18 (by decide), V10_of m (outs m) 0 main_arg18 (by decide), V9_of m (outs m) 0 main_arg18 (by decide), V8_of m (outs m) 0 main_arg18 (by decide), V7_of m (outs m) 0 main_arg18 (by decide), V6_of m (outs m) 0 main_arg18 (by decide), V5_of m (outs m) 0 main_arg18 (by decide), V4_of m (outs m) 0 main_arg18 (by decide), V3_of m 0 main_arg18 (by decide), V2_of m 0 main_arg18 (by decide), V1_of m 0 main_arg18 (by decide)]; exact a18
  have b19 : (V22 m (outs m) 0 (Proc.devRef .tc main_arg19) : S1000.Idx → EReal) = (V (Proc.devRef .tc Cert.ReferenceIdeal.main_arg19) : S1000.Idx → EReal) :=
    by rw [V22_of m (outs m) 0 main_arg19 (by decide), V21_of m (outs m) 0 main_arg19 (by decide), V20_of m (outs m) 0 main_arg19 (by decide), V19_of m (outs m) 0 main_arg19 (by decide), V18_of m (outs m) 0 main_arg19 (by decide), V17_of m (outs m) 0 main_arg19 (by decide), V16_of m (outs m) 0 main_arg19 (by decide), V15_of m (outs m) 0 main_arg19 (by decide), V14_of m (outs m) 0 main_arg19 (by decide), V13_of m (outs m) 0 main_arg19 (by decide), V12_of m (outs m) 0 main_arg19 (by decide), V11_of m (outs m) 0 main_arg19 (by decide), V10_of m (outs m) 0 main_arg19 (by decide), V9_of m (outs m) 0 main_arg19 (by decide), V8_of m (outs m) 0 main_arg19 (by decide), V7_of m (outs m) 0 main_arg19 (by decide), V6_of m (outs m) 0 main_arg19 (by decide), V5_of m (outs m) 0 main_arg19 (by decide), V4_of m (outs m) 0 main_arg19 (by decide), V3_of m 0 main_arg19 (by decide), V2_of m 0 main_arg19 (by decide), V1_of m 0 main_arg19 (by decide)]; exact a19
  exact tail (V22 m (outs m) 0) V b16 b17 b18 b19 hm

end Cert.Join

end
-- ==== Proof.Value.lean ====
/- The value claim: kernel and reference end with the same result. -/
module

public import proofs.«01_k».proof.Defs
public import proofs.«01_k».proof.Proof.Pre
public import proofs.«01_k».proof.Proof.RefRun
public import proofs.«01_k».proof.Proof.Join.Value

@[expose] public section

noncomputable section

namespace Cert.Proof

open Idealize.ShloMosaic Idealize.ShloMosaic.TcCoe Idealize.ShloMosaic.StableHlo Idealize.SL.Sem

/-- Of the same arguments, those the attention reads finite, the two programs end with the same result. -/
theorem algebraic : algebraic_KernelIdeal_ReferenceIdeal_pre_attention_finite (hKernelIdeal := Cert.KernelIdeal.Gen.facts) (hReferenceIdeal := Cert.ReferenceIdeal.Gen.facts)
    (hPre_attention_finite := preFacts) := by
  intro m g m' g' hpre ha
  refine ⟨fun c => Cert.KernelIdeal.Gen.V23 m (Cert.KernelIdeal.Hand.outs m) c (Proc.devRef .tc Cert.KernelIdeal.main_v152), ?_, ?_⟩
  · refine (θ_run _ _ _).mono (fun r h c => ?_) (Cert.KernelIdeal.Hand.run_values (F := Ideal) m g)
    obtain rfl : c = 0 := Subsingleton.elim _ _
    exact ⟨h.1 0 _ (Cert.KernelIdeal.Hand.mem_ucRefs Cert.KernelIdeal.main_v152 rfl),
      (h.1 0 _ (Cert.KernelIdeal.Hand.mem_ucRefs Cert.KernelIdeal.main_arg0 rfl)).trans (Cert.KernelIdeal.Gen.V23_main_arg0 m (Cert.KernelIdeal.Hand.outs m) 0),
      (h.1 0 _ (Cert.KernelIdeal.Hand.mem_ucRefs Cert.KernelIdeal.main_arg1 rfl)).trans (Cert.KernelIdeal.Gen.V23_main_arg1 m (Cert.KernelIdeal.Hand.outs m) 0),
      (h.1 0 _ (Cert.KernelIdeal.Hand.mem_ucRefs Cert.KernelIdeal.main_arg2 rfl)).trans (Cert.KernelIdeal.Gen.V23_main_arg2 m (Cert.KernelIdeal.Hand.outs m) 0),
      (h.1 0 _ (Cert.KernelIdeal.Hand.mem_ucRefs Cert.KernelIdeal.main_arg3 rfl)).trans (Cert.KernelIdeal.Gen.V23_main_arg3 m (Cert.KernelIdeal.Hand.outs m) 0),
      (h.1 0 _ (Cert.KernelIdeal.Hand.mem_ucRefs Cert.KernelIdeal.main_arg4 rfl)).trans (Cert.KernelIdeal.Gen.V23_main_arg4 m (Cert.KernelIdeal.Hand.outs m) 0),
      (h.1 0 _ (Cert.KernelIdeal.Hand.mem_ucRefs Cert.KernelIdeal.main_arg5 rfl)).trans (Cert.KernelIdeal.Gen.V23_main_arg5 m (Cert.KernelIdeal.Hand.outs m) 0),
      (h.1 0 _ (Cert.KernelIdeal.Hand.mem_ucRefs Cert.KernelIdeal.main_arg6 rfl)).trans (Cert.KernelIdeal.Gen.V23_main_arg6 m (Cert.KernelIdeal.Hand.outs m) 0),
      (h.1 0 _ (Cert.KernelIdeal.Hand.mem_ucRefs Cert.KernelIdeal.main_arg7 rfl)).trans (Cert.KernelIdeal.Gen.V23_main_arg7 m (Cert.KernelIdeal.Hand.outs m) 0),
      (h.1 0 _ (Cert.KernelIdeal.Hand.mem_ucRefs Cert.KernelIdeal.main_arg8 rfl)).trans (Cert.KernelIdeal.Gen.V23_main_arg8 m (Cert.KernelIdeal.Hand.outs m) 0),
      (h.1 0 _ (Cert.KernelIdeal.Hand.mem_ucRefs Cert.KernelIdeal.main_arg9 rfl)).trans (Cert.KernelIdeal.Gen.V23_main_arg9 m (Cert.KernelIdeal.Hand.outs m) 0),
      (h.1 0 _ (Cert.KernelIdeal.Hand.mem_ucRefs Cert.KernelIdeal.main_arg10 rfl)).trans (Cert.KernelIdeal.Gen.V23_main_arg10 m (Cert.KernelIdeal.Hand.outs m) 0),
      (h.1 0 _ (Cert.KernelIdeal.Hand.mem_ucRefs Cert.KernelIdeal.main_arg11 rfl)).trans (Cert.KernelIdeal.Gen.V23_main_arg11 m (Cert.KernelIdeal.Hand.outs m) 0),
      (h.1 0 _ (Cert.KernelIdeal.Hand.mem_ucRefs Cert.KernelIdeal.main_arg12 rfl)).trans (Cert.KernelIdeal.Gen.V23_main_arg12 m (Cert.KernelIdeal.Hand.outs m) 0),
      (h.1 0 _ (Cert.KernelIdeal.Hand.mem_ucRefs Cert.KernelIdeal.main_arg13 rfl)).trans (Cert.KernelIdeal.Gen.V23_main_arg13 m (Cert.KernelIdeal.Hand.outs m) 0),
      (h.1 0 _ (Cert.KernelIdeal.Hand.mem_ucRefs Cert.KernelIdeal.main_arg14 rfl)).trans (Cert.KernelIdeal.Gen.V23_main_arg14 m (Cert.KernelIdeal.Hand.outs m) 0),
      (h.1 0 _ (Cert.KernelIdeal.Hand.mem_ucRefs Cert.KernelIdeal.main_arg15 rfl)).trans (Cert.KernelIdeal.Gen.V23_main_arg15 m (Cert.KernelIdeal.Hand.outs m) 0),
      (h.1 0 _ (Cert.KernelIdeal.Hand.mem_ucRefs Cert.KernelIdeal.main_arg16 rfl)).trans (Cert.KernelIdeal.Gen.V23_main_arg16 m (Cert.KernelIdeal.Hand.outs m) 0),
      (h.1 0 _ (Cert.KernelIdeal.Hand.mem_ucRefs Cert.KernelIdeal.main_arg17 rfl)).trans (Cert.KernelIdeal.Gen.V23_main_arg17 m (Cert.KernelIdeal.Hand.outs m) 0),
      (h.1 0 _ (Cert.KernelIdeal.Hand.mem_ucRefs Cert.KernelIdeal.main_arg18 rfl)).trans (Cert.KernelIdeal.Gen.V23_main_arg18 m (Cert.KernelIdeal.Hand.outs m) 0),
      (h.1 0 _ (Cert.KernelIdeal.Hand.mem_ucRefs Cert.KernelIdeal.main_arg19 rfl)).trans (Cert.KernelIdeal.Gen.V23_main_arg19 m (Cert.KernelIdeal.Hand.outs m) 0)⟩
  · refine (θ_run _ _ _).mono (fun r h c => ⟨(h c).1.trans ?_, (h c).2⟩) (Cert.ReferenceIdeal.Hand.run_result m' g')
    obtain rfl : c = 0 := Subsingleton.elim _ _
    have hf := finite_of_pre m hpre 0
    have e := ha 0
    have a0 : (Cert.KernelIdeal.Gen.V0 m 0 (Proc.devRef .tc Cert.KernelIdeal.main_arg0) : Cert.KernelIdeal.S16x3x224x224.Idx → EReal) = (launchContents m' 0 (Proc.devRef .tc Cert.ReferenceIdeal.main_arg0) : Cert.KernelIdeal.S16x3x224x224.Idx → EReal) := e.1.symm
    have a1 : (Cert.KernelIdeal.Gen.V0 m 0 (Proc.devRef .tc Cert.KernelIdeal.main_arg1) : Cert.KernelIdeal.S768x3x16x16.Idx → EReal) = (launchContents m' 0 (Proc.devRef .tc Cert.ReferenceIdeal.main_arg1) : Cert.KernelIdeal.S768x3x16x16.Idx → EReal) := e.2.1.symm
    have a2 : (Cert.KernelIdeal.Gen.V0 m 0 (Proc.devRef .tc Cert.KernelIdeal.main_arg2) : Cert.KernelIdeal.S768.Idx → EReal) = (launchContents m' 0 (Proc.devRef .tc Cert.ReferenceIdeal.main_arg2) : Cert.KernelIdeal.S768.Idx → EReal) := e.2.2.1.symm
    have a3 : (Cert.KernelIdeal.Gen.V0 m 0 (Proc.devRef .tc Cert.KernelIdeal.main_arg3) : Cert.KernelIdeal.S1x196x768.Idx → EReal) = (launchContents m' 0 (Proc.devRef .tc Cert.ReferenceIdeal.main_arg3) : Cert.KernelIdeal.S1x196x768.Idx → EReal) := e.2.2.2.1.symm
    have a4 : (Cert.KernelIdeal.Gen.V0 m 0 (Proc.devRef .tc Cert.KernelIdeal.main_arg4) : Cert.KernelIdeal.S768.Idx → EReal) = (launchContents m' 0 (Proc.devRef .tc Cert.ReferenceIdeal.main_arg4) : Cert.KernelIdeal.S768.Idx → EReal) := e.2.2.2.2.1.symm
    have a5 : (Cert.KernelIdeal.Gen.V0 m 0 (Proc.devRef .tc Cert.KernelIdeal.main_arg5) : Cert.KernelIdeal.S768.Idx → EReal) = (launchContents m' 0 (Proc.devRef .tc Cert.ReferenceIdeal.main_arg5) : Cert.KernelIdeal.S768.Idx → EReal) := e.2.2.2.2.2.1.symm
    have a6 : (Cert.KernelIdeal.Gen.V0 m 0 (Proc.devRef .tc Cert.KernelIdeal.main_arg6) : Cert.KernelIdeal.S2304x768.Idx → EReal) = (launchContents m' 0 (Proc.devRef .tc Cert.ReferenceIdeal.main_arg6) : Cert.KernelIdeal.S2304x768.Idx → EReal) := e.2.2.2.2.2.2.1.symm
    have a7 : (Cert.KernelIdeal.Gen.V0 m 0 (Proc.devRef .tc Cert.KernelIdeal.main_arg7) : Cert.KernelIdeal.S2304.Idx → EReal) = (launchContents m' 0 (Proc.devRef .tc Cert.ReferenceIdeal.main_arg7) : Cert.KernelIdeal.S2304.Idx → EReal) := e.2.2.2.2.2.2.2.1.symm
    have a8 : (Cert.KernelIdeal.Gen.V0 m 0 (Proc.devRef .tc Cert.KernelIdeal.main_arg8) : Cert.KernelIdeal.S768x768.Idx → EReal) = (launchContents m' 0 (Proc.devRef .tc Cert.ReferenceIdeal.main_arg8) : Cert.KernelIdeal.S768x768.Idx → EReal) := e.2.2.2.2.2.2.2.2.1.symm
    have a9 : (Cert.KernelIdeal.Gen.V0 m 0 (Proc.devRef .tc Cert.KernelIdeal.main_arg9) : Cert.KernelIdeal.S768.Idx → EReal) = (launchContents m' 0 (Proc.devRef .tc Cert.ReferenceIdeal.main_arg9) : Cert.KernelIdeal.S768.Idx → EReal) := e.2.2.2.2.2.2.2.2.2.1.symm
    have a10 : (Cert.KernelIdeal.Gen.V0 m 0 (Proc.devRef .tc Cert.KernelIdeal.main_arg10) : Cert.KernelIdeal.S6x768.Idx → EReal) = (launchContents m' 0 (Proc.devRef .tc Cert.ReferenceIdeal.main_arg10) : Cert.KernelIdeal.S6x768.Idx → EReal) := e.2.2.2.2.2.2.2.2.2.2.1.symm
    have a11 : (Cert.KernelIdeal.Gen.V0 m 0 (Proc.devRef .tc Cert.KernelIdeal.main_arg11) : Cert.KernelIdeal.S6.Idx → EReal) = (launchContents m' 0 (Proc.devRef .tc Cert.ReferenceIdeal.main_arg11) : Cert.KernelIdeal.S6.Idx → EReal) := e.2.2.2.2.2.2.2.2.2.2.2.1.symm
    have a12 : (Cert.KernelIdeal.Gen.V0 m 0 (Proc.devRef .tc Cert.KernelIdeal.main_arg12) : Cert.KernelIdeal.S6x3072x768.Idx → EReal) = (launchContents m' 0 (Proc.devRef .tc Cert.ReferenceIdeal.main_arg12) : Cert.KernelIdeal.S6x3072x768.Idx → EReal) := e.2.2.2.2.2.2.2.2.2.2.2.2.1.symm
    have a13 : (Cert.KernelIdeal.Gen.V0 m 0 (Proc.devRef .tc Cert.KernelIdeal.main_arg13) : Cert.KernelIdeal.S6x3072.Idx → EReal) = (launchContents m' 0 (Proc.devRef .tc Cert.ReferenceIdeal.main_arg13) : Cert.KernelIdeal.S6x3072.Idx → EReal) := e.2.2.2.2.2.2.2.2.2.2.2.2.2.1.symm
    have a14 : (Cert.KernelIdeal.Gen.V0 m 0 (Proc.devRef .tc Cert.KernelIdeal.main_arg14) : Cert.KernelIdeal.S6x768x3072.Idx → EReal) = (launchContents m' 0 (Proc.devRef .tc Cert.ReferenceIdeal.main_arg14) : Cert.KernelIdeal.S6x768x3072.Idx → EReal) := e.2.2.2.2.2.2.2.2.2.2.2.2.2.2.1.symm
    have a15 : (Cert.KernelIdeal.Gen.V0 m 0 (Proc.devRef .tc Cert.KernelIdeal.main_arg15) : Cert.KernelIdeal.S6x768.Idx → EReal) = (launchContents m' 0 (Proc.devRef .tc Cert.ReferenceIdeal.main_arg15) : Cert.KernelIdeal.S6x768.Idx → EReal) := e.2.2.2.2.2.2.2.2.2.2.2.2.2.2.2.1.symm
    have a16 : (Cert.KernelIdeal.Gen.V0 m 0 (Proc.devRef .tc Cert.KernelIdeal.main_arg16) : Cert.KernelIdeal.S768.Idx → EReal) = (launchContents m' 0 (Proc.devRef .tc Cert.ReferenceIdeal.main_arg16) : Cert.KernelIdeal.S768.Idx → EReal) := e.2.2.2.2.2.2.2.2.2.2.2.2.2.2.2.2.1.symm
    have a17 : (Cert.KernelIdeal.Gen.V0 m 0 (Proc.devRef .tc Cert.KernelIdeal.main_arg17) : Cert.KernelIdeal.S768.Idx → EReal) = (launchContents m' 0 (Proc.devRef .tc Cert.ReferenceIdeal.main_arg17) : Cert.KernelIdeal.S768.Idx → EReal) := e.2.2.2.2.2.2.2.2.2.2.2.2.2.2.2.2.2.1.symm
    have a18 : (Cert.KernelIdeal.Gen.V0 m 0 (Proc.devRef .tc Cert.KernelIdeal.main_arg18) : Cert.KernelIdeal.S1000x768.Idx → EReal) = (launchContents m' 0 (Proc.devRef .tc Cert.ReferenceIdeal.main_arg18) : Cert.KernelIdeal.S1000x768.Idx → EReal) := e.2.2.2.2.2.2.2.2.2.2.2.2.2.2.2.2.2.2.1.symm
    have a19 : (Cert.KernelIdeal.Gen.V0 m 0 (Proc.devRef .tc Cert.KernelIdeal.main_arg19) : Cert.KernelIdeal.S1000.Idx → EReal) = (launchContents m' 0 (Proc.devRef .tc Cert.ReferenceIdeal.main_arg19) : Cert.KernelIdeal.S1000.Idx → EReal) := e.2.2.2.2.2.2.2.2.2.2.2.2.2.2.2.2.2.2.2.symm
    exact (Cert.Join.value m (launchContents m' 0) a0 a1 a2 a3 a4 a5 a6 a7 a8 a9 a10 a11 a12 a13 a14 a15 a16 a17 a18 a19
      (fun i => (congrArg Cert.Attn.Fn (congrFun a0 i)).mp (hf.1 i))
      (fun i => (congrArg Cert.Attn.Fn (congrFun a1 i)).mp (hf.2.1 i))
      (fun i => (congrArg Cert.Attn.Fn (congrFun a2 i)).mp (hf.2.2.1 i))
      (fun i => (congrArg Cert.Attn.Fn (congrFun a3 i)).mp (hf.2.2.2.1 i))
      (fun i => (congrArg Cert.Attn.Fn (congrFun a4 i)).mp (hf.2.2.2.2.1 i))
      (fun i => (congrArg Cert.Attn.Fn (congrFun a5 i)).mp (hf.2.2.2.2.2.1 i))
      (fun i => (congrArg Cert.Attn.Fn (congrFun a6 i)).mp (hf.2.2.2.2.2.2.1 i))
      (fun i => (congrArg Cert.Attn.Fn (congrFun a7 i)).mp (hf.2.2.2.2.2.2.2 i))).symm

end Cert.Proof

end
-- ==== Proof.lean ====
/- The proof of the certificate's claims: the three frames, the two constants the idealized kernel renames,
and the value claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Value
public import Idealize.ShloMosaic.Lib.Quiescent

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, preFacts,
  fun m g _ => frame_Kernel m g,
  fun m g _ => frame_KernelIdeal m g,
  fun m g _ => frame_KernelIdeal m g,
  fun m g _ => (θ_run _ _ _).mono (fun r h => ⟨fun c => (h c).2, sem_eq_zero_of_no_sems rfl _⟩) (Cert.ReferenceIdeal.Value.run (F := Ideal) m g),
  fun m g _ => (θ_run _ _ _).mono (fun r h => ⟨fun c => (h c).2, sem_eq_zero_of_no_sems rfl _⟩) (Cert.ReferenceIdeal.Value.run (F := Ideal) m g),
  ⟨IdealRules.named_const.statement Cert.KernelIdeal.κ "mask" .f32 0xF149F2CA#32 ⊥ rfl,
    IdealRules.named_const.statement Cert.KernelIdeal.κ "sqrt2" .f32 0x3FB504F3#32 ((16777216 / 11863283 : ℝ) : EReal) rfl⟩,
  algebraic⟩

end Cert.Proof

end
